-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_NormUp (m : (ℓ : Loc Cert.NormUp.nD Cert.NormUp.τ Cert.NormUp.sig) → Buf (Elt Bits) ℓ) : Prop :=
  True

def Pre_NormUpIdeal (m : (ℓ : Loc Cert.NormUpIdeal.nD Cert.NormUpIdeal.τ Cert.NormUpIdeal.sig) → Buf (Elt Ideal) ℓ) : Prop :=
  True

def Pre_NormUpReferenceIdeal (m : (ℓ : Loc Cert.NormUpReferenceIdeal.nD Cert.NormUpReferenceIdeal.τ Cert.NormUpReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_NormUp [hNormUp : Cert.NormUp.Facts] : Prop :=
  ∀ (m : (ℓ : Loc Cert.NormUp.nD Cert.NormUp.τ Cert.NormUp.sig) → Buf (Elt Bits) ℓ) (g : Dev Cert.NormUp.nD → PrngReg), Pre_NormUp m →
    θ_run (Cert.NormUp.defs (F := Bits)) (onTc (τ := Cert.NormUp.τ) (Cert.NormUp.main (F := Bits))) ⟨m, fun _ => 0, g⟩ (fun r => (∀ c : Dev Cert.NormUp.nD,
      r.2.mem ((c.tc : Thread Cert.NormUp.nD Cert.NormUp.τ).loc Cert.NormUp.main_arg0) = m ((c.tc : Thread Cert.NormUp.nD Cert.NormUp.τ).loc Cert.NormUp.main_arg0)
      ∧ r.2.mem ((c.tc : Thread Cert.NormUp.nD Cert.NormUp.τ).loc Cert.NormUp.main_arg1) = m ((c.tc : Thread Cert.NormUp.nD Cert.NormUp.τ).loc Cert.NormUp.main_arg1)
      ∧ r.2.mem ((c.tc : Thread Cert.NormUp.nD Cert.NormUp.τ).loc Cert.NormUp.main_arg2) = m ((c.tc : Thread Cert.NormUp.nD Cert.NormUp.τ).loc Cert.NormUp.main_arg2)
      ∧ r.2.mem ((c.tc : Thread Cert.NormUp.nD Cert.NormUp.τ).loc Cert.NormUp.main_arg3) = m ((c.tc : Thread Cert.NormUp.nD Cert.NormUp.τ).loc Cert.NormUp.main_arg3)
      ∧ r.2.mem ((c.tc : Thread Cert.NormUp.nD Cert.NormUp.τ).loc Cert.NormUp.main_arg4) = m ((c.tc : Thread Cert.NormUp.nD Cert.NormUp.τ).loc Cert.NormUp.main_arg4))
      ∧ r.2.sem = fun _ => 0)

def quiescent_NormUpIdeal [hNormUpIdeal : Cert.NormUpIdeal.Facts] : Prop :=
  ∀ (m : (ℓ : Loc Cert.NormUpIdeal.nD Cert.NormUpIdeal.τ Cert.NormUpIdeal.sig) → Buf (Elt Ideal) ℓ) (g : Dev Cert.NormUpIdeal.nD → PrngReg), Pre_NormUpIdeal m →
    θ_run (Cert.NormUpIdeal.defs (F := Ideal)) (onTc (τ := Cert.NormUpIdeal.τ) (Cert.NormUpIdeal.main (F := Ideal))) ⟨m, fun _ => 0, g⟩ (fun r => (∀ c : Dev Cert.NormUpIdeal.nD,
      r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
      ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
      ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2)
      ∧ r.2.mem ((c.tc : Thread Cert.NormUpIdeal.nD Cert.NormUpIdeal.τ).loc Cert.NormUpIdeal.main_arg3) = m ((c.tc : Thread Cert.NormUpIdeal.nD Cert.NormUpIdeal.τ).loc Cert.NormUpIdeal.main_arg3)
      ∧ r.2.mem ((c.tc : Thread Cert.NormUpIdeal.nD Cert.NormUpIdeal.τ).loc Cert.NormUpIdeal.main_arg4) = m ((c.tc : Thread Cert.NormUpIdeal.nD Cert.NormUpIdeal.τ).loc Cert.NormUpIdeal.main_arg4))
      ∧ r.2.sem = fun _ => 0)

def quiescent_NormUpReferenceIdeal [hNormUpReferenceIdeal : Cert.NormUpReferenceIdeal.Facts] : Prop :=
  ∀ (m : (ℓ : Loc Cert.NormUpReferenceIdeal.nD Cert.NormUpReferenceIdeal.τ Cert.NormUpReferenceIdeal.sig) → Buf (Elt Ideal) ℓ) (g : Dev Cert.NormUpReferenceIdeal.nD → PrngReg), Pre_NormUpReferenceIdeal m →
    θ_run (Cert.NormUpReferenceIdeal.defs (F := Ideal)) (onTc (τ := Cert.NormUpReferenceIdeal.τ) (Cert.NormUpReferenceIdeal.main (F := Ideal))) ⟨m, fun _ => 0, g⟩ (fun r => (∀ c : Dev Cert.NormUpReferenceIdeal.nD,
      r.2.mem ((c.tc : Thread Cert.NormUpReferenceIdeal.nD Cert.NormUpReferenceIdeal.τ).loc Cert.NormUpReferenceIdeal.main_arg0) = m ((c.tc : Thread Cert.NormUpReferenceIdeal.nD Cert.NormUpReferenceIdeal.τ).loc Cert.NormUpReferenceIdeal.main_arg0)
      ∧ r.2.mem ((c.tc : Thread Cert.NormUpReferenceIdeal.nD Cert.NormUpReferenceIdeal.τ).loc Cert.NormUpReferenceIdeal.main_arg1) = m ((c.tc : Thread Cert.NormUpReferenceIdeal.nD Cert.NormUpReferenceIdeal.τ).loc Cert.NormUpReferenceIdeal.main_arg1)
      ∧ r.2.mem ((c.tc : Thread Cert.NormUpReferenceIdeal.nD Cert.NormUpReferenceIdeal.τ).loc Cert.NormUpReferenceIdeal.main_arg2) = m ((c.tc : Thread Cert.NormUpReferenceIdeal.nD Cert.NormUpReferenceIdeal.τ).loc Cert.NormUpReferenceIdeal.main_arg2)
      ∧ r.2.mem ((c.tc : Thread Cert.NormUpReferenceIdeal.nD Cert.NormUpReferenceIdeal.τ).loc Cert.NormUpReferenceIdeal.main_arg3) = m ((c.tc : Thread Cert.NormUpReferenceIdeal.nD Cert.NormUpReferenceIdeal.τ).loc Cert.NormUpReferenceIdeal.main_arg3)
      ∧ r.2.mem ((c.tc : Thread Cert.NormUpReferenceIdeal.nD Cert.NormUpReferenceIdeal.τ).loc Cert.NormUpReferenceIdeal.main_arg4) = m ((c.tc : Thread Cert.NormUpReferenceIdeal.nD Cert.NormUpReferenceIdeal.τ).loc Cert.NormUpReferenceIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12))
      ∧ r.2.sem = fun _ => 0)

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)) (v3 : (c : Dev Cert.MixIdeal.nD) → Buf (Elt Ideal) ((c.tc : Thread Cert.MixIdeal.nD Cert.MixIdeal.τ).loc Cert.MixIdeal.main_v2_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_v2_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v32) = v0 c
          ∧ r.2.mem ((c.tc : Thread Cert.MixReferenceIdeal.nD Cert.MixReferenceIdeal.τ).loc Cert.MixReferenceIdeal.main_v33) = v1 c
          ∧ r.2.mem ((c.tc : Thread Cert.MixReferenceIdeal.nD Cert.MixReferenceIdeal.τ).loc Cert.MixReferenceIdeal.main_v34) = v2 c
          ∧ r.2.mem ((c.tc : Thread Cert.MixReferenceIdeal.nD Cert.MixReferenceIdeal.τ).loc Cert.MixReferenceIdeal.main_v35) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)
      ∧ m' ((c.tc : Thread Cert.NormInReferenceIdeal.nD Cert.NormInReferenceIdeal.τ).loc Cert.NormInReferenceIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v3_0)) (v1 : (c : Dev Cert.NormInIdeal.nD) → Buf (Elt Ideal) ((c.tc : Thread Cert.NormInIdeal.nD Cert.NormInIdeal.τ).loc Cert.NormInIdeal.main_v3_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v3_0) = v0 c
          ∧ r.2.mem ((c.tc : Thread Cert.NormInIdeal.nD Cert.NormInIdeal.τ).loc Cert.NormInIdeal.main_v3_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v40) = v0 c
          ∧ r.2.mem ((c.tc : Thread Cert.NormInReferenceIdeal.nD Cert.NormInReferenceIdeal.τ).loc Cert.NormInReferenceIdeal.main_v41) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3)
          ∧ r.2.mem ((c.tc : Thread Cert.NormInReferenceIdeal.nD Cert.NormInReferenceIdeal.τ).loc Cert.NormInReferenceIdeal.main_arg4) = m' ((c.tc : Thread Cert.NormInReferenceIdeal.nD Cert.NormInReferenceIdeal.τ).loc Cert.NormInReferenceIdeal.main_arg4))

def preserves_NormUp_NormUpIdeal : Prop :=
  True

def algebraic_NormUpIdeal_NormUpReferenceIdeal [hNormUpIdeal : Cert.NormUpIdeal.Facts] [hNormUpReferenceIdeal : Cert.NormUpReferenceIdeal.Facts] : Prop :=
  ∀ (m : (ℓ : Loc Cert.NormUpIdeal.nD Cert.NormUpIdeal.τ Cert.NormUpIdeal.sig) → Buf (Elt Ideal) ℓ) (g : Dev Cert.NormUpIdeal.nD → PrngReg)
    (m' : (ℓ : Loc Cert.NormUpReferenceIdeal.nD Cert.NormUpReferenceIdeal.τ Cert.NormUpReferenceIdeal.sig) → Buf (Elt Ideal) ℓ) (g' : Dev Cert.NormUpReferenceIdeal.nD → PrngReg), Pre_NormUpIdeal m →
    (∀ c : Dev Cert.NormUpIdeal.nD,
      m' ((c.tc : Thread Cert.NormUpReferenceIdeal.nD Cert.NormUpReferenceIdeal.τ).loc Cert.NormUpReferenceIdeal.main_arg0) = m ((c.tc : Thread Cert.NormUpIdeal.nD Cert.NormUpIdeal.τ).loc Cert.NormUpIdeal.main_arg0)
      ∧ m' ((c.tc : Thread Cert.NormUpReferenceIdeal.nD Cert.NormUpReferenceIdeal.τ).loc Cert.NormUpReferenceIdeal.main_arg1) = m ((c.tc : Thread Cert.NormUpIdeal.nD Cert.NormUpIdeal.τ).loc Cert.NormUpIdeal.main_arg1)
      ∧ m' ((c.tc : Thread Cert.NormUpReferenceIdeal.nD Cert.NormUpReferenceIdeal.τ).loc Cert.NormUpReferenceIdeal.main_arg2) = m ((c.tc : Thread Cert.NormUpIdeal.nD Cert.NormUpIdeal.τ).loc Cert.NormUpIdeal.main_arg2)
      ∧ m' ((c.tc : Thread Cert.NormUpReferenceIdeal.nD Cert.NormUpReferenceIdeal.τ).loc Cert.NormUpReferenceIdeal.main_arg3) = m ((c.tc : Thread Cert.NormUpIdeal.nD Cert.NormUpIdeal.τ).loc Cert.NormUpIdeal.main_arg3)
      ∧ m' ((c.tc : Thread Cert.NormUpReferenceIdeal.nD Cert.NormUpReferenceIdeal.τ).loc Cert.NormUpReferenceIdeal.main_arg4) = m ((c.tc : Thread Cert.NormUpIdeal.nD Cert.NormUpIdeal.τ).loc Cert.NormUpIdeal.main_arg4)) →
    ∃ (v0 : (c : Dev Cert.NormUpIdeal.nD) → Buf (Elt Ideal) ((c.tc : Thread Cert.NormUpIdeal.nD Cert.NormUpIdeal.τ).loc Cert.NormUpIdeal.main_v3_0)) (v1 : (c : Dev Cert.NormUpIdeal.nD) → Buf (Elt Ideal) ((c.tc : Thread Cert.NormUpIdeal.nD Cert.NormUpIdeal.τ).loc Cert.NormUpIdeal.main_v3_1)) (v2 : (c : Dev Cert.NormUpIdeal.nD) → Buf (Elt Ideal) ((c.tc : Thread Cert.NormUpIdeal.nD Cert.NormUpIdeal.τ).loc Cert.NormUpIdeal.main_v3_2)),
      θ_run (Cert.NormUpIdeal.defs (F := Ideal)) (onTc (τ := Cert.NormUpIdeal.τ) (Cert.NormUpIdeal.main (F := Ideal))) ⟨m, fun _ => 0, g⟩ (fun r => ∀ c : Dev Cert.NormUpIdeal.nD,
          r.2.mem ((c.tc : Thread Cert.NormUpIdeal.nD Cert.NormUpIdeal.τ).loc Cert.NormUpIdeal.main_v3_0) = v0 c
          ∧ r.2.mem ((c.tc : Thread Cert.NormUpIdeal.nD Cert.NormUpIdeal.τ).loc Cert.NormUpIdeal.main_v3_1) = v1 c
          ∧ r.2.mem ((c.tc : Thread Cert.NormUpIdeal.nD Cert.NormUpIdeal.τ).loc Cert.NormUpIdeal.main_v3_2) = v2 c
          ∧ r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
          ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
          ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2)
          ∧ r.2.mem ((c.tc : Thread Cert.NormUpIdeal.nD Cert.NormUpIdeal.τ).loc Cert.NormUpIdeal.main_arg3) = m ((c.tc : Thread Cert.NormUpIdeal.nD Cert.NormUpIdeal.τ).loc Cert.NormUpIdeal.main_arg3)
          ∧ r.2.mem ((c.tc : Thread Cert.NormUpIdeal.nD Cert.NormUpIdeal.τ).loc Cert.NormUpIdeal.main_arg4) = m ((c.tc : Thread Cert.NormUpIdeal.nD Cert.NormUpIdeal.τ).loc Cert.NormUpIdeal.main_arg4))
      ∧ θ_run (Cert.NormUpReferenceIdeal.defs (F := Ideal)) (onTc (τ := Cert.NormUpReferenceIdeal.τ) (Cert.NormUpReferenceIdeal.main (F := Ideal))) ⟨m', fun _ => 0, g'⟩ (fun r => ∀ c : Dev Cert.NormUpReferenceIdeal.nD,
          r.2.mem ((c.tc : Thread Cert.NormUpReferenceIdeal.nD Cert.NormUpReferenceIdeal.τ).loc Cert.NormUpReferenceIdeal.main_v40) = v0 c
          ∧ r.2.mem ((c.tc : Thread Cert.NormUpReferenceIdeal.nD Cert.NormUpReferenceIdeal.τ).loc Cert.NormUpReferenceIdeal.main_v41) = v1 c
          ∧ r.2.mem ((c.tc : Thread Cert.NormUpReferenceIdeal.nD Cert.NormUpReferenceIdeal.τ).loc Cert.NormUpReferenceIdeal.main_v42) = v2 c
          ∧ r.2.mem ((c.tc : Thread Cert.NormUpReferenceIdeal.nD Cert.NormUpReferenceIdeal.τ).loc Cert.NormUpReferenceIdeal.main_arg0) = m' ((c.tc : Thread Cert.NormUpReferenceIdeal.nD Cert.NormUpReferenceIdeal.τ).loc Cert.NormUpReferenceIdeal.main_arg0)
          ∧ r.2.mem ((c.tc : Thread Cert.NormUpReferenceIdeal.nD Cert.NormUpReferenceIdeal.τ).loc Cert.NormUpReferenceIdeal.main_arg1) = m' ((c.tc : Thread Cert.NormUpReferenceIdeal.nD Cert.NormUpReferenceIdeal.τ).loc Cert.NormUpReferenceIdeal.main_arg1)
          ∧ r.2.mem ((c.tc : Thread Cert.NormUpReferenceIdeal.nD Cert.NormUpReferenceIdeal.τ).loc Cert.NormUpReferenceIdeal.main_arg2) = m' ((c.tc : Thread Cert.NormUpReferenceIdeal.nD Cert.NormUpReferenceIdeal.τ).loc Cert.NormUpReferenceIdeal.main_arg2)
          ∧ r.2.mem ((c.tc : Thread Cert.NormUpReferenceIdeal.nD Cert.NormUpReferenceIdeal.τ).loc Cert.NormUpReferenceIdeal.main_arg3) = m' ((c.tc : Thread Cert.NormUpReferenceIdeal.nD Cert.NormUpReferenceIdeal.τ).loc Cert.NormUpReferenceIdeal.main_arg3)
          ∧ r.2.mem ((c.tc : Thread Cert.NormUpReferenceIdeal.nD Cert.NormUpReferenceIdeal.τ).loc Cert.NormUpReferenceIdeal.main_arg4) = m' ((c.tc : Thread Cert.NormUpReferenceIdeal.nD Cert.NormUpReferenceIdeal.τ).loc Cert.NormUpReferenceIdeal.main_arg4))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_1) = v1 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v7) = v0 c
          ∧ r.2.mem ((c.tc : Thread Cert.DwInReferenceIdeal.nD Cert.DwInReferenceIdeal.τ).loc Cert.DwInReferenceIdeal.main_v8) = v1 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0_0)) (v1 : (c : Dev Cert.DwUpIdeal.nD) → Buf (Elt Ideal) ((c.tc : Thread Cert.DwUpIdeal.nD Cert.DwUpIdeal.τ).loc Cert.DwUpIdeal.main_v0_1)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0_0) = v0 c
          ∧ r.2.mem ((c.tc : Thread Cert.DwUpIdeal.nD Cert.DwUpIdeal.τ).loc Cert.DwUpIdeal.main_v0_1) = v1 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v7) = v0 c
          ∧ r.2.mem ((c.tc : Thread Cert.DwUpReferenceIdeal.nD Cert.DwUpReferenceIdeal.τ).loc Cert.DwUpReferenceIdeal.main_v8) = v1 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0_0)) (v1 : (c : Dev Cert.DwDownIdeal.nD) → Buf (Elt Ideal) ((c.tc : Thread Cert.DwDownIdeal.nD Cert.DwDownIdeal.τ).loc Cert.DwDownIdeal.main_v0_1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0_0) = v0 c
          ∧ r.2.mem ((c.tc : Thread Cert.DwDownIdeal.nD Cert.DwDownIdeal.τ).loc Cert.DwDownIdeal.main_v0_1) = v1 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v7) = v0 c
          ∧ r.2.mem ((c.tc : Thread Cert.DwDownReferenceIdeal.nD Cert.DwDownReferenceIdeal.τ).loc Cert.DwDownReferenceIdeal.main_v8) = v1 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0_0)) (v1 : (c : Dev Cert.DwOutIdeal.nD) → Buf (Elt Ideal) ((c.tc : Thread Cert.DwOutIdeal.nD Cert.DwOutIdeal.τ).loc Cert.DwOutIdeal.main_v0_1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0_0) = v0 c
          ∧ r.2.mem ((c.tc : Thread Cert.DwOutIdeal.nD Cert.DwOutIdeal.τ).loc Cert.DwOutIdeal.main_v0_1) = v1 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v7) = v0 c
          ∧ r.2.mem ((c.tc : Thread Cert.DwOutReferenceIdeal.nD Cert.DwOutReferenceIdeal.τ).loc Cert.DwOutReferenceIdeal.main_v8) = v1 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v1) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v5) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v2)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v2) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v2) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v18) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_v20) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v0) = v0 c
          ∧ r.2.mem ((c.tc : Thread Cert.AdamUpReferenceIdeal.nD Cert.AdamUpReferenceIdeal.τ).loc Cert.AdamUpReferenceIdeal.main_v24) = v1 c
          ∧ r.2.mem ((c.tc : Thread Cert.AdamUpReferenceIdeal.nD Cert.AdamUpReferenceIdeal.τ).loc Cert.AdamUpReferenceIdeal.main_v5) = v2 c
          ∧ r.2.mem ((c.tc : Thread Cert.AdamUpReferenceIdeal.nD Cert.AdamUpReferenceIdeal.τ).loc Cert.AdamUpReferenceIdeal.main_v11) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v0) = v0 c
          ∧ r.2.mem ((c.tc : Thread Cert.AdamDownReferenceIdeal.nD Cert.AdamDownReferenceIdeal.τ).loc Cert.AdamDownReferenceIdeal.main_v24) = v1 c
          ∧ r.2.mem ((c.tc : Thread Cert.AdamDownReferenceIdeal.nD Cert.AdamDownReferenceIdeal.τ).loc Cert.AdamDownReferenceIdeal.main_v5) = v2 c
          ∧ r.2.mem ((c.tc : Thread Cert.AdamDownReferenceIdeal.nD Cert.AdamDownReferenceIdeal.τ).loc Cert.AdamDownReferenceIdeal.main_v11) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v0) = v0 c
          ∧ r.2.mem ((c.tc : Thread Cert.AdamOutReferenceIdeal.nD Cert.AdamOutReferenceIdeal.τ).loc Cert.AdamOutReferenceIdeal.main_v24) = v1 c
          ∧ r.2.mem ((c.tc : Thread Cert.AdamOutReferenceIdeal.nD Cert.AdamOutReferenceIdeal.τ).loc Cert.AdamOutReferenceIdeal.main_v5) = v2 c
          ∧ r.2.mem ((c.tc : Thread Cert.AdamOutReferenceIdeal.nD Cert.AdamOutReferenceIdeal.τ).loc Cert.AdamOutReferenceIdeal.main_v11) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v2) = v0 c
          ∧ r.2.mem ((c.tc : Thread Cert.AdamSmallReferenceIdeal.nD Cert.AdamSmallReferenceIdeal.τ).loc Cert.AdamSmallReferenceIdeal.main_v5) = v1 c
          ∧ r.2.mem ((c.tc : Thread Cert.AdamSmallReferenceIdeal.nD Cert.AdamSmallReferenceIdeal.τ).loc Cert.AdamSmallReferenceIdeal.main_v8) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_v35) = v4 c
          ∧ r.2.mem ((c.tc : Thread Cert.AdamSmallReferenceIdeal.nD Cert.AdamSmallReferenceIdeal.τ).loc Cert.AdamSmallReferenceIdeal.main_v59) = v5 c
          ∧ r.2.mem ((c.tc : Thread Cert.AdamSmallReferenceIdeal.nD Cert.AdamSmallReferenceIdeal.τ).loc Cert.AdamSmallReferenceIdeal.main_v83) = v6 c
          ∧ r.2.mem ((c.tc : Thread Cert.AdamSmallReferenceIdeal.nD Cert.AdamSmallReferenceIdeal.τ).loc Cert.AdamSmallReferenceIdeal.main_v107) = v7 c
          ∧ r.2.mem ((c.tc : Thread Cert.AdamSmallReferenceIdeal.nD Cert.AdamSmallReferenceIdeal.τ).loc Cert.AdamSmallReferenceIdeal.main_v16) = v8 c
          ∧ r.2.mem ((c.tc : Thread Cert.AdamSmallReferenceIdeal.nD Cert.AdamSmallReferenceIdeal.τ).loc Cert.AdamSmallReferenceIdeal.main_v40) = v9 c
          ∧ r.2.mem ((c.tc : Thread Cert.AdamSmallReferenceIdeal.nD Cert.AdamSmallReferenceIdeal.τ).loc Cert.AdamSmallReferenceIdeal.main_v64) = v10 c
          ∧ r.2.mem ((c.tc : Thread Cert.AdamSmallReferenceIdeal.nD Cert.AdamSmallReferenceIdeal.τ).loc Cert.AdamSmallReferenceIdeal.main_v88) = v11 c
          ∧ r.2.mem ((c.tc : Thread Cert.AdamSmallReferenceIdeal.nD Cert.AdamSmallReferenceIdeal.τ).loc Cert.AdamSmallReferenceIdeal.main_v22) = v12 c
          ∧ r.2.mem ((c.tc : Thread Cert.AdamSmallReferenceIdeal.nD Cert.AdamSmallReferenceIdeal.τ).loc Cert.AdamSmallReferenceIdeal.main_v46) = v13 c
          ∧ r.2.mem ((c.tc : Thread Cert.AdamSmallReferenceIdeal.nD Cert.AdamSmallReferenceIdeal.τ).loc Cert.AdamSmallReferenceIdeal.main_v70) = v14 c
          ∧ r.2.mem ((c.tc : Thread Cert.AdamSmallReferenceIdeal.nD Cert.AdamSmallReferenceIdeal.τ).loc Cert.AdamSmallReferenceIdeal.main_v94) = v15 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12))

def Claim : Prop :=
  ∃ (hMix : Cert.Mix.Facts) (hMixIdeal : Cert.MixIdeal.Facts) (hMixReferenceIdeal : Cert.MixReferenceIdeal.Facts) (hNormIn : Cert.NormIn.Facts) (hNormInIdeal : Cert.NormInIdeal.Facts) (hNormInReferenceIdeal : Cert.NormInReferenceIdeal.Facts) (hNormUp : Cert.NormUp.Facts) (hNormUpIdeal : Cert.NormUpIdeal.Facts) (hNormUpReferenceIdeal : Cert.NormUpReferenceIdeal.Facts) (hDwIn : Cert.DwIn.Facts) (hDwInIdeal : Cert.DwInIdeal.Facts) (hDwInReferenceIdeal : Cert.DwInReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDwOut : Cert.DwOut.Facts) (hDwOutIdeal : Cert.DwOutIdeal.Facts) (hDwOutReferenceIdeal : Cert.DwOutReferenceIdeal.Facts) (hDAct : Cert.DAct.Facts) (hDActIdeal : Cert.DActIdeal.Facts) (hDActReferenceIdeal : Cert.DActReferenceIdeal.Facts) (hInProj : Cert.InProj.Facts) (hInProjIdeal : Cert.InProjIdeal.Facts) (hInProjReferenceIdeal : Cert.InProjReferenceIdeal.Facts) (hUpProj : Cert.UpProj.Facts) (hUpProjIdeal : Cert.UpProjIdeal.Facts) (hUpProjReferenceIdeal : Cert.UpProjReferenceIdeal.Facts) (hLoss : Cert.Loss.Facts) (hLossIdeal : Cert.LossIdeal.Facts) (hLossReferenceIdeal : Cert.LossReferenceIdeal.Facts) (hAdamIn : Cert.AdamIn.Facts) (hAdamInIdeal : Cert.AdamInIdeal.Facts) (hAdamInReferenceIdeal : Cert.AdamInReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamOut : Cert.AdamOut.Facts) (hAdamOutIdeal : Cert.AdamOutIdeal.Facts) (hAdamOutReferenceIdeal : Cert.AdamOutReferenceIdeal.Facts) (hAdamSmall : Cert.AdamSmall.Facts) (hAdamSmallIdeal : Cert.AdamSmallIdeal.Facts) (hAdamSmallReferenceIdeal : Cert.AdamSmallReferenceIdeal.Facts),
    quiescent_Mix (hMix := hMix)
    ∧ quiescent_MixIdeal (hMixIdeal := hMixIdeal)
    ∧ quiescent_MixReferenceIdeal (hMixReferenceIdeal := hMixReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_NormUp (hNormUp := hNormUp)
    ∧ quiescent_NormUpIdeal (hNormUpIdeal := hNormUpIdeal)
    ∧ quiescent_NormUpReferenceIdeal (hNormUpReferenceIdeal := hNormUpReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Mix_MixIdeal
    ∧ algebraic_MixIdeal_MixReferenceIdeal (hMixIdeal := hMixIdeal) (hMixReferenceIdeal := hMixReferenceIdeal)
    ∧ preserves_NormIn_NormInIdeal
    ∧ algebraic_NormInIdeal_NormInReferenceIdeal (hNormInIdeal := hNormInIdeal) (hNormInReferenceIdeal := hNormInReferenceIdeal)
    ∧ preserves_NormUp_NormUpIdeal
    ∧ algebraic_NormUpIdeal_NormUpReferenceIdeal (hNormUpIdeal := hNormUpIdeal) (hNormUpReferenceIdeal := hNormUpReferenceIdeal)
    ∧ preserves_DwIn_DwInIdeal
    ∧ algebraic_DwInIdeal_DwInReferenceIdeal (hDwInIdeal := hDwInIdeal) (hDwInReferenceIdeal := hDwInReferenceIdeal)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DAct_DActIdeal
    ∧ algebraic_DActIdeal_DActReferenceIdeal (hDActIdeal := hDActIdeal) (hDActReferenceIdeal := hDActReferenceIdeal)
    ∧ preserves_InProj_InProjIdeal
    ∧ algebraic_InProjIdeal_InProjReferenceIdeal (hInProjIdeal := hInProjIdeal) (hInProjReferenceIdeal := hInProjReferenceIdeal)
    ∧ preserves_UpProj_UpProjIdeal
    ∧ algebraic_UpProjIdeal_UpProjReferenceIdeal (hUpProjIdeal := hUpProjIdeal) (hUpProjReferenceIdeal := hUpProjReferenceIdeal)
    ∧ preserves_Loss_LossIdeal
    ∧ algebraic_LossIdeal_LossReferenceIdeal (hLossIdeal := hLossIdeal) (hLossReferenceIdeal := hLossReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Mix.lean ====
abbrev S4096x1024 : Shape := ⟨2, ![4096, 1024]⟩
abbrev S1024x1024 : Shape := ⟨2, ![1024, 1024]⟩
abbrev S4096x7168 : Shape := ⟨2, ![4096, 7168]⟩
abbrev S2048 : Shape := ⟨1, ![2048]⟩
abbrev S1x1024x1024 : Shape := ⟨3, ![1, 1024, 1024]⟩
abbrev S1x2048 : Shape := ⟨2, ![1, 2048]⟩
abbrev S4096x2048 : Shape := ⟨2, ![4096, 2048]⟩
abbrev S512x1024 : Shape := ⟨2, ![512, 1024]⟩
abbrev S1x1024 : Shape := ⟨2, ![1, 1024]⟩
abbrev S512x2048 : Shape := ⟨2, ![512, 2048]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x7168, .bf16⟩
  | .hbm, ⟨5, _⟩ => ⟨S2048, .f32⟩
  | .hbm, ⟨6, _⟩ => ⟨S1x1024x1024, .bf16⟩
  | .hbm, ⟨7, _⟩ => ⟨S1x2048, .f32⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v58 : BitVec 32 := Scalar.extui v52
  let c0_i32_33 : BitVec 32 := 0#32
  let v59 : BitVec 1 := Scalar.cmpi .ne v58 c0_i32_33
  v59

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v60 : BitVec 1 := Scalar.xori v52 v_true
  let v61 : BitVec 32 := Scalar.extui v60
  let c0_i32_34 : BitVec 32 := 0#32
  let v62 : BitVec 1 := Scalar.cmpi .ne v61 c0_i32_34
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixReferenceIdeal.lean ====
abbrev S4096x1024 : Shape := ⟨2, ![4096, 1024]⟩
abbrev S1024x1024 : Shape := ⟨2, ![1024, 1024]⟩
abbrev S4096x7168 : Shape := ⟨2, ![4096, 7168]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x7168, .bf16⟩
  | .hbm, ⟨5, _⟩ => ⟨S2048, .f32⟩
  | .hbm, ⟨6, _⟩ => ⟨S1024x1024, .f32⟩
  | .hbm, ⟨7, _⟩ => ⟨S4096x7168, .f32⟩
  | .hbm, ⟨8, _⟩ => ⟨S4096x1024, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S4096x1024, .bf16⟩
  | .hbm, ⟨44, _⟩ => ⟨S4096x1024, .bf16⟩
  | .hbm, ⟨45, _⟩ => ⟨S4096x2048, .bf16⟩
  | .hbm, ⟨46, _⟩ => ⟨S1x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== NormIn.lean ====
abbrev S4096x7168 : Shape := ⟨2, ![4096, 7168]⟩
abbrev S1024x7168 : Shape := ⟨2, ![1024, 7168]⟩
abbrev S4096x1024 : Shape := ⟨2, ![4096, 1024]⟩
abbrev S1024 : Shape := ⟨1, ![1024]⟩
abbrev S1024x4x1792 : Shape := ⟨3, ![1024, 4, 1792]⟩
abbrev S4x1024x1792 : Shape := ⟨3, ![4, 1024, 1792]⟩
abbrev S1x1024 : Shape := ⟨2, ![1, 1024]⟩
abbrev S1024x1792 : Shape := ⟨2, ![1024, 1792]⟩
abbrev S1x1024x1792 : Shape := ⟨3, ![1, 1024, 1792]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1792, .bf16⟩
  | .hbm, ⟨6, _⟩ => ⟨S4x1024x1792, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_70 : BitVec 32 := 0#32
  let v162 : BitVec 1 := Scalar.cmpi .eq arg0 c0_i32_70
  let v163 : BitVec 32 := Scalar.extui v162
  let c0_i32_71 : BitVec 32 := 0#32
  let v164 : BitVec 1 := Scalar.cmpi .ne v163 c0_i32_71
  v164

def k0_cond5 (i : grid0.Coords) : BitVec 1 :=
  let arg0 : BitVec 32 := BitVec.ofNat 32 (i 0).val
  let c0_i32_70 : BitVec 32 := 0#32
  let v162 : BitVec 1 := Scalar.cmpi .eq arg0 c0_i32_70
  let v_true : BitVec 1 := 1#1
  let v165 : BitVec 1 := Scalar.xori v162 v_true
  let v166 : BitVec 32 := Scalar.extui v165
  let c0_i32_72 : BitVec 32 := 0#32
  let v167 : BitVec 1 := Scalar.cmpi .ne v166 c0_i32_72
  v167

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormInReferenceIdeal.lean ====
abbrev S4096x7168 : Shape := ⟨2, ![4096, 7168]⟩
abbrev S1024x7168 : Shape := ⟨2, ![1024, 7168]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x7168, .f32⟩
  | .hbm, ⟨6, _⟩ => ⟨S4096x7168, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x7168, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== NormUp.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S1024x1408 : Shape := ⟨2, ![1024, 1408]⟩
abbrev S1x1024x1408 : Shape := ⟨3, ![1, 1024, 1408]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1408, .bf16⟩
  | .hbm, ⟨6, _⟩ => ⟨S4x1024x1408, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_78 : BitVec 32 := 0#32
  let v170 : BitVec 1 := Scalar.cmpi .eq arg0 c0_i32_78
  let v171 : BitVec 32 := Scalar.extui v170
  let c0_i32_79 : BitVec 32 := 0#32
  let v172 : BitVec 1 := Scalar.cmpi .ne v171 c0_i32_79
  v172

def k0_cond5 (i : grid0.Coords) : BitVec 1 :=
  let arg0 : BitVec 32 := BitVec.ofNat 32 (i 0).val
  let c0_i32_78 : BitVec 32 := 0#32
  let v170 : BitVec 1 := Scalar.cmpi .eq arg0 c0_i32_78
  let v_true : BitVec 1 := 1#1
  let v173 : BitVec 1 := Scalar.xori v170 v_true
  let v174 : BitVec 32 := Scalar.extui v173
  let c0_i32_80 : BitVec 32 := 0#32
  let v175 : BitVec 1 := Scalar.cmpi .ne v174 c0_i32_80
  v175

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormUpReferenceIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== DwIn.lean ====
abbrev S4096x1024 : Shape := ⟨2, ![4096, 1024]⟩
abbrev S4096x7168 : Shape := ⟨2, ![4096, 7168]⟩
abbrev S4x1024x1792 : Shape := ⟨3, ![4, 1024, 1792]⟩
abbrev S4096x896 : Shape := ⟨2, ![4096, 896]⟩
abbrev S1x1024x896 : Shape := ⟨3, ![1, 1024, 896]⟩
abbrev S8x128 : Shape := ⟨2, ![8, 128]⟩
abbrev S1024x896 : Shape := ⟨2, ![1024, 896]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S4x1024x1792, .f32⟩
  | .hbm, ⟨3, _⟩ => ⟨S4x1024x1792, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x1024x896, .bf16⟩
  | .local _ .vmem, ⟨6, _⟩ => ⟨S1x1024x896, .bf16⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInIdeal.lean ====
abbrev S4096x1024 : Shape := ⟨2, ![4096, 1024]⟩
abbrev S4096x7168 : Shape := ⟨2, ![4096, 7168]⟩
abbrev S4x1024x1792 : Shape := ⟨3, ![4, 1024, 1792]⟩
abbrev S4096x896 : Shape := ⟨2, ![4096, 896]⟩
abbrev S1x1024x896 : Shape := ⟨3, ![1, 1024, 896]⟩
abbrev S8x128 : Shape := ⟨2, ![8, 128]⟩
abbrev S1024x896 : Shape := ⟨2, ![1024, 896]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S4x1024x1792, .f32⟩
  | .hbm, ⟨3, _⟩ => ⟨S4x1024x1792, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x1024x896, .bf16⟩
  | .local _ .vmem, ⟨6, _⟩ => ⟨S1x1024x896, .bf16⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInReferenceIdeal.lean ====
abbrev S4096x1024 : Shape := ⟨2, ![4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S4096x1024, .f32⟩
  | .hbm, ⟨3, _⟩ => ⟨S4096x7168, .f32⟩
  | .hbm, ⟨4, _⟩ => ⟨S_, .f32⟩
  | .hbm, ⟨5, _⟩ => ⟨S1024x7168, .f32⟩
  | .hbm, ⟨6, _⟩ => ⟨S4096x7168, .f32⟩
  | .hbm, ⟨7, _⟩ => ⟨S7168x1024, .f32⟩
  | .hbm, ⟨8, _⟩ => ⟨S1024x7168, .f32⟩
  | .hbm, ⟨9, _⟩ => ⟨S1024x4x1792, .f32⟩
  | .hbm, ⟨10, _⟩ => ⟨S4x1024x1792, .f32⟩
  | .hbm, ⟨11, _⟩ => ⟨S4x1024x1792, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwUp.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwUpIdeal.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwUpReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .hbm, ⟨3, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .bf16⟩
  | .local _ .vmem, ⟨7, _⟩ => ⟨S1x1408x1024, .bf16⟩
  | .local _ .vmem, ⟨8, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwDownIdeal.lean ====
abbrev S4096x2816 : Shape := ⟨2, ![4096, 2816]⟩
abbrev S4096x1024 : Shape := ⟨2, ![4096, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .hbm, ⟨3, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .bf16⟩
  | .local _ .vmem, ⟨7, _⟩ => ⟨S1x1408x1024, .bf16⟩
  | .local _ .vmem, ⟨8, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S4096x1024 : Shape := ⟨2, ![4096, 1024]⟩
abbrev S1x1024x1024 : Shape := ⟨3, ![1, 1024, 1024]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwOutIdeal.lean ====
abbrev S4096x1024 : Shape := ⟨2, ![4096, 1024]⟩
abbrev S1x1024x1024 : Shape := ⟨3, ![1, 1024, 1024]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwOutReferenceIdeal.lean ====
abbrev S4096x1024 : Shape := ⟨2, ![4096, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S1x2816x1024 : Shape := ⟨3, ![1, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S8x128 : Shape := ⟨2, ![8, 128]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S1x2816x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x1024 : Shape := ⟨2, ![4096, 1024]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S4096x7168 : Shape := ⟨2, ![4096, 7168]⟩
abbrev S2048x1024 : Shape := ⟨2, ![2048, 1024]⟩
abbrev S1x1024x1792 : Shape := ⟨3, ![1, 1024, 1792]⟩
abbrev S2048x1792 : Shape := ⟨2, ![2048, 1792]⟩
abbrev S8x128 : Shape := ⟨2, ![8, 128]⟩
abbrev S1024x1792 : Shape := ⟨2, ![1024, 1792]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S1024x4x1792, .bf16⟩
  | .hbm, ⟨3, _⟩ => ⟨S4x1024x1792, .bf16⟩
  | .hbm, ⟨4, _⟩ => ⟨S4096x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S2048x1792, .bf16⟩
  | .local _ .vmem, ⟨5, _⟩ => ⟨S2048x1792, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x1024 : Shape := ⟨2, ![4096, 1024]⟩
abbrev S1024x7168 : Shape := ⟨2, ![1024, 7168]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S4096x1024, .f32⟩
  | .hbm, ⟨3, _⟩ => ⟨S1024x7168, .f32⟩
  | .hbm, ⟨4, _⟩ => ⟨S4096x7168, .f32⟩
  | .hbm, ⟨5, _⟩ => ⟨S4096x7168, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpProj.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S8x128 : Shape := ⟨2, ![8, 128]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x2816x1024, .bf16⟩
  | .hbm, ⟨5, _⟩ => ⟨S4096x1024, .f32⟩
  | .hbm, ⟨6, _⟩ => ⟨S4096x1024, .bf16⟩
  | .hbm, ⟨7, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_16 : BitVec 32 := 0#32
  let v24 : BitVec 1 := Scalar.cmpi .ne v23 c0_i32_16
  v24

def k0_cond2 (i : grid0.Coords) : BitVec 1 :=
  let arg0 : BitVec 32 := BitVec.ofNat 32 (i 0).val
  let c0_i32 : BitVec 32 := 0#32
  let v22 : BitVec 1 := Scalar.cmpi .eq arg0 c0_i32
  let v_true : BitVec 1 := 1#1
  let v25 : BitVec 1 := Scalar.xori v22 v_true
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== AdamIn.lean ====
abbrev S1024x1792 : Shape := ⟨2, ![1024, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1024x1792 : Shape := ⟨2, ![1024, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S1024x1792 : Shape := ⟨2, ![1024, 1792]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S_, .f32⟩
  | .hbm, ⟨7, _⟩ => ⟨S1024x1792, .f32⟩
  | .hbm, ⟨8, _⟩ => ⟨S1024x1792, .f32⟩
  | .hbm, ⟨9, _⟩ => ⟨S_, .f32⟩
  | .hbm, ⟨10, _⟩ => ⟨S1024x1792, .f32⟩
  | .hbm, ⟨11, _⟩ => ⟨S1024x1792, .f32⟩
  | .hbm, ⟨12, _⟩ => ⟨S1024x1792, .f32⟩
  | .hbm, ⟨13, _⟩ => ⟨S_, .f32⟩
  | .hbm, ⟨14, _⟩ => ⟨S1024x1792, .f32⟩
  | .hbm, ⟨15, _⟩ => ⟨S1024x1792, .f32⟩
  | .hbm, ⟨16, _⟩ => ⟨S1024x1792, .f32⟩
  | .hbm, ⟨17, _⟩ => ⟨S_, .f32⟩
  | .hbm, ⟨18, _⟩ => ⟨S1024x1792, .f32⟩
  | .hbm, ⟨19, _⟩ => ⟨S1024x1792, .f32⟩
  | .hbm, ⟨20, _⟩ => ⟨S1024x1792, .f32⟩
  | .hbm, ⟨21, _⟩ => ⟨S_, .f32⟩
  | .hbm, ⟨22, _⟩ => ⟨S1024x1792, .f32⟩
  | .hbm, ⟨23, _⟩ => ⟨S1024x1792, .f32⟩
  | .hbm, ⟨24, _⟩ => ⟨S_, .f32⟩
  | .hbm, ⟨25, _⟩ => ⟨S1024x1792, .f32⟩
  | .hbm, ⟨26, _⟩ => ⟨S1024x1792, .f32⟩
  | .hbm, ⟨27, _⟩ => ⟨S1024x1792, .f32⟩
  | .hbm, ⟨28, _⟩ => ⟨S_, .f32⟩
  | .hbm, ⟨29, _⟩ => ⟨S1024x1792, .f32⟩
  | .hbm, ⟨30, _⟩ => ⟨S1024x1792, .f32⟩
  | .hbm, ⟨31, _⟩ => ⟨S1024x1792, .f32⟩
  | .hbm, ⟨32, _⟩ => ⟨S_, .f32⟩
  | .hbm, ⟨33, _⟩ => ⟨S1024x1792, .f32⟩
  | .hbm, ⟨34, _⟩ => ⟨S1024x1792, .f32⟩
  | .hbm, ⟨35, _⟩ => ⟨S1024x1792, .f32⟩
  | .hbm, ⟨36, _⟩ => ⟨S_, .f32⟩
  | .hbm, ⟨37, _⟩ => ⟨S1024x1792, .f32⟩
  | .hbm, ⟨38, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1x1024 : Shape := ⟨2, ![1, 1024]⟩
abbrev S1x2048 : Shape := ⟨2, ![1, 2048]⟩
abbrev S80x1024 : Shape := ⟨2, ![80, 1024]⟩
abbrev S3x80x1024 : Shape := ⟨3, ![3, 80, 1024]⟩
abbrev S4x80x1024 : Shape := ⟨3, ![4, 80, 1024]⟩
abbrev S1x1x1024 : Shape := ⟨3, ![1, 1, 1024]⟩
abbrev S1x80x1024 : Shape := ⟨3, ![1, 80, 1024]⟩

abbrev nBuf : Space → Nat
  | .hbm => 29
  | .vmem => 31
  | .smem => 0
  | _ => 0

abbrev bufTy : (tb : Table) → Fin (tcTables nBuf tb) → BufTy
  | .hbm, ⟨0, _⟩ => ⟨S1x1024, .f32⟩
  | .hbm, ⟨1, _⟩ => ⟨S1x2048, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x2048, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x2048, .f32⟩
  | .hbm, ⟨10, _⟩ => ⟨S1x1024, .f32⟩
  | .hbm, ⟨11, _⟩ => ⟨S1x1024, .f32⟩
  | .hbm, ⟨12, _⟩ => ⟨S80x1024, .f32⟩
  | .hbm, ⟨13, _⟩ => ⟨S1x1024, .f32⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x2048, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x2048, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S1x1024, .f32⟩
  | .hbm, ⟨28, _⟩ => ⟨S1x1024, .f32⟩
  | .local _ .vmem, ⟨0, _⟩ => ⟨S1x1024, .f32⟩
  | .local _ .vmem, ⟨1, _⟩ => ⟨S1x2048, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x2048, .f32⟩
  | .local _ .vmem, ⟨10, _⟩ => ⟨S1x1024, .f32⟩
  | .local _ .vmem, ⟨11, _⟩ => ⟨S1x1024, .f32⟩
  | .local _ .vmem, ⟨12, _⟩ => ⟨S80x1024, .f32⟩
  | .local _ .vmem, ⟨13, _⟩ => ⟨S1x1024, .f32⟩
  | .local _ .vmem, ⟨14, _⟩ => ⟨S1x2048, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x2048, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x2048, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x2048, .f32⟩
  | .local _ .vmem, ⟨27, _⟩ => ⟨S1x1024, .f32⟩
  | .local _ .vmem, ⟨28, _⟩ => ⟨S1x1024, .f32⟩
  | .local _ .vmem, ⟨29, _⟩ => ⟨S3x80x1024, .f32⟩
  | .local _ .vmem, ⟨30, _⟩ => ⟨S4x80x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev main_v0_12 : Ref sig .tc := ⟨.hbm, 25, rfl⟩
abbrev main_v0_13 : Ref sig .tc := ⟨.hbm, 26, rfl⟩
abbrev main_v0_14 : Ref sig .tc := ⟨.hbm, 27, rfl⟩
abbrev main_v0_15 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S80x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
-- ==== AdamSmallReferenceIdeal.lean ====
abbrev S1x1024 : Shape := ⟨2, ![1, 1024]⟩
abbrev S1x2048 : Shape := ⟨2, ![1, 2048]⟩
abbrev S80x1024 : Shape := ⟨2, ![80, 1024]⟩
abbrev S8x1024 : Shape := ⟨2, ![8, 1024]⟩
abbrev S1x8192 : Shape := ⟨2, ![1, 8192]⟩
abbrev S_ : Shape := ⟨0, ![]⟩

abbrev nBuf : Space → Nat
  | .hbm => 157
  | .vmem => 0
  | .smem => 0
  | _ => 0

abbrev hbmTy0_0 (i : Nat) : BufTy := match i % 128 with
  | 0 => ⟨S1x1024, .f32⟩
  | 1 => ⟨S1x2048, .f32⟩
  | 2 => ⟨S1x1024, .f32⟩
  | 3 => ⟨S1x1024, .f32⟩
  | 4 => ⟨S1x1024, .f32⟩
  | 5 => ⟨S1x2048, .f32⟩
  | 6 => ⟨S1x1024, .f32⟩
  | 7 => ⟨S1x1024, .f32⟩
  | 8 => ⟨S1x1024, .f32⟩
  | 9 => ⟨S1x2048, .f32⟩
  | 10 => ⟨S1x1024, .f32⟩
  | 11 => ⟨S1x1024, .f32⟩
  | 12 => ⟨S80x1024, .f32⟩
  | 13 => ⟨S8x1024, .f32⟩
  | 14 => ⟨S1x8192, .f32⟩
  | 15 => ⟨S1x1024, .f32⟩
  | 16 => ⟨S8x1024, .f32⟩
  | 17 => ⟨S1x8192, .f32⟩
  | 18 => ⟨S1x2048, .f32⟩
  | 19 => ⟨S8x1024, .f32⟩
  | 20 => ⟨S1x8192, .f32⟩
  | 21 => ⟨S1x1024, .f32⟩
  | 22 => ⟨S8x1024, .f32⟩
  | 23 => ⟨S1x8192, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S1x2048, .f32⟩
  | 73 => ⟨S_, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S1x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_19 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_20 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_21 : Ref sig .tc := ⟨.hbm, 106, rfl⟩
abbrev main_v71 : Ref sig .tc := ⟨.hbm, 107, rfl⟩
abbrev main_v72 : Ref sig .tc := ⟨.hbm, 108, rfl⟩
abbrev main_cst_22 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_23 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_24 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_25 : Ref sig .tc := ⟨.hbm, 121, rfl⟩
abbrev main_v82 : Ref sig .tc := ⟨.hbm, 122, rfl⟩
abbrev main_v83 : Ref sig .tc := ⟨.hbm, 123, rfl⟩
abbrev main_cst_26 : Ref sig .tc := ⟨.hbm, 124, rfl⟩
abbrev main_v84 : Ref sig .tc := ⟨.hbm, 125, rfl⟩
abbrev main_v85 : Ref sig .tc := ⟨.hbm, 126, rfl⟩
abbrev main_cst_27 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_28 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_29 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_30 : Ref sig .tc := ⟨.hbm, 139, rfl⟩
abbrev main_v95 : Ref sig .tc := ⟨.hbm, 140, rfl⟩
abbrev main_v96 : Ref sig .tc := ⟨.hbm, 141, rfl⟩
abbrev main_cst_31 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_32 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_33 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_34 : Ref sig .tc := ⟨.hbm, 154, rfl⟩
abbrev main_v106 : Ref sig .tc := ⟨.hbm, 155, rfl⟩
abbrev main_v107 : Ref sig .tc := ⟨.hbm, 156, rfl⟩

abbrev nD : Nat := 1
abbrev τ : Topo := Topo.v7x

variable {F : FTy → Type} [FloatOps F]
-- ==== Proof.Mix.Reference.lean ====
/-
  What the reference of the gate program computes, in named steps: the cotangent of the mixed value `dx · wᵀ`, the two
  gates, the gradients of the two branches, of the gate logits and of the gate bias.
-/
module

public import proofs.«01_k».proof.Proof.Gen.MixReferenceIdeal
public import Idealize.ShloMosaic.Lib.Pointwise
public import Idealize.ShloMosaic.Lib.Claim

@[expose] public section

set_option maxRecDepth 16384

noncomputable section

namespace Cert.MixReferenceIdeal.Math

open Cert.MixReferenceIdeal Cert.MixReferenceIdeal.Gen Idealize.ShloMosaic Idealize.ShloMosaic.TcCoe

variable (dx : FVec Ideal S4096x1024 .bf16) (w : FVec Ideal S1024x1024 .bf16) (ya yb : FVec Ideal S4096x1024 .f32)
  (z : FVec Ideal S4096x7168 .bf16) (b : FVec Ideal S2048 .f32)

/-- The cotangent of the mixed value: `dx · wᵀ`. -/
def prod : FVec Ideal S4096x1024 .f32 :=
  Host.dotGeneral dot_S4096x1024_S1024x1024_S4096x1024_1_1_0_0_n_n none (extf .f32 dx bitsLt_bf16_f32) (extf .f32 w bitsLt_bf16_f32)

/-- A block of ones. -/
def one : FVec Ideal S4096x2048 .f32 := broadcastInDim S4096x2048 ![] bcast_S_S4096x2048 (constant S_ .f32 0x3F800000#32)

/-- The two gates: the logistic function of the last 2048 columns of `z` with the bias added. -/
def gate : FVec Ideal S4096x2048 .f32 :=
  Host.divf one (addf one (Host.exp (Host.negf (addf (extractStridedSlice S4096x2048 ![0, 5120] (extf .f32 z bitsLt_bf16_f32) slices_S4096x7168_S4096x2048_0_5120)
    (broadcastInDim S4096x2048 ![0, 1] bcast_S1x2048_S4096x2048_0_1 (broadcastInDim S1x2048 ![1] bcast_S2048_S1x2048_1 b))))))

/-- The gradient of the first branch. -/
def dya : FVec Ideal S4096x1024 .bf16 :=
  truncf .bf16 (mulf (extractStridedSlice S4096x1024 ![0, 0] (gate z b) slices_S4096x2048_S4096x1024_0_0) (prod dx w)) bitsLt_bf16_f32

/-- The gradient of the second branch. -/
def dyb : FVec Ideal S4096x1024 .bf16 :=
  truncf .bf16 (mulf (extractStridedSlice S4096x1024 ![0, 1024] (gate z b) slices_S4096x2048_S4096x1024_0_1024) (prod dx w)) bitsLt_bf16_f32

/-- The gradient of the gate logits, before rounding. -/
def dlog : FVec Ideal S4096x2048 .f32 :=
  mulf (concatenate S4096x2048 1 [⟨S4096x1024, mulf (prod dx w) ya⟩, ⟨S4096x1024, mulf (prod dx w) yb⟩] concatenates_S4096x1024_S4096x1024_S4096x2048_d1)
    (mulf (gate z b) (subf one (gate z b)))

/-- The gradient of the gate bias: the column sums. -/
def dbias : FVec Ideal S1x2048 .f32 :=
  shapeCast _ (Host.reduceAdd (shapeCast _ (Host.reduceAdd (dlog dx w ya yb z b) (constant S_ .f32 0x00000000#32) reducesTo_S4096x2048_S2048_d0 h_S_) shapeCasts_S2048_S1x2048)
    (constant S_ .f32 0x00000000#32) reducesTo_S1x2048_S2048_d0 h_S_) shapeCasts_S2048_S1x2048

/-- The logistic function over the extended reals. -/
def sg (x : EReal) : EReal := Ideal.div 1 (1 + Ideal.exp (-x))

theorem gate_at (r : Fin 4096) (l : Fin 2048) :
    gate z b (ix2 r l) = sg (z (ix2 r ⟨5120 + l, by omega⟩) + b (ix1 l)) := by
  pointwise [gate, one, sg]

theorem prod_at (r : Fin 4096) (l : Fin 1024) :
    prod dx w (ix2 r l) = ∑ k : Fin 1024, dx (ix2 r k) * w (ix2 l k) := by
  pointwise [prod]

/-- One half of the gradient of the logits. -/
def half (p y g : EReal) : EReal := p * y * g * (1 - g)

theorem dlog_lo (r : Fin 4096) (l : Fin 2048) (h : (l : ℕ) < 1024) :
    dlog dx w ya yb z b (ix2 r l)
      = half (∑ k : Fin 1024, dx (ix2 r k) * w (ix2 ⟨l, h⟩ k)) (ya (ix2 r ⟨l, h⟩)) (sg (z (ix2 r ⟨5120 + l, by omega⟩) + b (ix1 l))) := by
  rw [half, ← gate_at, ← prod_at, mul_assoc]
  pointwise [dlog, one, h]

theorem dlog_hi (r : Fin 4096) (l : Fin 2048) (h : ¬(l : ℕ) < 1024) :
    dlog dx w ya yb z b (ix2 r l)
      = half (∑ k : Fin 1024, dx (ix2 r k) * w (ix2 ⟨l - 1024, by omega⟩ k)) (yb (ix2 r ⟨l - 1024, by omega⟩)) (sg (z (ix2 r ⟨5120 + l, by omega⟩) + b (ix1 l))) := by
  rw [half, ← gate_at, ← prod_at, mul_assoc]
  pointwise [dlog, one, h]

theorem dbias_at (a : Fin 1) (l : Fin 2048) :
    dbias dx w ya yb z b (ix2 a l) = ∑ r : Fin 4096, dlog dx w ya yb z b (ix2 r l) := by
  pointwise [dbias]
  exact Fintype.sum_unique _

end Cert.MixReferenceIdeal.Math

end
-- ==== Proof.Mix.Block.lean ====
/-
  What the gate program stores at one grid point, read at an index: the two branch gradients, the two halves of the
  gradient of the logits, and what is added to the bias gradient.
-/
module

public import proofs.«01_k».proof.Proof.Mix.Reference
public import proofs.«01_k».proof.Proof.Gen.MixIdeal.Skeleton

@[expose] public section

set_option maxRecDepth 16384

noncomputable section

namespace Cert.MixIdeal.Math

open Cert.MixIdeal Cert.MixIdeal.Gen Idealize.ShloMosaic Idealize.ShloMosaic.TcCoe
open Cert.MixReferenceIdeal.Math (sg half)

theorem prod_at (x : Vec Ideal S512x1024 .bf16) (w : Vec Ideal S1x1024x1024 .bf16) (r : Fin 512) (l : Fin 1024) :
    k0_pay7 x w (ix2 r l) = ∑ k : Fin 1024, x (ix2 r k) * w (ix3 0 l k) := by
  pointwise [k0_pay7]

theorem gateA_at (z : Vec Ideal S512x1024 .bf16) (b : Vec Ideal S1x1024 .f32) (r : Fin 512) (l : Fin 1024) :
    k0_pay8 z b (ix2 r l) = sg (z (ix2 r l) + b (ix2 0 l)) := by
  pointwise [k0_pay8, sg]
  rw [zero_sub]

theorem gateB_at (z : Vec Ideal S512x1024 .bf16) (b : Vec Ideal S1x1024 .f32) (r : Fin 512) (l : Fin 1024) :
    k0_pay9 z b (ix2 r l) = sg (z (ix2 r l) + b (ix2 0 l)) := by
  pointwise [k0_pay9, sg]
  rw [zero_sub]

theorem halfA_at (p g : FVec Ideal S512x1024 .f32) (y : Vec Ideal S512x1024 .f32) (r : Fin 512) (l : Fin 1024) :
    k0_pay1 p g y (ix2 r l) = half (p (ix2 r l)) (y (ix2 r l)) (g (ix2 r l)) := by
  pointwise [k0_pay1, half]

theorem halfB_at (p g : FVec Ideal S512x1024 .f32) (y : Vec Ideal S512x1024 .f32) (r : Fin 512) (l : Fin 1024) :
    k0_pay2 p g y (ix2 r l) = half (p (ix2 r l)) (y (ix2 r l)) (g (ix2 r l)) := by
  pointwise [k0_pay2, half]

/-- The column sums of the two halves, side by side. -/
theorem sums_lo (p ga gb : FVec Ideal S512x1024 .f32) (ya yb : Vec Ideal S512x1024 .f32) (a : Fin 1) (l : Fin 2048) (h : (l : ℕ) < 1024) :
    k0_pay5 p ga gb ya yb (ix2 a l) = ∑ r : Fin 512, half (p (ix2 r ⟨l, h⟩)) (ya (ix2 r ⟨l, h⟩)) (ga (ix2 r ⟨l, h⟩)) := by
  simp only [← halfA_at]
  pointwise [k0_pay5, h]

theorem sums_hi (p ga gb : FVec Ideal S512x1024 .f32) (ya yb : Vec Ideal S512x1024 .f32) (a : Fin 1) (l : Fin 2048) (h : ¬(l : ℕ) < 1024) :
    k0_pay5 p ga gb ya yb (ix2 a l)
      = ∑ r : Fin 512, half (p (ix2 r ⟨l - 1024, by omega⟩)) (yb (ix2 r ⟨l - 1024, by omega⟩)) (gb (ix2 r ⟨l - 1024, by omega⟩)) := by
  simp only [← halfB_at]
  pointwise [k0_pay5, h]

theorem acc_at (p ga gb : FVec Ideal S512x1024 .f32) (ya yb : Vec Ideal S512x1024 .f32) (acc : Vec Ideal S1x2048 .f32) (j : S1x2048.Idx) :
    k0_pay6 p ga gb ya yb acc j = acc j + k0_pay5 p ga gb ya yb j := by
  pointwise [k0_pay6]

end Cert.MixIdeal.Math

end
-- ==== Proof.Mix.Value.lean ====
/-
  What the result arrays of the gate program hold at the end: the gradients the reference computes.
-/
module

public import proofs.«01_k».proof.Proof.Mix.Block
public import proofs.«01_k».proof.Proof.Gen.MixIdeal.Frame
public import Idealize.ShloMosaic.Lib.Pipeline.ValueKit

@[expose] public section

set_option maxRecDepth 16384

noncomputable section

namespace Cert.MixIdeal.Math

open Cert.MixIdeal Cert.MixIdeal.Gen Idealize.ShloMosaic Idealize.ShloMosaic.TcCoe Idealize.SL.Sem
open Idealize.ShloMosaic.Pipeline (Dat)
open Cert.MixReferenceIdeal.Math (prod gate dya dyb dlog dbias sg half)

variable (m : (ℓ : Loc nD τ sig) → Buf (Elt Ideal) ℓ)

/-- The block each operand's window reads at a point. -/
theorem idx : ∀ t : Fin cfg0.N, win0_0.index t = ![t.val, 0] ∧ win0_1.index t = ![0, 0, 0] ∧ win0_2.index t = ![t.val, 0] ∧ win0_3.index t = ![t.val, 0]
    ∧ win0_4.index t = ![t.val, 5] ∧ win0_5.index t = ![t.val, 6] ∧ win0_6.index t = ![0, 0] ∧ win0_7.index t = ![0, 1]
    ∧ win0_8.index t = ![t.val, 0] ∧ win0_9.index t = ![t.val, 0] ∧ win0_10.index t = ![t.val, 0] ∧ win0_11.index t = ![0, 0] :=
  (by decide +kernel : ∀ t : Fin grid0.N, _)

/-- The two cases of a grid point: the first, and every later one. -/
theorem cases (t : Fin cfg0.N) : (t.val % 8 = 0 ∧ ¬1 ≤ t.val) ∨ (¬t.val % 8 = 0 ∧ 1 ≤ t.val) := by
  have h : t.val < 8 := lt_of_lt_of_eq t.isLt N_0
  omega

section reads

variable (c : Dev nD) (t : Fin cfg0.N) (r : Fin 512) (R : Fin 4096) (hR : (R : ℕ) = t.val * 512 + r)
include hR

theorem read0 (k : Fin 1024) : (show FVec Ideal S512x1024 .bf16 from iblk m c 0 t) (ix2 r k) = (m ((c : Thread nD τ).loc main_arg0) : FVec Ideal S4096x1024 .bf16) (ix2 R k) := by
  blk_point [iblk, V, idx t]

theorem read2 (k : Fin 1024) : (show FVec Ideal S512x1024 .f32 from iblk m c 2 t) (ix2 r k) = (m ((c : Thread nD τ).loc main_arg2) : FVec Ideal S4096x1024 .f32) (ix2 R k) := by
  blk_point [iblk, V, idx t]

theorem read3 (k : Fin 1024) : (show FVec Ideal S512x1024 .f32 from iblk m c 3 t) (ix2 r k) = (m ((c : Thread nD τ).loc main_arg3) : FVec Ideal S4096x1024 .f32) (ix2 R k) := by
  blk_point [iblk, V, idx t]

theorem read4 (l : Fin 1024) (L : Fin 7168) (hL : (L : ℕ) = 5120 + l) :
    (show FVec Ideal S512x1024 .bf16 from iblk m c 4 t) (ix2 r l) = (m ((c : Thread nD τ).loc main_arg4) : FVec Ideal S4096x7168 .bf16) (ix2 R L) := by
  blk_point [iblk, V, idx t]

theorem read5 (l : Fin 1024) (L : Fin 7168) (hL : (L : ℕ) = 6144 + l) :
    (show FVec Ideal S512x1024 .bf16 from iblk m c 5 t) (ix2 r l) = (m ((c : Thread nD τ).loc main_arg4) : FVec Ideal S4096x7168 .bf16) (ix2 R L) := by
  blk_point [iblk, V, idx t]

omit hR

theorem read1 (l k : Fin 1024) : (show FVec Ideal S1x1024x1024 .bf16 from iblk m c 1 t) (ix3 0 l k) = (m ((c : Thread nD τ).loc main_arg1) : FVec Ideal S1024x1024 .bf16) (ix2 l k) := by
  blk_point [iblk, V, idx t]

theorem read6 (l : Fin 1024) (L : Fin 2048) (hL : (L : ℕ) = l) : (show FVec Ideal S1x1024 .f32 from iblk m c 6 t) (ix2 0 l) = (m ((c : Thread nD τ).loc main_arg5) : FVec Ideal S2048 .f32) (ix1 L) := by
  blk_point [iblk, V, idx t]

theorem read7 (l : Fin 1024) (L : Fin 2048) (hL : (L : ℕ) = 1024 + l) : (show FVec Ideal S1x1024 .f32 from iblk m c 7 t) (ix2 0 l) = (m ((c : Thread nD τ).loc main_arg5) : FVec Ideal S2048 .f32) (ix1 L) := by
  blk_point [iblk, V, idx t]

include hR

/-- The block's product is the reference's product at the block's rows. -/
theorem prod_eq (l : Fin 1024) : k0_pay7 (F := Ideal) (iblk m c 0 t) (iblk m c 1 t) (ix2 r l)
    = prod (m ((c : Thread nD τ).loc main_arg0)) (m ((c : Thread nD τ).loc main_arg1)) (ix2 R l) := by
  refine (prod_at _ _ r l).trans ((Finset.sum_congr rfl fun k _ => ?_).trans (Cert.MixReferenceIdeal.Math.prod_at _ _ R l).symm)
  exact congrArg₂ (· * ·) (read0 m c t r R hR k) (read1 m c t l k)

theorem gateA_eq (l : Fin 1024) (L : Fin 2048) (hL : (L : ℕ) = l) : k0_pay8 (F := Ideal) (iblk m c 4 t) (iblk m c 6 t) (ix2 r l)
    = gate (m ((c : Thread nD τ).loc main_arg4)) (m ((c : Thread nD τ).loc main_arg5)) (ix2 R L) := by
  refine (gateA_at _ _ r l).trans ((congrArg sg ?_).trans (Cert.MixReferenceIdeal.Math.gate_at _ _ R L).symm)
  exact congrArg₂ (· + ·) (read4 m c t r R hR l _ (by simp only; omega)) (read6 m c t l L hL)

theorem gateB_eq (l : Fin 1024) (L : Fin 2048) (hL : (L : ℕ) = 1024 + l) : k0_pay9 (F := Ideal) (iblk m c 5 t) (iblk m c 7 t) (ix2 r l)
    = gate (m ((c : Thread nD τ).loc main_arg4)) (m ((c : Thread nD τ).loc main_arg5)) (ix2 R L) := by
  refine (gateB_at _ _ r l).trans ((congrArg sg ?_).trans (Cert.MixReferenceIdeal.Math.gate_at _ _ R L).symm)
  exact congrArg₂ (· + ·) (read5 m c t r R hR l _ (by simp only; omega)) (read7 m c t l L hL)

theorem halfA_eq (l : Fin 1024) (L : Fin 2048) (hL : (L : ℕ) = l) :
    half (k0_pay7 (F := Ideal) (iblk m c 0 t) (iblk m c 1 t) (ix2 r l)) ((show FVec Ideal S512x1024 .f32 from iblk m c 2 t) (ix2 r l))
        (k0_pay8 (F := Ideal) (iblk m c 4 t) (iblk m c 6 t) (ix2 r l))
      = dlog (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R L) := by
  have hl : (⟨L, by omega⟩ : Fin 1024) = l := Fin.ext hL
  rw [Cert.MixReferenceIdeal.Math.dlog_lo _ _ _ _ _ _ R L (by omega), hl, ← Cert.MixReferenceIdeal.Math.gate_at, ← Cert.MixReferenceIdeal.Math.prod_at,
    prod_eq m c t r R hR, gateA_eq m c t r R hR l L hL, read2 m c t r R hR]

theorem halfB_eq (l : Fin 1024) (L : Fin 2048) (hL : (L : ℕ) = 1024 + l) :
    half (k0_pay7 (F := Ideal) (iblk m c 0 t) (iblk m c 1 t) (ix2 r l)) ((show FVec Ideal S512x1024 .f32 from iblk m c 3 t) (ix2 r l))
        (k0_pay9 (F := Ideal) (iblk m c 5 t) (iblk m c 7 t) (ix2 r l))
      = dlog (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R L) := by
  have hl : (⟨(L : ℕ) - 1024, by omega⟩ : Fin 1024) = l := Fin.ext (by simp only; omega)
  rw [Cert.MixReferenceIdeal.Math.dlog_hi _ _ _ _ _ _ R L (by omega), hl, ← Cert.MixReferenceIdeal.Math.gate_at, ← Cert.MixReferenceIdeal.Math.prod_at,
    prod_eq m c t r R hR, gateB_eq m c t r R hR l L hL, read3 m c t r R hR]

end reads

/-- The first branch's gradient at a point's block. -/
theorem point8 (c : Dev nD) (t : Fin cfg0.N) (y : S512x1024.Idx) (j : S4096x1024.Idx) (h0 : (j 0 : ℕ) = t.val * 512 + y 0) (h1 : (j 1 : ℕ) = y 1) :
    k0_pay10 (F := Ideal) (iblk m c 0 t) (iblk m c 1 t) (iblk m c 4 t) (iblk m c 6 t) y
      = dya (m ((c : Thread nD τ).loc main_arg0)) (m ((c : Thread nD τ).loc main_arg1)) (m ((c : Thread nD τ).loc main_arg4)) (m ((c : Thread nD τ).loc main_arg5)) j := by
  idx_vars y
  idx_vars j
  have hl : j1 = y1 := Fin.ext h1
  subst hl
  refine Eq.trans (b := k0_pay7 (F := Ideal) (iblk m c 0 t) (iblk m c 1 t) (ix2 y0 j1) * k0_pay8 (F := Ideal) (iblk m c 4 t) (iblk m c 6 t) (ix2 y0 j1)) ?_ ?_
  · pointwise [k0_pay10]
  · rw [prod_eq m c t y0 j0 h0, gateA_eq m c t y0 j0 h0 j1 ⟨j1, lt_trans j1.isLt (by decide)⟩ rfl, mul_comm]
    pointwise [dya]

/-- The second branch's gradient at a point's block. -/
theorem point9 (c : Dev nD) (t : Fin cfg0.N) (y : S512x1024.Idx) (j : S4096x1024.Idx) (h0 : (j 0 : ℕ) = t.val * 512 + y 0) (h1 : (j 1 : ℕ) = y 1) :
    k0_pay11 (F := Ideal) (iblk m c 0 t) (iblk m c 1 t) (iblk m c 5 t) (iblk m c 7 t) y
      = dyb (m ((c : Thread nD τ).loc main_arg0)) (m ((c : Thread nD τ).loc main_arg1)) (m ((c : Thread nD τ).loc main_arg4)) (m ((c : Thread nD τ).loc main_arg5)) j := by
  idx_vars y
  idx_vars j
  have hl : j1 = y1 := Fin.ext h1
  subst hl
  refine Eq.trans (b := k0_pay7 (F := Ideal) (iblk m c 0 t) (iblk m c 1 t) (ix2 y0 j1) * k0_pay9 (F := Ideal) (iblk m c 5 t) (iblk m c 7 t) (ix2 y0 j1)) ?_ ?_
  · pointwise [k0_pay11]
  · rw [prod_eq m c t y0 j0 h0, gateB_eq m c t y0 j0 h0 j1 ⟨1024 + j1, by have h : (j1 : ℕ) < 1024 := j1.isLt; omega⟩ rfl, mul_comm]
    pointwise [dyb]

/-- The first half of the gradient of the logits at a point's block. -/
theorem point10_lo (c : Dev nD) (t : Fin cfg0.N) (x : S512x1024.Idx) (j : S4096x2048.Idx) (h0 : (j 0 : ℕ) = t.val * 512 + x 0) (h1 : (j 1 : ℕ) = x 1) :
    k0_pay3 (F := Ideal) (k0_pay7 (iblk m c 0 t) (iblk m c 1 t)) (k0_pay8 (iblk m c 4 t) (iblk m c 6 t)) (iblk m c 2 t) x
      = dlog (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) j := by
  idx_vars x
  idx_vars j
  exact (halfA_at _ _ _ x0 x1).trans (halfA_eq m c t x0 j0 h0 x1 j1 h1)

/-- The second half of the gradient of the logits at a point's block. -/
theorem point10_hi (c : Dev nD) (t : Fin cfg0.N) (x : S512x1024.Idx) (j : S4096x2048.Idx) (h0 : (j 0 : ℕ) = t.val * 512 + x 0) (h1 : (j 1 : ℕ) = 1024 + x 1) :
    k0_pay4 (F := Ideal) (k0_pay7 (iblk m c 0 t) (iblk m c 1 t)) (k0_pay9 (iblk m c 5 t) (iblk m c 7 t)) (iblk m c 3 t) x
      = dlog (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) j := by
  idx_vars x
  idx_vars j
  exact (halfB_at _ _ _ x0 x1).trans (halfB_eq m c t x0 j0 h0 x1 j1 h1)

/-- The bias gradient: the points' column sums add up to the column sums of the whole array. -/
theorem sums_eq (c : Dev nD) (j : S1x2048.Idx) :
    (∑ p : Fin cfg0.N, k0_pay5 (F := Ideal) (k0_pay7 (iblk m c 0 p) (iblk m c 1 p)) (k0_pay8 (iblk m c 4 p) (iblk m c 6 p))
        (k0_pay9 (iblk m c 5 p) (iblk m c 7 p)) (iblk m c 2 p) (iblk m c 3 p) j)
      = dbias (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) j := by
  idx_vars j
  rw [Cert.MixReferenceIdeal.Math.dbias_at]
  by_cases h : (j1 : ℕ) < 1024
  · simp only [sums_lo _ _ _ _ _ _ _ h]
    refine Fin.sum_mul_add_congr fun t r hr => ?_
    exact halfA_eq m c t r _ rfl _ _ rfl
  · simp only [sums_hi _ _ _ _ _ _ _ h]
    refine Fin.sum_mul_add_congr fun t r hr => ?_
    exact halfB_eq m c t r _ rfl _ _ (by simp only; omega)

theorem final8 (c : Dev nD) : (dats m 0 c).arrAt 8 (cfgs 0).N
    = dya (m ((c : Thread nD τ).loc main_arg0)) (m ((c : Thread nD τ).loc main_arg1)) (m ((c : Thread nD τ).loc main_arg4)) (m ((c : Thread nD τ).loc main_arg5)) := by
  refine (dats m 0 c).arrAt_eq_of_covers 8 _ (by decide +kernel) fun t hf y => ?_
  blk_simp
  rw [after0_8]
  rcases cases t with h | h
  · rw [outsAt0_A m c t h.1 h.2]; frame_out
    exact point8 m c t y _ (by blk_simp [idx t]) (by blk_simp [idx t])
  · rw [outsAt0_B m c t h.1 h.2]; frame_out
    exact point8 m c t y _ (by blk_simp [idx t]) (by blk_simp [idx t])

theorem final9 (c : Dev nD) : (dats m 0 c).arrAt 9 (cfgs 0).N
    = dyb (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t hf y => ?_
  blk_simp
  rw [after0_9]
  rcases cases t with h | h
  · rw [outsAt0_A m c t h.1 h.2]; frame_out
    exact point9 m c t y _ (by blk_simp [idx t]) (by blk_simp [idx t])
  · rw [outsAt0_B m c t h.1 h.2]; frame_out
    exact point9 m c t y _ (by blk_simp [idx t]) (by blk_simp [idx t])

theorem final10 (c : Dev nD) : (dats m 0 c).arrAt 10 (cfgs 0).N
    = truncf .bf16 (dlog (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) Cert.MixReferenceIdeal.Gen.bitsLt_bf16_f32 := by
  refine (dats m 0 c).arrAt_eq_of_covers 10 _ (by decide +kernel) fun t hf y => ?_
  blk_simp
  rw [after0_10]
  rcases cases t with h | h
  · rw [outsAt0_A m c t h.1 h.2]; frame_out
    canon_tiles x h
    · exact point10_hi m c t x _ (by blk_simp [idx t]; omega) (by blk_simp [idx t]; omega)
    · exact point10_lo m c t x _ (by blk_simp [idx t]; omega) (by blk_simp [idx t]; omega)
  · rw [outsAt0_B m c t h.1 h.2]; frame_out
    canon_tiles x h
    · exact point10_hi m c t x _ (by blk_simp [idx t]; omega) (by blk_simp [idx t]; omega)
    · exact point10_lo m c t x _ (by blk_simp [idx t]; omega) (by blk_simp [idx t]; omega)

theorem final11 (c : Dev nD) : (dats m 0 c).arrAt 11 (cfgs 0).N
    = dbias (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0) _
    (fun t h j => by rw [outsAt0_A m c t h ((cases t).resolve_right fun k => k.1 h).2]; frame_out; rw [← zero_add (k0_pay5 _ _ _ _ _ j)])
    (fun t h j => by rw [outsAt0_B m c t h ((cases t).resolve_left fun k => h k.1).2]; frame_out; rw [acc_at])
    (le_of_eq N_0) t0_7 rfl j, zero_add]
  exact sums_eq m c j

end Cert.MixIdeal.Math

end
-- ==== Proof.Mix.Claim.lean ====
/-
  The claim about the gate's backward pass: over the reals the program and the reference leave the same results.
-/
module

public import proofs.«01_k».proof.Defs
public import proofs.«01_k».proof.Proof.Mix.Value
public import proofs.«01_k».proof.Proof.Gen.MixReferenceIdeal.Run

@[expose] public section

set_option maxRecDepth 16384

noncomputable section

namespace Cert.MixIdeal.Math

open Idealize.ShloMosaic Idealize.ShloMosaic.TcCoe Idealize.SL.Sem

theorem frame_reference : Cert.quiescent_MixReferenceIdeal := by
  intro m ρ _
  exact (θ_run Cert.MixReferenceIdeal.defs _ _).mono (fun r h => ⟨fun c => (h c).2.2.2.2, sem_eq_zero_of_no_sems (by decide) r.2⟩)
    (Cert.MixReferenceIdeal.Value.run m ρ)

theorem algebraic : Cert.algebraic_MixIdeal_MixReferenceIdeal := by
  pair_intro
  · run_from Cert.MixIdeal.Gen.run_main m g
  · run_from Cert.MixReferenceIdeal.Value.run m' g'
    · exact (final8 m c).symm
    · exact (final9 m c).symm
    · exact (final10 m c).symm
    · exact (final11 m c).symm

end Cert.MixIdeal.Math

end
-- ==== Proof.Norm.Scalar.lean ====
/-
  The derivative of the root-mean-square norm over the extended reals: the closed form
  `rstd · gy − x · rstd³ · mean (x · gy)` is what differentiating the norm line by line gives.
-/
module

public import Idealize.ShloMosaic.Lib.Pointwise
public import Idealize.ShloMosaic.Lib.Claim

@[expose] public section

set_option maxRecDepth 16384

noncomputable section

namespace Cert.Norm

open Idealize.ShloMosaic

/-- The number of columns, as the programs write it. -/
abbrev width : EReal := Ideal.ofBits .f32 0x44800000#32
/-- The small number added to the mean square. -/
abbrev eps : EReal := Ideal.ofBits .f32 0x358637BD#32
/-- Minus one half. -/
abbrev mhalf : EReal := Ideal.ofBits .f32 0xBF000000#32

theorem cols_eq : width = ((1024 : ℝ) : EReal) := by
  simp [Ideal.ofBits, Ideal.ieee, -EReal.coe_mul]; norm_num

theorem eps_pos : ∃ e : ℝ, 0 < e ∧ eps = (e : EReal) := by
  refine ⟨_, ?_, by simp [Ideal.ofBits, Ideal.ieee, -EReal.coe_mul]; rfl⟩
  norm_num

theorem mhalf_eq : mhalf = ((-(1 / 2) : ℝ) : EReal) := by
  simp [Ideal.ofBits, Ideal.ieee, -EReal.coe_mul, -EReal.coe_neg]; norm_num

variable (x y g : Fin 1024 → EReal)

/-- The mean square of a row, with the small number added. -/
def ms : EReal := Ideal.div (∑ k : Fin 1024, x k * x k) width + eps

/-- The reciprocal root mean square. -/
def rstd : EReal := Ideal.rsqrt (ms x)

/-- The sum a row's derivative subtracts. -/
def sxy : EReal := ∑ k : Fin 1024, x k * (y k * g k)

/-- The closed form of the derivative at column `l`, with the residual `d` added. -/
def closed (d : EReal) (l : Fin 1024) : EReal :=
  rstd x * (y l * g l) - x l * (rstd x * rstd x * rstd x) * Ideal.div (sxy x y g) width + d

/-- The derivative through the mean square. -/
def through : EReal := Ideal.div (sxy x y g * (mhalf * Ideal.div (rstd x) (ms x))) width

/-- The derivative as the rules of differentiation give it, with the residual `d` added. -/
def lines (d : EReal) (l : Fin 1024) : EReal :=
  d + y l * g l * rstd x + x l * through x y g + x l * through x y g

theorem lines_congr {x x' y y' g g' : Fin 1024 → EReal} {d d' : EReal} {l : Fin 1024} (hx : x = x') (hy : y = y') (hg : g = g') (hd : d = d') :
    lines x y g d l = lines x' y' g' d' l := by
  rw [hx, hy, hg, hd]

theorem sq_nonneg (a : EReal) : 0 ≤ a * a := by
  induction a with
  | bot => simp
  | top => simp
  | coe r => exact_mod_cast mul_self_nonneg r

/-- The mean square with the small number added is a positive real, or infinite. -/
theorem ms_cases : ms x = ⊤ ∨ ∃ v : ℝ, 0 < v ∧ ms x = (v : EReal) := by
  obtain ⟨e, he, hE⟩ := eps_pos
  have hs : 0 ≤ Ideal.div (∑ k : Fin 1024, x k * x k) width := by
    rw [cols_eq, Ideal.div_coe (by norm_num)]
    exact mul_nonneg (Finset.sum_nonneg fun k _ => sq_nonneg _) (by exact_mod_cast (by norm_num : (0 : ℝ) ≤ 1 / 1024))
  unfold ms
  rw [hE]
  generalize Ideal.div (∑ k : Fin 1024, x k * x k) width = s at hs
  induction s with
  | bot => simp at hs
  | top => left; exact EReal.top_add_coe e
  | coe r =>
    right
    have hr : 0 ≤ r := by exact_mod_cast hs
    exact ⟨r + e, by positivity, by push_cast; rfl⟩

theorem twice (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

theorem closed_eq (d : EReal) (l : Fin 1024) : closed x y g d l = lines x y g d l := by
  unfold closed lines through
  have key : x l * (rstd x * rstd x * rstd x) * Ideal.div (sxy x y g) width
      = -(((2 : ℝ) : EReal) * (x l * Ideal.div (sxy x y g * (mhalf * Ideal.div (rstd x) (ms x))) width)) := by
    rw [cols_eq, mhalf_eq, Ideal.div_coe (by norm_num), Ideal.div_coe (by norm_num)]
    unfold rstd
    rcases ms_cases x with h | ⟨v, hv, h⟩
    · rw [h]
      simp [Ideal.div]
    · rw [h, Ideal.rsqrt_coe, if_neg (by linarith), if_neg (by linarith), Ideal.div_coe (by linarith)]
      generalize sxy x y g = s
      generalize x l = a
      have hv2 : (1 / v : ℝ) = (Real.sqrt v)⁻¹ * (Real.sqrt v)⁻¹ := by
        rw [← mul_inv, Real.mul_self_sqrt hv.le, one_div]
      rw [hv2]
      generalize (Real.sqrt v)⁻¹ = i
      have e1 : a * ((i : EReal) * i * i) * (s * ((1 / 1024 : ℝ) : EReal)) = a * s * ((i * i * i * (1 / 1024) : ℝ) : EReal) := by
        push_cast; ac_rfl
      have e2 : ((2 : ℝ) : EReal) * (a * (s * (((-(1 / 2) : ℝ) : EReal) * ((i : EReal) * ((i * i : ℝ) : EReal))) * ((1 / 1024 : ℝ) : EReal)))
          = a * s * ((2 * -(1 / 2) * (i * i * i) * (1 / 1024) : ℝ) : EReal) := by
        push_cast; ac_rfl
      rw [e1, e2, ← mul_neg, ← EReal.coe_neg]
      congr 2
      ring
  rw [key, sub_eq_add_neg, neg_neg, ← twice]
  ac_rfl

end Cert.Norm

end
-- ==== Proof.NormIn.Block.lean ====
/-
  What the first norm's backward program stores at one grid point, read at an index: the partial products, the four row
  tiles of the derivative, and the column sums of the gain's gradient.
-/
module

public import proofs.«01_k».proof.Proof.Norm.Scalar
public import proofs.«01_k».proof.Proof.Gen.NormInIdeal.Skeleton

@[expose] public section

set_option maxRecDepth 16384

noncomputable section

namespace Cert.NormInIdeal.Math

open Cert.NormInIdeal Cert.NormInIdeal.Gen Idealize.ShloMosaic Idealize.ShloMosaic.TcCoe
open Cert.Norm

theorem part_at (a : Vec Ideal S1024x1792 .bf16) (w : Vec Ideal S1x1024x1792 .bf16) (r : Fin 1024) (l : Fin 1024) :
    k0_pay2 a w (ix2 r l) = ∑ k : Fin 1792, a (ix2 r k) * w (ix3 0 l k) := by
  pointwise [k0_pay2, k0_pay1]

theorem acc_at (a : Vec Ideal S1024x1792 .bf16) (w : Vec Ideal S1x1024x1792 .bf16) (v : Vec Ideal S1024x1024 .f32) (r : Fin 1024) (l : Fin 1024) :
    k0_pay3 a w v (ix2 r l) = v (ix2 r l) + ∑ k : Fin 1792, a (ix2 r k) * w (ix3 0 l k) := by
  pointwise [k0_pay3, k0_pay1]

variable (x y : Vec Ideal S256x1024 .f32) (g : Vec Ideal S1x1024 .f32) (d : Vec Ideal S256x1024 .f32) (v : FVec Ideal S1x1024 .f32)

/-- One row tile of the derivative. -/
def tile (r : Fin 256) (l : Fin 1024) : EReal :=
  closed (fun k => x (ix2 r k)) (fun k => y (ix2 r k)) (fun k => g (ix2 0 k)) (d (ix2 r l)) l

/-- One row tile's column sums. -/
def colSum (l : Fin 1024) : EReal := ∑ r : Fin 256, y (ix2 r l) * x (ix2 r l) * rstd fun k => x (ix2 r k)

theorem tile0_at (r : Fin 256) (l : Fin 1024) : k0_pay9 x y g d (ix2 r l) = tile x y g d r l := by
  pointwise [k0_pay9, k0_pay8, tile, closed, sxy, rstd, ms]

theorem tile1_at (r : Fin 256) (l : Fin 1024) : k0_pay12 x y g d (ix2 r l) = tile x y g d r l := by
  pointwise [k0_pay12, k0_pay11, tile, closed, sxy, rstd, ms]

theorem tile2_at (r : Fin 256) (l : Fin 1024) : k0_pay16 x y (k0_pay14 x) g d (ix2 r l) = tile x y g d r l := by
  pointwise [k0_pay16, k0_pay15, k0_pay14, tile, closed, sxy, rstd, ms]

theorem tile3_at (r : Fin 256) (l : Fin 1024) : k0_pay5 x y (k0_pay18 x) g d (ix2 r l) = tile x y g d r l := by
  pointwise [k0_pay5, k0_pay4, k0_pay18, tile, closed, sxy, rstd, ms]

theorem cols0_at (a : Fin 1) (l : Fin 1024) : k0_pay10 x y (ix2 a l) = colSum x y l := by
  pointwise [k0_pay10, k0_pay8, colSum, rstd, ms]

theorem cols1_at (a : Fin 1) (l : Fin 1024) : k0_pay13 v x y (ix2 a l) = v (ix2 a l) + colSum x y l := by
  pointwise [k0_pay13, k0_pay11, colSum, rstd, ms]

theorem cols2_at (a : Fin 1) (l : Fin 1024) : k0_pay17 v x y (k0_pay14 x) (ix2 a l) = v (ix2 a l) + colSum x y l := by
  pointwise [k0_pay17, k0_pay15, k0_pay14, colSum, rstd, ms]

theorem cols3_at (a : Fin 1) (l : Fin 1024) : k0_pay6 v x y (k0_pay18 x) (ix2 a l) = v (ix2 a l) + colSum x y l := by
  pointwise [k0_pay6, k0_pay4, k0_pay18, colSum, rstd, ms]

theorem total_at (w : Vec Ideal S1x1024 .f32) (a : Fin 1) (l : Fin 1024) : k0_pay7 v x y (k0_pay18 x) w (ix2 a l) = w (ix2 a l) + (v (ix2 a l) + colSum x y l) := by
  rw [← cols3_at]
  pointwise [k0_pay7]

end Cert.NormInIdeal.Math

end
-- ==== Proof.NormIn.Reference.lean ====
/-
  What the reference of the first norm's backward program computes, read at an index.
-/
module

public import proofs.«01_k».proof.Proof.Norm.Scalar
public import proofs.«01_k».proof.Proof.Gen.NormInReferenceIdeal.Run

@[expose] public section

set_option maxRecDepth 16384

noncomputable section

namespace Cert.NormInReferenceIdeal.Math

open Cert.NormInReferenceIdeal Cert.NormInReferenceIdeal.Gen Idealize.ShloMosaic Idealize.ShloMosaic.TcCoe Idealize.SL.Sem
open Cert.Norm

/-- The gradient of the normed rows: `dz · wᵀ`. -/
def prod (dz : FVec Ideal S4096x7168 .bf16) (w : FVec Ideal S1024x7168 .bf16) : FVec Ideal S4096x1024 .f32 :=
  Host.dotGeneral dot_S4096x7168_S1024x7168_S4096x1024_1_1_0_0_n_n none (extf .f32 dz bitsLt_bf16_f32) (extf .f32 w bitsLt_bf16_f32)

theorem prod_at (dz : FVec Ideal S4096x7168 .bf16) (w : FVec Ideal S1024x7168 .bf16) (r : Fin 4096) (l : Fin 1024) :
    prod dz w (ix2 r l) = ∑ k : Fin 7168, dz (ix2 r k) * w (ix2 l k) := by
  pointwise [prod]

variable (p x : FVec Ideal S4096x1024 .f32) (g : FVec Ideal S1024 .f32) (d : FVec Ideal S4096x1024 .f32)

/-- The mean square of each row with the small number added. -/
def meanSq : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem meanSq_at (r : Fin 4096) (a : Fin 1) : meanSq x (ix2 r a) = ms fun k => x (ix2 r k) := by
  pointwise [meanSq, ms]

/-- The gradient of the rows before the norm, with the residual's cotangent `d`, read off the gradient `p` of the normed rows. -/
def dxOf : FVec Ideal S4096x1024 .f32 := fun j =>
  lines (fun k => x (ix2 (j 0) k)) (fun k => p (ix2 (j 0) k)) (fun k => g (ix1 k)) (d j) (j 1)

set_option maxHeartbeats 1000000 in
/-- It is what the reference's lines compute. -/
theorem dx_eq (m : (ℓ : Loc nD τ sig) → Buf (Elt Ideal) ℓ) (c : Dev nD) :
    Value.res_main_v40 m c = dxOf (prod (m ((c : Thread nD τ).loc main_arg0)) (m ((c : Thread nD τ).loc main_arg1))) (m ((c : Thread nD τ).loc main_arg2))
      (m ((c : Thread nD τ).loc main_arg3)) (m ((c : Thread nD τ).loc main_arg4)) := by
  refine funext fun j => ?_
  obtain ⟨r, l, rfl⟩ : ∃ r l, j = ix2 r l := ⟨j 0, j 1, (ix2_eta j).symm⟩
  show _ = lines _ _ _ _ l
  pointwise [Value.res_main_v40, lines, through, sxy, rstd, ms, prod]
  simp only [Finset.univ_unique, Finset.sum_singleton]
  exact congrArg₂ (· + ·) rfl (mul_comm _ _)

/-- The gradient of the norm's gain: the column sums. -/
def dg : FVec Ideal S1x1024 .f32 :=
  shapeCast _ (Host.reduceAdd (shapeCast _ (Host.reduceAdd (mulf (mulf x (broadcastInDim S4096x1024 ![0, 1] bcast_S4096x1_S4096x1024_0_1 (Host.rsqrt (meanSq x)))) p)
    (constant S_ .f32 0x00000000#32) reducesTo_S4096x1024_S1024_d0 h_S_) shapeCasts_S1024_S1x1024) (constant S_ .f32 0x00000000#32) reducesTo_S1x1024_S1024_d0 h_S_) shapeCasts_S1024_S1x1024

theorem dg_at (a : Fin 1) (l : Fin 1024) :
    dg p x (ix2 a l) = ∑ r : Fin 4096, p (ix2 r l) * x (ix2 r l) * rstd fun k => x (ix2 r k) := by
  simp only [rstd, ← meanSq_at x _ 0]
  pointwise [dg]
  simp only [Finset.univ_unique, Finset.sum_singleton]
  exact Finset.sum_congr rfl fun k _ => by ac_rfl

end Cert.NormInReferenceIdeal.Math

end
-- ==== Proof.Norm.Walk.lean ====
/-
  A running total kept along sixteen grid points, changed at every fourth of them only.
-/
module

public import Idealize.ShloMosaic.Lib.Pointwise

@[expose] public section

noncomputable section

namespace Cert.Norm

/-- The total starts at the third point with the first block's share and takes the next blocks' shares at the points 7, 11 and 15. -/
theorem walk (N : ℕ) (hN : N = 16) (f : (n : ℕ) → n < N → EReal) (b : (k : ℕ) → k < 4 → EReal)
    (hk : ∀ (n : ℕ) (h : n + 1 < N), ¬(n + 1) % 4 = 3 → f (n + 1) h = f n (Nat.lt_of_succ_lt h))
    (hs : ∀ (n : ℕ) (h : n + 1 < N) (hb : (n + 1) / 4 < 4), (n + 1) % 4 = 3 → ¬n + 1 < 4 → f (n + 1) h = f n (Nat.lt_of_succ_lt h) + b ((n + 1) / 4) hb)
    (h0 : ∀ (n : ℕ) (h : n < N), n = 3 → f n h = b 0 (by decide)) (n : ℕ) (hn : n < N) (e : n = 15) :
    f n hn = ((b 0 (by decide) + b 1 (by decide)) + b 2 (by decide)) + b 3 (by decide) := by
  subst hN e
  rw [hs 14 (by decide) (by decide) (by decide) (by decide), hk 13 (by decide) (by decide), hk 12 (by decide) (by decide), hk 11 (by decide) (by decide),
    hs 10 (by decide) (by decide) (by decide) (by decide), hk 9 (by decide) (by decide), hk 8 (by decide) (by decide), hk 7 (by decide) (by decide),
    hs 6 (by decide) (by decide) (by decide) (by decide), hk 5 (by decide) (by decide), hk 4 (by decide) (by decide), hk 3 (by decide) (by decide), h0 3 (by decide) rfl]

end Cert.Norm

end
-- ==== Proof.NormIn.Value.lean ====
/-
  What the result arrays of the first norm's backward program hold at the end: the gradients the reference computes.
-/
module

public import proofs.«01_k».proof.Proof.NormIn.Block
public import proofs.«01_k».proof.Proof.NormIn.Reference
public import proofs.«01_k».proof.Proof.Norm.Walk
public import proofs.«01_k».proof.Proof.Gen.NormInIdeal.Frame
public import Idealize.ShloMosaic.Lib.Pipeline.ValueKit
public import Idealize.ShloMosaic.Lib.Pipeline.ReadBack

@[expose] public section

set_option maxRecDepth 16384

noncomputable section

namespace Cert.NormInIdeal.Math

open Cert.NormInIdeal Cert.NormInIdeal.Gen Idealize.ShloMosaic Idealize.ShloMosaic.TcCoe Idealize.SL.Sem
open Idealize.ShloMosaic.Pipeline (Dat)
open Cert.NormInReferenceIdeal.Math (prod prod_at dg dg_at dxOf)
open Cert.Norm (lines rstd sxy closed closed_eq lines_congr)

variable (m : (ℓ : Loc nD τ sig) → Buf (Elt Ideal) ℓ)

/-- The block each operand's window holds at a point. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

/-- One point's share of the product. -/
def share (c : Dev nD) (t : Fin cfg0.N) (r l : Fin 1024) : EReal :=
  ∑ k : Fin 1792, (show FVec Ideal S1024x1792 .bf16 from iblk m c 0 t) (ix2 r k) * (show FVec Ideal S1x1024x1792 .bf16 from iblk m c 1 t) (ix3 0 l k)

theorem acc_first (c : Dev nD) (t : Fin cfg0.N) (h : t.val % 4 = 0) (r l : Fin 1024) :
    (outsAt0 m c t.val t.isLt).2.2 (ix2 r l) = share m c t r l := by
  rw [outsAt0_A m c t h (by omega) (by omega)]; frame_out
  rw [part_at]; rfl

theorem acc_next (c : Dev nD) (t : Fin cfg0.N) (h : ¬t.val % 4 = 0) (hp : t.val - 1 < cfg0.N) :
    (outsAt0 m c t.val t.isLt).2.2 = k0_pay3 (F := Ideal) (iblk m c 0 t) (iblk m c 1 t) (outsAt0 m c (t.val - 1) hp).2.2 := by
  by_cases h3 : t.val % 4 = 3
  · by_cases h4 : t.val < 4
    · rw [outsAt0_C m c t h (by omega) h3 h4 (by omega)]; frame_out
      exact congrArg (k0_pay3 (F := Ideal) (iblk m c 0 t) (iblk m c 1 t)) ((Memref.isWhole_whole cc0_scratch0).read_unread _)
    · rw [outsAt0_D m c t h (by omega) h3 h4 (by omega)]; frame_out
      exact congrArg (k0_pay3 (F := Ideal) (iblk m c 0 t) (iblk m c 1 t)) ((Memref.isWhole_whole cc0_scratch0).read_unread _)
  · rw [outsAt0_B m c t h (by omega) h3]; frame_out
    exact congrArg (k0_pay3 (F := Ideal) (iblk m c 0 t) (iblk m c 1 t)) ((Memref.isWhole_whole cc0_scratch0).read_unread _)

theorem acc_step (c : Dev nD) (t : Fin cfg0.N) (h : ¬t.val % 4 = 0) (hp : t.val - 1 < cfg0.N) (r l : Fin 1024) :
    (outsAt0 m c t.val t.isLt).2.2 (ix2 r l) = (outsAt0 m c (t.val - 1) hp).2.2 (ix2 r l) + share m c t r l := by
  rw [acc_next m c t h hp, acc_at]; rfl

/-- The accumulator at the last point of a row block: the whole product there. -/
theorem acc_last (c : Dev nD) (t : Fin cfg0.N) (h : t.val % 4 = 3) (r l : Fin 1024) (R : Fin 4096) (hR : (R : ℕ) = t.val / 4 * 1024 + r) :
    (outsAt0 m c t.val t.isLt).2.2 (ix2 r l) = prod (m ((c : Thread nD τ).loc main_arg0)) (m ((c : Thread nD τ).loc main_arg1)) (ix2 R l) := by
  have hN : t.val < 16 := t.isLt
  obtain ⟨u, hu⟩ : ∃ u : Fin cfg0.N, u.val = t.val - 1 := ⟨⟨t.val - 1, lt_of_le_of_lt (Nat.sub_le _ _) t.isLt⟩, rfl⟩
  obtain ⟨v, hv⟩ : ∃ v : Fin cfg0.N, v.val = t.val - 2 := ⟨⟨t.val - 2, lt_of_le_of_lt (Nat.sub_le _ _) t.isLt⟩, rfl⟩
  obtain ⟨w, hw⟩ : ∃ w : Fin cfg0.N, w.val = t.val - 3 := ⟨⟨t.val - 3, lt_of_le_of_lt (Nat.sub_le _ _) t.isLt⟩, rfl⟩
  have back : ∀ (p q : Fin cfg0.N) (hq : q.val = p.val - 1) (hp : p.val - 1 < cfg0.N), (outsAt0 m c (p.val - 1) hp).2.2 (ix2 r l) = (outsAt0 m c q.val q.isLt).2.2 (ix2 r l) := by
    intro p q hq hp; obtain ⟨q, hqq⟩ := q; simp only at hq; subst hq; rfl
  rw [acc_step m c t (by omega) (by omega), back t u hu, acc_step m c u (by omega) (by omega), back u v (by omega), acc_step m c v (by omega) (by omega),
    back v w (by omega), acc_first m c w (by omega), prod_at]
  refine Eq.trans ?_ (Fin.sum_univ_add (a := 5376) (b := 1792) _).symm
  refine congrArg₂ (· + ·) (Eq.trans ?_ (Fin.sum_univ_add (a := 3584) (b := 1792) _).symm) ?_
  · refine congrArg₂ (· + ·) (Eq.trans ?_ (Fin.sum_univ_add (a := 1792) (b := 1792) _).symm) ?_
    · refine congrArg₂ (· + ·) ?_ ?_
      · refine Finset.sum_congr rfl fun k _ => ?_
        have ek : ((Fin.castAdd 1792 (Fin.castAdd 1792 (Fin.castAdd 1792 k)) : Fin (5376 + 1792)) : ℕ) = k := rfl
        have e : w.val % 4 = 0 := by omega
        have e' : w.val / 4 = t.val / 4 := by omega
        blk_point [iblk, V, idx w]
      · refine Finset.sum_congr rfl fun k _ => ?_
        have ek : ((Fin.castAdd 1792 (Fin.castAdd 1792 (Fin.natAdd 1792 k)) : Fin (5376 + 1792)) : ℕ) = 1792 + k := rfl
        have e : v.val % 4 = 1 := by omega
        have e' : v.val / 4 = t.val / 4 := by omega
        blk_point [iblk, V, idx v]
    · refine Finset.sum_congr rfl fun k _ => ?_
      have ek : ((Fin.castAdd 1792 (Fin.natAdd 3584 k) : Fin (5376 + 1792)) : ℕ) = 3584 + k := rfl
      have e : u.val % 4 = 2 := by omega
      have e' : u.val / 4 = t.val / 4 := by omega
      blk_point [iblk, V, idx u]
  · refine Finset.sum_congr rfl fun k _ => ?_
    have ek : ((Fin.natAdd 5376 k : Fin (5376 + 1792)) : ℕ) = 5376 + k := rfl
    blk_point [iblk, V, idx t]

/-- A gain's gradient that this point does not touch keeps what the point before left. -/
theorem keep (c : Dev nD) (t : Fin cfg0.N) (h : ¬t.val % 4 = 3) (h0 : t.val ≠ 0) (hp : t.val - 1 < cfg0.N) :
    (outsAt0 m c t.val t.isLt).2.1 = (outsAt0 m c (t.val - 1) hp).2.1 := by
  by_cases h4 : t.val % 4 = 0
  · rw [outsAt0_A m c t h4 (by omega) (by omega)]; frame_out
    rfl
  · rw [outsAt0_B m c t h4 (by omega) h]; frame_out
    rfl

theorem start0 : ∀ a : Fin S1024x1024.rank, (![0, 0] : Fin 2 → ℕ) a = 0 := by decide

/-- 256 rows of a block, from row `o`. -/
abbrev rows (v : FVec Ideal S1024x1024 .f32) (o : ℕ) (inb : ∀ a, (![o, 0] : Fin 2 → ℕ) a + (![256, 1024] : Fin 2 → ℕ) a ≤ S1024x1024.size a) : FVec Ideal S256x1024 .f32 :=
  View.ld (Val := Elt Ideal) (S := S1024x1024) (e' := .f32) v (Rect.unit ![o, 0] ![256, 1024] inb)

theorem rows_at (v : FVec Ideal S1024x1024 .f32) (o : ℕ) (inb : ∀ a, (![o, 0] : Fin 2 → ℕ) a + (![256, 1024] : Fin 2 → ℕ) a ≤ S1024x1024.size a)
    (r : Fin 256) (k : Fin 1024) (h : o + (r : ℕ) < 1024) : rows v o inb (ix2 r k) = v (ix2 ⟨o + r, h⟩ k) := by
  pointwise [rows]

/-- A row tile of the derivative, from the rows the point holds. -/
theorem dx_tile (c : Dev nD) (t : Fin cfg0.N) (h3 : t.val % 4 = 3) (o : ℕ) (inb : ∀ a, (![o, 0] : Fin 2 → ℕ) a + (![256, 1024] : Fin 2 → ℕ) a ≤ S1024x1024.size a)
    (Y : FVec Ideal S1024x1024 .f32) (hY : Y = (outsAt0 m c t.val t.isLt).2.2) (r : Fin 256) (l : Fin 1024) (j : S4096x1024.Idx)
    (h0 : (j 0 : ℕ) = t.val / 4 * 1024 + (o + r)) (h1 : (j 1 : ℕ) = l) :
    tile (rows (show FVec Ideal S1024x1024 .f32 from iblk m c 2 t) o inb) (rows Y o inb) (iblk m c 3 t)
      (rows (show FVec Ideal S1024x1024 .f32 from iblk m c 4 t) o inb) r l
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j := by
  have ho : o + 256 ≤ 1024 := inb 0
  rw [tile, closed_eq]
  idx_vars j
  have e1 : j1 = l := Fin.ext h1
  subst e1
  have hx : ∀ k : Fin 1024, rows (show FVec Ideal S1024x1024 .f32 from iblk m c 2 t) o inb (ix2 r k)
      = (m ((c : Thread nD τ).loc main_arg2) : FVec Ideal S4096x1024 .f32) (ix2 j0 k) := fun k => by
    blk_point [rows, iblk, V, idx t]
  have hd : rows (show FVec Ideal S1024x1024 .f32 from iblk m c 4 t) o inb (ix2 r j1)
      = (m ((c : Thread nD τ).loc main_arg4) : FVec Ideal S4096x1024 .f32) (ix2 j0 j1) := by
    blk_point [rows, iblk, V, idx t]
  have hg : ∀ k : Fin 1024, (show FVec Ideal S1x1024 .f32 from iblk m c 3 t) (ix2 0 k)
      = (m ((c : Thread nD τ).loc main_arg3) : FVec Ideal S1024 .f32) (ix1 k) := fun k => by
    blk_point [iblk, V, idx t]
  have hp : ∀ k : Fin 1024, rows Y o inb (ix2 r k)
      = prod (m ((c : Thread nD τ).loc main_arg0)) (m ((c : Thread nD τ).loc main_arg1)) (ix2 j0 k) := fun k => by
    rw [← acc_last m c t h3 ⟨o + r, by omega⟩ k j0 h0, hY]
    exact rows_at _ o inb r k _
  exact lines_congr (funext hx) (funext hp) (funext hg) hd

/-- The accumulator as the body writes it at a later point. -/
theorem written (c : Dev nD) (t : Fin cfg0.N) (h : ¬t.val % 4 = 0) (hp : t.val - 1 < cfg0.N) :
    k0_pay3 (F := Ideal) (iblk m c 0 t) (iblk m c 1 t) (View.read (Elt Ideal) (View.whole cc0_scratch0) ((Memref.isWhole_whole cc0_scratch0).unread (outsAt0 m c (t.val - 1) hp).2.2))
      = (outsAt0 m c t.val t.isLt).2.2 :=
  (congrArg (k0_pay3 (F := Ideal) (iblk m c 0 t) (iblk m c 1 t)) ((Memref.isWhole_whole cc0_scratch0).read_unread _)).trans (acc_next m c t h hp).symm

theorem piece0 (c : Dev nD) (t : Fin cfg0.N) (h3 : t.val % 4 = 3)
    (Y : FVec Ideal S1024x1024 .f32) (hY : Y = (outsAt0 m c t.val t.isLt).2.2) (r : Fin 256) (l : Fin 1024) (j : S4096x1024.Idx)
    (h0 : (j 0 : ℕ) = t.val / 4 * 1024 + (0 + r)) (h1 : (j 1 : ℕ) = l) :
    k0_pay9 (F := Ideal) (rows (iblk m c 2 t) 0 inb_S1024x1024_S256x1024_0_0) (rows (Y) 0 inb_S1024x1024_S256x1024_0_0) (iblk m c 3 t) (rows (iblk m c 4 t) 0 inb_S1024x1024_S256x1024_0_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile0_at _ _ _ _ r l).trans (dx_tile m c t h3 0 inb_S1024x1024_S256x1024_0_0 Y hY r l j h0 h1)

theorem piece1 (c : Dev nD) (t : Fin cfg0.N) (h3 : t.val % 4 = 3)
    (Y : FVec Ideal S1024x1024 .f32) (hY : Y = (outsAt0 m c t.val t.isLt).2.2) (r : Fin 256) (l : Fin 1024) (j : S4096x1024.Idx)
    (h0 : (j 0 : ℕ) = t.val / 4 * 1024 + (256 + r)) (h1 : (j 1 : ℕ) = l) :
    k0_pay12 (F := Ideal) (rows (iblk m c 2 t) 256 inb_S1024x1024_S256x1024_256_0) (rows (Y) 256 inb_S1024x1024_S256x1024_256_0) (iblk m c 3 t) (rows (iblk m c 4 t) 256 inb_S1024x1024_S256x1024_256_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile1_at _ _ _ _ r l).trans (dx_tile m c t h3 256 inb_S1024x1024_S256x1024_256_0 Y hY r l j h0 h1)

theorem piece2 (c : Dev nD) (t : Fin cfg0.N) (h3 : t.val % 4 = 3)
    (Y : FVec Ideal S1024x1024 .f32) (hY : Y = (outsAt0 m c t.val t.isLt).2.2) (r : Fin 256) (l : Fin 1024) (j : S4096x1024.Idx)
    (h0 : (j 0 : ℕ) = t.val / 4 * 1024 + (512 + r)) (h1 : (j 1 : ℕ) = l) :
    k0_pay16 (F := Ideal) (rows (iblk m c 2 t) 512 inb_S1024x1024_S256x1024_512_0) (rows (Y) 512 inb_S1024x1024_S256x1024_512_0) (k0_pay14 (rows (iblk m c 2 t) 512 inb_S1024x1024_S256x1024_512_0)) (iblk m c 3 t) (rows (iblk m c 4 t) 512 inb_S1024x1024_S256x1024_512_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile2_at _ _ _ _ r l).trans (dx_tile m c t h3 512 inb_S1024x1024_S256x1024_512_0 Y hY r l j h0 h1)

theorem piece3 (c : Dev nD) (t : Fin cfg0.N) (h3 : t.val % 4 = 3)
    (Y : FVec Ideal S1024x1024 .f32) (hY : Y = (outsAt0 m c t.val t.isLt).2.2) (r : Fin 256) (l : Fin 1024) (j : S4096x1024.Idx)
    (h0 : (j 0 : ℕ) = t.val / 4 * 1024 + (768 + r)) (h1 : (j 1 : ℕ) = l) :
    k0_pay5 (F := Ideal) (rows (iblk m c 2 t) 768 inb_S1024x1024_S256x1024_768_0) (rows (Y) 768 inb_S1024x1024_S256x1024_768_0) (k0_pay18 (rows (iblk m c 2 t) 768 inb_S1024x1024_S256x1024_768_0)) (iblk m c 3 t) (rows (iblk m c 4 t) 768 inb_S1024x1024_S256x1024_768_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile3_at _ _ _ _ r l).trans (dx_tile m c t h3 768 inb_S1024x1024_S256x1024_768_0 Y hY r l j h0 h1)

theorem final5 (c : Dev nD) : (dats m 0 c).arrAt 5 (cfgs 0).N
    = dxOf (prod (m ((c : Thread nD τ).loc main_arg0)) (m ((c : Thread nD τ).loc main_arg1))) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5]
  by_cases h4 : t.val < 4
  · rw [outsAt0_C m c t (by omega) (by omega) h3 h4 (by omega)]; frame_out
    simp only [View.readCov_fill (s := S1024x1024) (off := ![0, 0]) _ _ _ _ _ start0]
    canon_tiles y h
    · idx_vars y
      exact piece3 m c t h3 _ (written m c t (by omega) (by omega)) y0 y1 _ (by blk_simp [idx t]; omega) (by blk_simp [idx t]; omega)
    · idx_vars y
      exact piece2 m c t h3 _ (written m c t (by omega) (by omega)) y0 y1 _ (by blk_simp [idx t]; omega) (by blk_simp [idx t]; omega)
    · idx_vars y
      exact piece1 m c t h3 _ (written m c t (by omega) (by omega)) y0 y1 _ (by blk_simp [idx t]; omega) (by blk_simp [idx t]; omega)
    · idx_vars y
      exact piece0 m c t h3 _ (written m c t (by omega) (by omega)) y0 y1 _ (by blk_simp [idx t]; omega) (by blk_simp [idx t]; omega)
  · rw [outsAt0_D m c t (by omega) (by omega) h3 h4 (by omega)]; frame_out
    simp only [View.readCov_fill (s := S1024x1024) (off := ![0, 0]) _ _ _ _ _ start0]
    canon_tiles y h
    · idx_vars y
      exact piece3 m c t h3 _ (written m c t (by omega) (by omega)) y0 y1 _ (by blk_simp [idx t]; omega) (by blk_simp [idx t]; omega)
    · idx_vars y
      exact piece2 m c t h3 _ (written m c t (by omega) (by omega)) y0 y1 _ (by blk_simp [idx t]; omega) (by blk_simp [idx t]; omega)
    · idx_vars y
      exact piece1 m c t h3 _ (written m c t (by omega) (by omega)) y0 y1 _ (by blk_simp [idx t]; omega) (by blk_simp [idx t]; omega)
    · idx_vars y
      exact piece0 m c t h3 _ (written m c t (by omega) (by omega)) y0 y1 _ (by blk_simp [idx t]; omega) (by blk_simp [idx t]; omega)

/-- What one row block adds to the gain's gradient. -/
def blockSum (c : Dev nD) (b : ℕ) (hb : b < 4) (l : Fin 1024) : EReal :=
  ∑ r : Fin 1024, prod (m ((c : Thread nD τ).loc main_arg0)) (m ((c : Thread nD τ).loc main_arg1)) (ix2 ⟨b * 1024 + r, by omega⟩ l)
    * (m ((c : Thread nD τ).loc main_arg2) : FVec Ideal S4096x1024 .f32) (ix2 ⟨b * 1024 + r, by omega⟩ l)
    * rstd fun k => (m ((c : Thread nD τ).loc main_arg2) : FVec Ideal S4096x1024 .f32) (ix2 ⟨b * 1024 + r, by omega⟩ k)

theorem blockSum_congr (c : Dev nD) (l : Fin 1024) {a b : ℕ} (h : a = b) (ha : a < 4) (hb : b < 4) : blockSum m c a ha l = blockSum m c b hb l := by
  subst h; rfl

/-- The same for 256 of its rows. -/
theorem col_tile (c : Dev nD) (t : Fin cfg0.N) (h3 : t.val % 4 = 3) (o : ℕ) (inb : ∀ a, (![o, 0] : Fin 2 → ℕ) a + (![256, 1024] : Fin 2 → ℕ) a ≤ S1024x1024.size a)
    (Y : FVec Ideal S1024x1024 .f32) (hY : Y = (outsAt0 m c t.val t.isLt).2.2) (hb : t.val / 4 < 4) (ho : o + 256 ≤ 1024) (l : Fin 1024) :
    colSum (rows (show FVec Ideal S1024x1024 .f32 from iblk m c 2 t) o inb) (rows Y o inb) l
      = ∑ r : Fin 256, prod (m ((c : Thread nD τ).loc main_arg0)) (m ((c : Thread nD τ).loc main_arg1)) (ix2 ⟨t.val / 4 * 1024 + (o + r), by omega⟩ l)
    * (m ((c : Thread nD τ).loc main_arg2) : FVec Ideal S4096x1024 .f32) (ix2 ⟨t.val / 4 * 1024 + (o + r), by omega⟩ l)
    * rstd fun k => (m ((c : Thread nD τ).loc main_arg2) : FVec Ideal S4096x1024 .f32) (ix2 ⟨t.val / 4 * 1024 + (o + r), by omega⟩ k) := by
  refine Finset.sum_congr rfl fun r _ => ?_
  have hx : ∀ k : Fin 1024, rows (show FVec Ideal S1024x1024 .f32 from iblk m c 2 t) o inb (ix2 r k)
      = (m ((c : Thread nD τ).loc main_arg2) : FVec Ideal S4096x1024 .f32) (ix2 ⟨t.val / 4 * 1024 + (o + r), by omega⟩ k) := fun k => by
    blk_point [rows, iblk, V, idx t]
  have hp : rows Y o inb (ix2 r l)
      = prod (m ((c : Thread nD τ).loc main_arg0)) (m ((c : Thread nD τ).loc main_arg1)) (ix2 ⟨t.val / 4 * 1024 + (o + r), by omega⟩ l) := by
    rw [← acc_last m c t h3 ⟨o + r, by omega⟩ l _ rfl, hY]
    exact rows_at _ o inb r l _
  exact congrArg₂ (· * ·) (congrArg₂ (· * ·) hp (hx l)) (congrArg rstd (funext hx))

/-- The four row tiles together are the row block. -/
theorem block_eq (c : Dev nD) (t : Fin cfg0.N) (h3 : t.val % 4 = 3)
    (Y : FVec Ideal S1024x1024 .f32) (hY : Y = (outsAt0 m c t.val t.isLt).2.2) (hb : t.val / 4 < 4) (l : Fin 1024) :
    ((colSum (rows (iblk m c 2 t) 0 inb_S1024x1024_S256x1024_0_0) (rows (Y) 0 inb_S1024x1024_S256x1024_0_0) l
      + colSum (rows (iblk m c 2 t) 256 inb_S1024x1024_S256x1024_256_0) (rows (Y) 256 inb_S1024x1024_S256x1024_256_0) l)
      + colSum (rows (iblk m c 2 t) 512 inb_S1024x1024_S256x1024_512_0) (rows (Y) 512 inb_S1024x1024_S256x1024_512_0) l)
      + colSum (rows (iblk m c 2 t) 768 inb_S1024x1024_S256x1024_768_0) (rows (Y) 768 inb_S1024x1024_S256x1024_768_0) l = blockSum m c (t.val / 4) hb l := by
  rw [blockSum]
  refine Eq.trans ?_ (Fin.sum_univ_add (a := 768) (b := 256) _).symm
  refine congrArg₂ (· + ·) (Eq.trans ?_ (Fin.sum_univ_add (a := 512) (b := 256) _).symm) ?_
  · refine congrArg₂ (· + ·) (Eq.trans ?_ (Fin.sum_univ_add (a := 256) (b := 256) _).symm) ?_
    · refine congrArg₂ (· + ·) ?_ ?_
      · refine (col_tile m c t h3 0 _ Y hY hb (by omega) l).trans (Finset.sum_congr rfl fun r _ => ?_)
        simp only [Fin.val_castAdd, Nat.zero_add]
      · refine (col_tile m c t h3 256 _ Y hY hb (by omega) l).trans (Finset.sum_congr rfl fun r _ => ?_)
        rfl
    · refine (col_tile m c t h3 512 _ Y hY hb (by omega) l).trans (Finset.sum_congr rfl fun r _ => ?_)
      rfl
  · refine (col_tile m c t h3 768 _ Y hY hb (by omega) l).trans (Finset.sum_congr rfl fun r _ => ?_)
    rfl

theorem gain_first (c : Dev nD) (t : Fin cfg0.N) (h3 : t.val % 4 = 3) (h4 : t.val < 4) (hb : t.val / 4 < 4) (l : Fin 1024) :
    (outsAt0 m c t.val t.isLt).2.1 (ix2 0 l) = blockSum m c (t.val / 4) hb l := by
  refine Eq.trans ?_ (block_eq m c t h3 _ (written m c t (by omega) (lt_of_le_of_lt (Nat.sub_le _ _) t.isLt)) hb l)
  rw [outsAt0_C m c t (by omega) (by omega) h3 h4 (by omega)]; frame_out
  simp only [View.readCov_fill (s := S1024x1024) (off := ![0, 0]) _ _ _ _ _ start0]
  rw [cols3_at, cols2_at, cols1_at, cols0_at]

theorem gain_next (c : Dev nD) (t : Fin cfg0.N) (h3 : t.val % 4 = 3) (h4 : ¬t.val < 4) (hb : t.val / 4 < 4) (hp : t.val - 1 < cfg0.N) (l : Fin 1024) :
    (outsAt0 m c t.val t.isLt).2.1 (ix2 0 l) = (outsAt0 m c (t.val - 1) hp).2.1 (ix2 0 l) + blockSum m c (t.val / 4) hb l := by
  refine Eq.trans ?_ (congrArg ((outsAt0 m c (t.val - 1) hp).2.1 (ix2 0 l) + ·) (block_eq m c t h3 _ (written m c t (by omega) hp) hb l))
  rw [outsAt0_D m c t (by omega) (by omega) h3 h4 (by omega)]; frame_out
  simp only [View.readCov_fill (s := S1024x1024) (off := ![0, 0]) _ _ _ _ _ start0]
  rw [total_at, cols2_at, cols1_at, cols0_at]

/-- After the last point: all four row blocks. -/
theorem gain_all (c : Dev nD) (n : ℕ) (hn : n < cfg0.N) (e : n = 15) (l : Fin 1024) : (outsAt0 m c n hn).2.1 (ix2 0 l)
    = dg (prod (m ((c : Thread nD τ).loc main_arg0)) (m ((c : Thread nD τ).loc main_arg1))) (m ((c : Thread nD τ).loc main_arg2)) (ix2 0 l) := by
  refine (Cert.Norm.walk cfg0.N rfl (fun n hn => (outsAt0 m c n hn).2.1 (ix2 0 l)) (fun k hk => blockSum m c k hk l)
    (fun n h hn => congrFun (keep m c ⟨n + 1, h⟩ hn (Nat.succ_ne_zero n) (Nat.lt_of_succ_lt h)) (ix2 0 l))
    (fun n h hb h3 h4 => gain_next m c ⟨n + 1, h⟩ h3 h4 hb (Nat.lt_of_succ_lt h) l)
    (fun n h e => (gain_first m c ⟨n, h⟩ (by simp only; omega) (by simp only; omega) (by simp only; omega) l).trans (blockSum_congr m c l (by simp only; omega) _ _)) n hn e).trans ?_
  rw [dg_at]
  refine Eq.trans ?_ (Fin.sum_univ_add (a := 3072) (b := 1024) _).symm
  refine congrArg₂ (· + ·) (Eq.trans ?_ (Fin.sum_univ_add (a := 2048) (b := 1024) _).symm) ?_
  · refine congrArg₂ (· + ·) (Eq.trans ?_ (Fin.sum_univ_add (a := 1024) (b := 1024) _).symm) ?_
    · refine congrArg₂ (· + ·) ?_ (Finset.sum_congr rfl fun r _ => rfl)
      refine Finset.sum_congr rfl fun r _ => ?_
      simp only [Nat.zero_mul, Nat.zero_add]
      rfl
    · exact Finset.sum_congr rfl fun r _ => rfl
  · exact Finset.sum_congr rfl fun r _ => rfl

theorem final6 (c : Dev nD) : (dats m 0 c).arrAt 6 (cfgs 0).N
    = dg (prod (m ((c : Thread nD τ).loc main_arg0)) (m ((c : Thread nD τ).loc main_arg1))) (m ((c : Thread nD τ).loc main_arg2)) := by
  refine (dats m 0 c).arrAt_eq_of_after_last 6 t0_15 (by decide +kernel) _ fun j => ?_
  blk_simp
  rw [after0_6]
  idx_vars j
  obtain rfl : j0 = 0 := Subsingleton.elim _ _
  exact gain_all m c _ _ rfl j1

end Cert.NormInIdeal.Math

end
-- ==== Proof.NormIn.Claim.lean ====
/-
  The claim about the first norm's backward pass: over the reals the program and the reference leave the same results.
-/
module

public import proofs.«01_k».proof.Defs
public import proofs.«01_k».proof.Proof.NormIn.Value
public import proofs.«01_k».proof.Proof.Gen.NormInReferenceIdeal.Run

@[expose] public section

set_option maxRecDepth 16384

noncomputable section

namespace Cert.NormInIdeal.Math

open Idealize.ShloMosaic Idealize.ShloMosaic.TcCoe Idealize.SL.Sem

theorem frame_reference : Cert.quiescent_NormInReferenceIdeal := by
  intro m ρ _
  exact (θ_run Cert.NormInReferenceIdeal.defs _ _).mono (fun r h => ⟨fun c => (h c).2.2, sem_eq_zero_of_no_sems (by decide) r.2⟩)
    (Cert.NormInReferenceIdeal.Value.run m ρ)

theorem algebraic : Cert.algebraic_NormInIdeal_NormInReferenceIdeal := by
  pair_intro
  · run_from Cert.NormInIdeal.Gen.run_main m g
  · run_from Cert.NormInReferenceIdeal.Value.run m' g'
    · refine (Cert.NormInReferenceIdeal.Math.dx_eq m' c).trans (Eq.trans ?_ (final5 m c).symm)
      rw [(hagree c).1, (hagree c).2.1, (hagree c).2.2.1, (hagree c).2.2.2.1, (hagree c).2.2.2.2]
    · exact (final6 m c).symm

end Cert.NormInIdeal.Math

end
-- ==== Proof.NormUp.Block.lean ====
/-
  What the second norm's backward program stores at one grid point, read at an index: the partial products, the four row
  tiles of the derivative, and the column sums of the gain's gradient.
-/
module

public import proofs.«01_k».proof.Proof.Norm.Scalar
public import proofs.«01_k».proof.Proof.Gen.NormUpIdeal.Skeleton

@[expose] public section

set_option maxRecDepth 16384

noncomputable section

namespace Cert.NormUpIdeal.Math

open Cert.NormUpIdeal Cert.NormUpIdeal.Gen Idealize.ShloMosaic Idealize.ShloMosaic.TcCoe
open Cert.Norm

theorem part_at (a : Vec Ideal S1024x1408 .bf16) (w : Vec Ideal S1x1024x1408 .bf16) (r : Fin 1024) (l : Fin 1024) :
    k0_pay2 a w (ix2 r l) = ∑ k : Fin 1408, a (ix2 r k) * w (ix3 0 l k) := by
  pointwise [k0_pay2, k0_pay1]

theorem acc_at (a : Vec Ideal S1024x1408 .bf16) (w : Vec Ideal S1x1024x1408 .bf16) (v : Vec Ideal S1024x1024 .f32) (r : Fin 1024) (l : Fin 1024) :
    k0_pay3 a w v (ix2 r l) = v (ix2 r l) + ∑ k : Fin 1408, a (ix2 r k) * w (ix3 0 l k) := by
  pointwise [k0_pay3, k0_pay1]

variable (x y : Vec Ideal S256x1024 .f32) (g : Vec Ideal S1x1024 .f32) (d : Vec Ideal S256x1024 .f32) (v : FVec Ideal S1x1024 .f32)

/-- One row tile of the derivative. -/
def tile (r : Fin 256) (l : Fin 1024) : EReal :=
  closed (fun k => x (ix2 r k)) (fun k => y (ix2 r k)) (fun k => g (ix2 0 k)) (d (ix2 r l)) l

/-- One row tile's column sums. -/
def colSum (l : Fin 1024) : EReal := ∑ r : Fin 256, y (ix2 r l) * x (ix2 r l) * rstd fun k => x (ix2 r k)

theorem tile0_at (r : Fin 256) (l : Fin 1024) : k0_pay7 x y g d (ix2 r l) = tile x y g d r l := by
  pointwise [k0_pay7, k0_pay6, tile, closed, sxy, rstd, ms]

/-- The same tile as stored rounded. -/
theorem half0_at (r : Fin 256) (l : Fin 1024) : k0_pay8 x y g d (ix2 r l) = tile x y g d r l := by
  rw [← tile0_at]
  pointwise [k0_pay8]

theorem tile1_at (r : Fin 256) (l : Fin 1024) : k0_pay11 x y g d (ix2 r l) = tile x y g d r l := by
  pointwise [k0_pay11, k0_pay10, tile, closed, sxy, rstd, ms]

/-- The same tile as stored rounded. -/
theorem half1_at (r : Fin 256) (l : Fin 1024) : k0_pay12 x y g d (ix2 r l) = tile x y g d r l := by
  rw [← tile1_at]
  pointwise [k0_pay12]

theorem tile2_at (r : Fin 256) (l : Fin 1024) : k0_pay15 x y g d (ix2 r l) = tile x y g d r l := by
  pointwise [k0_pay15, k0_pay14, tile, closed, sxy, rstd, ms]

/-- The same tile as stored rounded. -/
theorem half2_at (r : Fin 256) (l : Fin 1024) : k0_pay16 x y g d (ix2 r l) = tile x y g d r l := by
  rw [← tile2_at]
  pointwise [k0_pay16]

theorem tile3_at (r : Fin 256) (l : Fin 1024) : k0_pay19 x y g d (ix2 r l) = tile x y g d r l := by
  pointwise [k0_pay19, k0_pay18, tile, closed, sxy, rstd, ms]

/-- The same tile as stored rounded. -/
theorem half3_at (r : Fin 256) (l : Fin 1024) : k0_pay20 x y g d (ix2 r l) = tile x y g d r l := by
  rw [← tile3_at]
  pointwise [k0_pay20]

theorem zero_at (a : Fin 1) (l : Fin 1024) : (k0_pay5 : FVec Ideal S1x1024 .f32) (ix2 a l) = 0 := by
  pointwise [k0_pay5]

theorem cols0_at (a : Fin 1) (l : Fin 1024) : k0_pay9 x y (ix2 a l) = colSum x y l := by
  pointwise [k0_pay9, k0_pay6, colSum, rstd, ms]

theorem cols1_at (w : FVec Ideal S1x1024 .f32) (a : Fin 1) (l : Fin 1024) : k0_pay13 v w x y (ix2 a l) = (v (ix2 a l) + w (ix2 a l)) + colSum x y l := by
  pointwise [k0_pay13, k0_pay10, colSum, rstd, ms]

theorem cols2_at (a : Fin 1) (l : Fin 1024) : k0_pay17 v x y (ix2 a l) = v (ix2 a l) + colSum x y l := by
  pointwise [k0_pay17, k0_pay14, colSum, rstd, ms]

theorem cols3_at (a : Fin 1) (l : Fin 1024) : k0_pay21 v x y (ix2 a l) = v (ix2 a l) + colSum x y l := by
  pointwise [k0_pay21, k0_pay18, colSum, rstd, ms]

theorem total_at (w : Vec Ideal S1x1024 .f32) (a : Fin 1) (l : Fin 1024) : k0_pay4 v w (ix2 a l) = w (ix2 a l) + v (ix2 a l) := by
  pointwise [k0_pay4]

end Cert.NormUpIdeal.Math

end
-- ==== Proof.NormUp.Reference.lean ====
/-
  What the reference of the second norm's backward program computes, read at an index.
-/
module

public import proofs.«01_k».proof.Proof.Norm.Scalar
public import proofs.«01_k».proof.Proof.Gen.NormUpReferenceIdeal.Run

@[expose] public section

set_option maxRecDepth 16384

noncomputable section

namespace Cert.NormUpReferenceIdeal.Math

open Cert.NormUpReferenceIdeal Cert.NormUpReferenceIdeal.Gen Idealize.ShloMosaic Idealize.ShloMosaic.TcCoe Idealize.SL.Sem
open Cert.Norm

/-- The gradient of the normed rows: `dup · wᵀ`. -/
def prod (dup : FVec Ideal S4096x5632 .bf16) (w : FVec Ideal S1024x5632 .bf16) : FVec Ideal S4096x1024 .f32 :=
  Host.dotGeneral dot_S4096x5632_S1024x5632_S4096x1024_1_1_0_0_n_n none (extf .f32 dup bitsLt_bf16_f32) (extf .f32 w bitsLt_bf16_f32)

theorem prod_at (dup : FVec Ideal S4096x5632 .bf16) (w : FVec Ideal S1024x5632 .bf16) (r : Fin 4096) (l : Fin 1024) :
    prod dup w (ix2 r l) = ∑ k : Fin 5632, dup (ix2 r k) * w (ix2 l k) := by
  pointwise [prod]

variable (p x : FVec Ideal S4096x1024 .f32) (g : FVec Ideal S1024 .f32) (d : FVec Ideal S4096x1024 .f32)

/-- The mean square of each row with the small number added. -/
def meanSq : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem meanSq_at (r : Fin 4096) (a : Fin 1) : meanSq x (ix2 r a) = ms fun k => x (ix2 r k) := by
  pointwise [meanSq, ms]

/-- The gradient of the rows before the norm, with the residual's cotangent `d`, read off the gradient `p` of the normed rows. -/
def dxOf : FVec Ideal S4096x1024 .f32 := fun j =>
  lines (fun k => x (ix2 (j 0) k)) (fun k => p (ix2 (j 0) k)) (fun k => g (ix1 k)) (d j) (j 1)

set_option maxHeartbeats 1000000 in
/-- It is what the reference's lines compute. -/
theorem dx_eq (m : (ℓ : Loc nD τ sig) → Buf (Elt Ideal) ℓ) (c : Dev nD) :
    Value.res_main_v40 m c = dxOf (prod (m ((c : Thread nD τ).loc main_arg0)) (m ((c : Thread nD τ).loc main_arg1))) (m ((c : Thread nD τ).loc main_arg2))
      (m ((c : Thread nD τ).loc main_arg3)) (m ((c : Thread nD τ).loc main_arg4)) := by
  refine funext fun j => ?_
  obtain ⟨r, l, rfl⟩ : ∃ r l, j = ix2 r l := ⟨j 0, j 1, (ix2_eta j).symm⟩
  show _ = lines _ _ _ _ l
  pointwise [Value.res_main_v40, lines, through, sxy, rstd, ms, prod]
  simp only [Finset.univ_unique, Finset.sum_singleton]
  exact congrArg₂ (· + ·) rfl (mul_comm _ _)

/-- The same gradient, rounded for the product that reads it. -/
theorem half_eq (m : (ℓ : Loc nD τ sig) → Buf (Elt Ideal) ℓ) (c : Dev nD) :
    Value.res_main_v41 m c = truncf .bf16 (dxOf (prod (m ((c : Thread nD τ).loc main_arg0)) (m ((c : Thread nD τ).loc main_arg1))) (m ((c : Thread nD τ).loc main_arg2))
      (m ((c : Thread nD τ).loc main_arg3)) (m ((c : Thread nD τ).loc main_arg4))) bitsLt_bf16_f32 := by
  rw [← dx_eq]
  unfold Value.res_main_v41 Value.res_main_v40
  rfl

/-- The gradient of the norm's gain: the column sums. -/
def dg : FVec Ideal S1x1024 .f32 :=
  shapeCast _ (Host.reduceAdd (shapeCast _ (Host.reduceAdd (mulf (mulf x (broadcastInDim S4096x1024 ![0, 1] bcast_S4096x1_S4096x1024_0_1 (Host.rsqrt (meanSq x)))) p)
    (constant S_ .f32 0x00000000#32) reducesTo_S4096x1024_S1024_d0 h_S_) shapeCasts_S1024_S1x1024) (constant S_ .f32 0x00000000#32) reducesTo_S1x1024_S1024_d0 h_S_) shapeCasts_S1024_S1x1024

theorem dg_at (a : Fin 1) (l : Fin 1024) :
    dg p x (ix2 a l) = ∑ r : Fin 4096, p (ix2 r l) * x (ix2 r l) * rstd fun k => x (ix2 r k) := by
  simp only [rstd, ← meanSq_at x _ 0]
  pointwise [dg]
  simp only [Finset.univ_unique, Finset.sum_singleton]
  exact Finset.sum_congr rfl fun k _ => by ac_rfl

end Cert.NormUpReferenceIdeal.Math

end
-- ==== Proof.NormUp.Value.lean ====
/-
  What the result arrays of the second norm's backward program hold at the end: the gradients the reference computes.
-/
module

public import proofs.«01_k».proof.Proof.NormUp.Block
public import proofs.«01_k».proof.Proof.NormUp.Reference
public import proofs.«01_k».proof.Proof.Norm.Walk
public import proofs.«01_k».proof.Proof.Gen.NormUpIdeal.Frame
public import Idealize.ShloMosaic.Lib.Pipeline.ValueKit
public import Idealize.ShloMosaic.Lib.Pipeline.ReadBack

@[expose] public section

set_option maxRecDepth 16384

noncomputable section

namespace Cert.NormUpIdeal.Math

open Cert.NormUpIdeal Cert.NormUpIdeal.Gen Idealize.ShloMosaic Idealize.ShloMosaic.TcCoe Idealize.SL.Sem
open Idealize.ShloMosaic.Pipeline (Dat)
open Cert.NormUpReferenceIdeal.Math (prod prod_at dg dg_at dxOf)
open Cert.Norm (lines rstd sxy closed closed_eq lines_congr)

variable (m : (ℓ : Loc nD τ sig) → Buf (Elt Ideal) ℓ)

/-- The block each operand's window holds at a point. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0] ∧ win0_6.index t = ![t.val / 4, 0] ∧ win0_7.index t = ![0, 0] :=
  (by decide +kernel : ∀ t : Fin grid0.N, _)

/-- One point's share of the product. -/
def share (c : Dev nD) (t : Fin cfg0.N) (r l : Fin 1024) : EReal :=
  ∑ k : Fin 1408, (show FVec Ideal S1024x1408 .bf16 from iblk m c 0 t) (ix2 r k) * (show FVec Ideal S1x1024x1408 .bf16 from iblk m c 1 t) (ix3 0 l k)

theorem acc_first (c : Dev nD) (t : Fin cfg0.N) (h : t.val % 4 = 0) (r l : Fin 1024) :
    (outsAt0 m c t.val t.isLt).2.2.2 (ix2 r l) = share m c t r l := by
  rw [outsAt0_A m c t h (by omega) (by omega)]; frame_out
  rw [part_at]; rfl

theorem acc_next (c : Dev nD) (t : Fin cfg0.N) (h : ¬t.val % 4 = 0) (hp : t.val - 1 < cfg0.N) :
    (outsAt0 m c t.val t.isLt).2.2.2 = k0_pay3 (F := Ideal) (iblk m c 0 t) (iblk m c 1 t) (outsAt0 m c (t.val - 1) hp).2.2.2 := by
  by_cases h3 : t.val % 4 = 3
  · by_cases h4 : t.val < 4
    · rw [outsAt0_C m c t h (by omega) h3 h4 (by omega)]; frame_out
      exact congrArg (k0_pay3 (F := Ideal) (iblk m c 0 t) (iblk m c 1 t)) ((Memref.isWhole_whole cc0_scratch0).read_unread _)
    · rw [outsAt0_D m c t h (by omega) h3 h4 (by omega)]; frame_out
      exact congrArg (k0_pay3 (F := Ideal) (iblk m c 0 t) (iblk m c 1 t)) ((Memref.isWhole_whole cc0_scratch0).read_unread _)
  · rw [outsAt0_B m c t h (by omega) h3]; frame_out
    exact congrArg (k0_pay3 (F := Ideal) (iblk m c 0 t) (iblk m c 1 t)) ((Memref.isWhole_whole cc0_scratch0).read_unread _)

theorem acc_step (c : Dev nD) (t : Fin cfg0.N) (h : ¬t.val % 4 = 0) (hp : t.val - 1 < cfg0.N) (r l : Fin 1024) :
    (outsAt0 m c t.val t.isLt).2.2.2 (ix2 r l) = (outsAt0 m c (t.val - 1) hp).2.2.2 (ix2 r l) + share m c t r l := by
  rw [acc_next m c t h hp, acc_at]; rfl

/-- The accumulator at the last point of a row block: the whole product there. -/
theorem acc_last (c : Dev nD) (t : Fin cfg0.N) (h : t.val % 4 = 3) (r l : Fin 1024) (R : Fin 4096) (hR : (R : ℕ) = t.val / 4 * 1024 + r) :
    (outsAt0 m c t.val t.isLt).2.2.2 (ix2 r l) = prod (m ((c : Thread nD τ).loc main_arg0)) (m ((c : Thread nD τ).loc main_arg1)) (ix2 R l) := by
  have hN : t.val < 16 := t.isLt
  obtain ⟨u, hu⟩ : ∃ u : Fin cfg0.N, u.val = t.val - 1 := ⟨⟨t.val - 1, lt_of_le_of_lt (Nat.sub_le _ _) t.isLt⟩, rfl⟩
  obtain ⟨v, hv⟩ : ∃ v : Fin cfg0.N, v.val = t.val - 2 := ⟨⟨t.val - 2, lt_of_le_of_lt (Nat.sub_le _ _) t.isLt⟩, rfl⟩
  obtain ⟨w, hw⟩ : ∃ w : Fin cfg0.N, w.val = t.val - 3 := ⟨⟨t.val - 3, lt_of_le_of_lt (Nat.sub_le _ _) t.isLt⟩, rfl⟩
  have back : ∀ (p q : Fin cfg0.N) (hq : q.val = p.val - 1) (hp : p.val - 1 < cfg0.N), (outsAt0 m c (p.val - 1) hp).2.2.2 (ix2 r l) = (outsAt0 m c q.val q.isLt).2.2.2 (ix2 r l) := by
    intro p q hq hp; obtain ⟨q, hqq⟩ := q; simp only at hq; subst hq; rfl
  rw [acc_step m c t (by omega) (by omega), back t u hu, acc_step m c u (by omega) (by omega), back u v (by omega), acc_step m c v (by omega) (by omega),
    back v w (by omega), acc_first m c w (by omega), prod_at]
  refine Eq.trans ?_ (Fin.sum_univ_add (a := 4224) (b := 1408) _).symm
  refine congrArg₂ (· + ·) (Eq.trans ?_ (Fin.sum_univ_add (a := 2816) (b := 1408) _).symm) ?_
  · refine congrArg₂ (· + ·) (Eq.trans ?_ (Fin.sum_univ_add (a := 1408) (b := 1408) _).symm) ?_
    · refine congrArg₂ (· + ·) ?_ ?_
      · refine Finset.sum_congr rfl fun k _ => ?_
        have ek : ((Fin.castAdd 1408 (Fin.castAdd 1408 (Fin.castAdd 1408 k)) : Fin (4224 + 1408)) : ℕ) = k := rfl
        have e : w.val % 4 = 0 := by omega
        have e' : w.val / 4 = t.val / 4 := by omega
        blk_point [iblk, V, idx w]
      · refine Finset.sum_congr rfl fun k _ => ?_
        have ek : ((Fin.castAdd 1408 (Fin.castAdd 1408 (Fin.natAdd 1408 k)) : Fin (4224 + 1408)) : ℕ) = 1408 + k := rfl
        have e : v.val % 4 = 1 := by omega
        have e' : v.val / 4 = t.val / 4 := by omega
        blk_point [iblk, V, idx v]
    · refine Finset.sum_congr rfl fun k _ => ?_
      have ek : ((Fin.castAdd 1408 (Fin.natAdd 2816 k) : Fin (4224 + 1408)) : ℕ) = 2816 + k := rfl
      have e : u.val % 4 = 2 := by omega
      have e' : u.val / 4 = t.val / 4 := by omega
      blk_point [iblk, V, idx u]
  · refine Finset.sum_congr rfl fun k _ => ?_
    have ek : ((Fin.natAdd 4224 k : Fin (4224 + 1408)) : ℕ) = 4224 + k := rfl
    blk_point [iblk, V, idx t]

/-- A gain's gradient that this point does not touch keeps what the point before left. -/
theorem keep (c : Dev nD) (t : Fin cfg0.N) (h : ¬t.val % 4 = 3) (h0 : t.val ≠ 0) (hp : t.val - 1 < cfg0.N) :
    (outsAt0 m c t.val t.isLt).2.2.1 = (outsAt0 m c (t.val - 1) hp).2.2.1 := by
  by_cases h4 : t.val % 4 = 0
  · rw [outsAt0_A m c t h4 (by omega) (by omega)]; frame_out
    rfl
  · rw [outsAt0_B m c t h4 (by omega) h]; frame_out
    rfl

theorem start0 : ∀ a : Fin S1024x1024.rank, (![0, 0] : Fin 2 → ℕ) a = 0 := by decide

/-- 256 rows of a block, from row `o`. -/
abbrev rows (v : FVec Ideal S1024x1024 .f32) (o : ℕ) (inb : ∀ a, (![o, 0] : Fin 2 → ℕ) a + (![256, 1024] : Fin 2 → ℕ) a ≤ S1024x1024.size a) : FVec Ideal S256x1024 .f32 :=
  View.ld (Val := Elt Ideal) (S := S1024x1024) (e' := .f32) v (Rect.unit ![o, 0] ![256, 1024] inb)

theorem rows_at (v : FVec Ideal S1024x1024 .f32) (o : ℕ) (inb : ∀ a, (![o, 0] : Fin 2 → ℕ) a + (![256, 1024] : Fin 2 → ℕ) a ≤ S1024x1024.size a)
    (r : Fin 256) (k : Fin 1024) (h : o + (r : ℕ) < 1024) : rows v o inb (ix2 r k) = v (ix2 ⟨o + r, h⟩ k) := by
  pointwise [rows]

/-- A row tile of the derivative, from the rows the point holds. -/
theorem dx_tile (c : Dev nD) (t : Fin cfg0.N) (h3 : t.val % 4 = 3) (o : ℕ) (inb : ∀ a, (![o, 0] : Fin 2 → ℕ) a + (![256, 1024] : Fin 2 → ℕ) a ≤ S1024x1024.size a)
    (Y : FVec Ideal S1024x1024 .f32) (hY : Y = (outsAt0 m c t.val t.isLt).2.2.2) (r : Fin 256) (l : Fin 1024) (j : S4096x1024.Idx)
    (h0 : (j 0 : ℕ) = t.val / 4 * 1024 + (o + r)) (h1 : (j 1 : ℕ) = l) :
    tile (rows (show FVec Ideal S1024x1024 .f32 from iblk m c 2 t) o inb) (rows Y o inb) (iblk m c 3 t)
      (rows (show FVec Ideal S1024x1024 .f32 from iblk m c 4 t) o inb) r l
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j := by
  have ho : o + 256 ≤ 1024 := inb 0
  rw [tile, closed_eq]
  idx_vars j
  have e1 : j1 = l := Fin.ext h1
  subst e1
  have hx : ∀ k : Fin 1024, rows (show FVec Ideal S1024x1024 .f32 from iblk m c 2 t) o inb (ix2 r k)
      = (m ((c : Thread nD τ).loc main_arg2) : FVec Ideal S4096x1024 .f32) (ix2 j0 k) := fun k => by
    blk_point [rows, iblk, V, idx t]
  have hd : rows (show FVec Ideal S1024x1024 .f32 from iblk m c 4 t) o inb (ix2 r j1)
      = (m ((c : Thread nD τ).loc main_arg4) : FVec Ideal S4096x1024 .f32) (ix2 j0 j1) := by
    blk_point [rows, iblk, V, idx t]
  have hg : ∀ k : Fin 1024, (show FVec Ideal S1x1024 .f32 from iblk m c 3 t) (ix2 0 k)
      = (m ((c : Thread nD τ).loc main_arg3) : FVec Ideal S1024 .f32) (ix1 k) := fun k => by
    blk_point [iblk, V, idx t]
  have hp : ∀ k : Fin 1024, rows Y o inb (ix2 r k)
      = prod (m ((c : Thread nD τ).loc main_arg0)) (m ((c : Thread nD τ).loc main_arg1)) (ix2 j0 k) := fun k => by
    rw [← acc_last m c t h3 ⟨o + r, by omega⟩ k j0 h0, hY]
    exact rows_at _ o inb r k _
  exact lines_congr (funext hx) (funext hp) (funext hg) hd

/-- The accumulator as the body writes it at a later point. -/
theorem written (c : Dev nD) (t : Fin cfg0.N) (h : ¬t.val % 4 = 0) (hp : t.val - 1 < cfg0.N) :
    k0_pay3 (F := Ideal) (iblk m c 0 t) (iblk m c 1 t) (View.read (Elt Ideal) (View.whole cc0_scratch0) ((Memref.isWhole_whole cc0_scratch0).unread (outsAt0 m c (t.val - 1) hp).2.2.2))
      = (outsAt0 m c t.val t.isLt).2.2.2 :=
  (congrArg (k0_pay3 (F := Ideal) (iblk m c 0 t) (iblk m c 1 t)) ((Memref.isWhole_whole cc0_scratch0).read_unread _)).trans (acc_next m c t h hp).symm

theorem piece0 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (0 + r)) (h1 : (j 1 : ℕ) = l) :
    k0_pay7 (F := Ideal) (rows (iblk m c 2 t) 0 inb_S1024x1024_S256x1024_0_0) (rows (Y) 0 inb_S1024x1024_S256x1024_0_0) (iblk m c 3 t) (rows (iblk m c 4 t) 0 inb_S1024x1024_S256x1024_0_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile0_at _ _ _ _ r l).trans (dx_tile m c t h3 0 inb_S1024x1024_S256x1024_0_0 Y hY r l j h0 h1)

theorem piece1 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (256 + r)) (h1 : (j 1 : ℕ) = l) :
    k0_pay11 (F := Ideal) (rows (iblk m c 2 t) 256 inb_S1024x1024_S256x1024_256_0) (rows (Y) 256 inb_S1024x1024_S256x1024_256_0) (iblk m c 3 t) (rows (iblk m c 4 t) 256 inb_S1024x1024_S256x1024_256_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile1_at _ _ _ _ r l).trans (dx_tile m c t h3 256 inb_S1024x1024_S256x1024_256_0 Y hY r l j h0 h1)

theorem piece2 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (512 + r)) (h1 : (j 1 : ℕ) = l) :
    k0_pay15 (F := Ideal) (rows (iblk m c 2 t) 512 inb_S1024x1024_S256x1024_512_0) (rows (Y) 512 inb_S1024x1024_S256x1024_512_0) (iblk m c 3 t) (rows (iblk m c 4 t) 512 inb_S1024x1024_S256x1024_512_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile2_at _ _ _ _ r l).trans (dx_tile m c t h3 512 inb_S1024x1024_S256x1024_512_0 Y hY r l j h0 h1)

theorem piece3 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (768 + r)) (h1 : (j 1 : ℕ) = l) :
    k0_pay19 (F := Ideal) (rows (iblk m c 2 t) 768 inb_S1024x1024_S256x1024_768_0) (rows (Y) 768 inb_S1024x1024_S256x1024_768_0) (iblk m c 3 t) (rows (iblk m c 4 t) 768 inb_S1024x1024_S256x1024_768_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (tile3_at _ _ _ _ r l).trans (dx_tile m c t h3 768 inb_S1024x1024_S256x1024_768_0 Y hY r l j h0 h1)

theorem rounded0 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (0 + r)) (h1 : (j 1 : ℕ) = l) :
    k0_pay8 (F := Ideal) (rows (iblk m c 2 t) 0 inb_S1024x1024_S256x1024_0_0) (rows (Y) 0 inb_S1024x1024_S256x1024_0_0) (iblk m c 3 t) (rows (iblk m c 4 t) 0 inb_S1024x1024_S256x1024_0_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (half0_at _ _ _ _ r l).trans (dx_tile m c t h3 0 inb_S1024x1024_S256x1024_0_0 Y hY r l j h0 h1)

theorem rounded1 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (256 + r)) (h1 : (j 1 : ℕ) = l) :
    k0_pay12 (F := Ideal) (rows (iblk m c 2 t) 256 inb_S1024x1024_S256x1024_256_0) (rows (Y) 256 inb_S1024x1024_S256x1024_256_0) (iblk m c 3 t) (rows (iblk m c 4 t) 256 inb_S1024x1024_S256x1024_256_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (half1_at _ _ _ _ r l).trans (dx_tile m c t h3 256 inb_S1024x1024_S256x1024_256_0 Y hY r l j h0 h1)

theorem rounded2 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (512 + r)) (h1 : (j 1 : ℕ) = l) :
    k0_pay16 (F := Ideal) (rows (iblk m c 2 t) 512 inb_S1024x1024_S256x1024_512_0) (rows (Y) 512 inb_S1024x1024_S256x1024_512_0) (iblk m c 3 t) (rows (iblk m c 4 t) 512 inb_S1024x1024_S256x1024_512_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (half2_at _ _ _ _ r l).trans (dx_tile m c t h3 512 inb_S1024x1024_S256x1024_512_0 Y hY r l j h0 h1)

theorem rounded3 (c : Dev nD) (t : Fin cfg0.N) (h3 : t.val % 4 = 3)
    (Y : FVec Ideal S1024x1024 .f32) (hY : Y = (outsAt0 m c t.val t.isLt).2.2.2) (r : Fin 256) (l : Fin 1024) (j : S4096x1024.Idx)
    (h0 : (j 0 : ℕ) = t.val / 4 * 1024 + (768 + r)) (h1 : (j 1 : ℕ) = l) :
    k0_pay20 (F := Ideal) (rows (iblk m c 2 t) 768 inb_S1024x1024_S256x1024_768_0) (rows (Y) 768 inb_S1024x1024_S256x1024_768_0) (iblk m c 3 t) (rows (iblk m c 4 t) 768 inb_S1024x1024_S256x1024_768_0) (ix2 r l)
      = dxOf (prod (m ((c : Thread nD τ).loc main_arg0)) (m ((c : Thread nD τ).loc main_arg1))) (m ((c : Thread nD τ).loc main_arg2))
      (m ((c : Thread nD τ).loc main_arg3)) (m ((c : Thread nD τ).loc main_arg4)) j :=
  (half3_at _ _ _ _ r l).trans (dx_tile m c t h3 768 inb_S1024x1024_S256x1024_768_0 Y hY r l j h0 h1)

theorem final5 (c : Dev nD) : (dats m 0 c).arrAt 5 (cfgs 0).N
    = dxOf (prod (m ((c : Thread nD τ).loc main_arg0)) (m ((c : Thread nD τ).loc main_arg1))) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5]
  by_cases h4 : t.val < 4
  · rw [outsAt0_C m c t (by omega) (by omega) h3 h4 (by omega)]; frame_out
    simp only [View.readCov_fill (s := S1024x1024) (off := ![0, 0]) _ _ _ _ _ start0]
    canon_tiles y h
    · idx_vars y
      exact piece3 m c t h3 _ (written m c t (by omega) (by omega)) y0 y1 _ (by blk_simp [idx t]; omega) (by blk_simp [idx t]; omega)
    · idx_vars y
      exact piece2 m c t h3 _ (written m c t (by omega) (by omega)) y0 y1 _ (by blk_simp [idx t]; omega) (by blk_simp [idx t]; omega)
    · idx_vars y
      exact piece1 m c t h3 _ (written m c t (by omega) (by omega)) y0 y1 _ (by blk_simp [idx t]; omega) (by blk_simp [idx t]; omega)
    · idx_vars y
      exact piece0 m c t h3 _ (written m c t (by omega) (by omega)) y0 y1 _ (by blk_simp [idx t]; omega) (by blk_simp [idx t]; omega)
  · rw [outsAt0_D m c t (by omega) (by omega) h3 h4 (by omega)]; frame_out
    simp only [View.readCov_fill (s := S1024x1024) (off := ![0, 0]) _ _ _ _ _ start0]
    canon_tiles y h
    · idx_vars y
      exact piece3 m c t h3 _ (written m c t (by omega) (by omega)) y0 y1 _ (by blk_simp [idx t]; omega) (by blk_simp [idx t]; omega)
    · idx_vars y
      exact piece2 m c t h3 _ (written m c t (by omega) (by omega)) y0 y1 _ (by blk_simp [idx t]; omega) (by blk_simp [idx t]; omega)
    · idx_vars y
      exact piece1 m c t h3 _ (written m c t (by omega) (by omega)) y0 y1 _ (by blk_simp [idx t]; omega) (by blk_simp [idx t]; omega)
    · idx_vars y
      exact piece0 m c t h3 _ (written m c t (by omega) (by omega)) y0 y1 _ (by blk_simp [idx t]; omega) (by blk_simp [idx t]; omega)

theorem final6 (c : Dev nD) : (dats m 0 c).arrAt 6 (cfgs 0).N
    = truncf .bf16 (dxOf (prod (m ((c : Thread nD τ).loc main_arg0)) (m ((c : Thread nD τ).loc main_arg1))) (m ((c : Thread nD τ).loc main_arg2))
      (m ((c : Thread nD τ).loc main_arg3)) (m ((c : Thread nD τ).loc main_arg4))) Cert.NormUpReferenceIdeal.Gen.bitsLt_bf16_f32 := by
  refine (dats m 0 c).arrAt_eq_of_covers 6 _ (by decide +kernel) fun t hf y => ?_
  blk_simp
  have h3 := (flush0_6 t).mp hf
  rw [after0_6]
  by_cases h4 : t.val < 4
  · rw [outsAt0_C m c t (by omega) (by omega) h3 h4 (by omega)]; frame_out
    simp only [View.readCov_fill (s := S1024x1024) (off := ![0, 0]) _ _ _ _ _ start0]
    canon_tiles y h
    · idx_vars y
      exact rounded3 m c t h3 _ (written m c t (by omega) (by omega)) y0 y1 _ (by blk_simp [idx t]; omega) (by blk_simp [idx t]; omega)
    · idx_vars y
      exact rounded2 m c t h3 _ (written m c t (by omega) (by omega)) y0 y1 _ (by blk_simp [idx t]; omega) (by blk_simp [idx t]; omega)
    · idx_vars y
      exact rounded1 m c t h3 _ (written m c t (by omega) (by omega)) y0 y1 _ (by blk_simp [idx t]; omega) (by blk_simp [idx t]; omega)
    · idx_vars y
      exact rounded0 m c t h3 _ (written m c t (by omega) (by omega)) y0 y1 _ (by blk_simp [idx t]; omega) (by blk_simp [idx t]; omega)
  · rw [outsAt0_D m c t (by omega) (by omega) h3 h4 (by omega)]; frame_out
    simp only [View.readCov_fill (s := S1024x1024) (off := ![0, 0]) _ _ _ _ _ start0]
    canon_tiles y h
    · idx_vars y
      exact rounded3 m c t h3 _ (written m c t (by omega) (by omega)) y0 y1 _ (by blk_simp [idx t]; omega) (by blk_simp [idx t]; omega)
    · idx_vars y
      exact rounded2 m c t h3 _ (written m c t (by omega) (by omega)) y0 y1 _ (by blk_simp [idx t]; omega) (by blk_simp [idx t]; omega)
    · idx_vars y
      exact rounded1 m c t h3 _ (written m c t (by omega) (by omega)) y0 y1 _ (by blk_simp [idx t]; omega) (by blk_simp [idx t]; omega)
    · idx_vars y
      exact rounded0 m c t h3 _ (written m c t (by omega) (by omega)) y0 y1 _ (by blk_simp [idx t]; omega) (by blk_simp [idx t]; omega)

/-- What one row block adds to the gain's gradient. -/
def blockSum (c : Dev nD) (b : ℕ) (hb : b < 4) (l : Fin 1024) : EReal :=
  ∑ r : Fin 1024, prod (m ((c : Thread nD τ).loc main_arg0)) (m ((c : Thread nD τ).loc main_arg1)) (ix2 ⟨b * 1024 + r, by omega⟩ l)
    * (m ((c : Thread nD τ).loc main_arg2) : FVec Ideal S4096x1024 .f32) (ix2 ⟨b * 1024 + r, by omega⟩ l)
    * rstd fun k => (m ((c : Thread nD τ).loc main_arg2) : FVec Ideal S4096x1024 .f32) (ix2 ⟨b * 1024 + r, by omega⟩ k)

theorem blockSum_congr (c : Dev nD) (l : Fin 1024) {a b : ℕ} (h : a = b) (ha : a < 4) (hb : b < 4) : blockSum m c a ha l = blockSum m c b hb l := by
  subst h; rfl

/-- The same for 256 of its rows. -/
theorem col_tile (c : Dev nD) (t : Fin cfg0.N) (h3 : t.val % 4 = 3) (o : ℕ) (inb : ∀ a, (![o, 0] : Fin 2 → ℕ) a + (![256, 1024] : Fin 2 → ℕ) a ≤ S1024x1024.size a)
    (Y : FVec Ideal S1024x1024 .f32) (hY : Y = (outsAt0 m c t.val t.isLt).2.2.2) (hb : t.val / 4 < 4) (ho : o + 256 ≤ 1024) (l : Fin 1024) :
    colSum (rows (show FVec Ideal S1024x1024 .f32 from iblk m c 2 t) o inb) (rows Y o inb) l
      = ∑ r : Fin 256, prod (m ((c : Thread nD τ).loc main_arg0)) (m ((c : Thread nD τ).loc main_arg1)) (ix2 ⟨t.val / 4 * 1024 + (o + r), by omega⟩ l)
    * (m ((c : Thread nD τ).loc main_arg2) : FVec Ideal S4096x1024 .f32) (ix2 ⟨t.val / 4 * 1024 + (o + r), by omega⟩ l)
    * rstd fun k => (m ((c : Thread nD τ).loc main_arg2) : FVec Ideal S4096x1024 .f32) (ix2 ⟨t.val / 4 * 1024 + (o + r), by omega⟩ k) := by
  refine Finset.sum_congr rfl fun r _ => ?_
  have hx : ∀ k : Fin 1024, rows (show FVec Ideal S1024x1024 .f32 from iblk m c 2 t) o inb (ix2 r k)
      = (m ((c : Thread nD τ).loc main_arg2) : FVec Ideal S4096x1024 .f32) (ix2 ⟨t.val / 4 * 1024 + (o + r), by omega⟩ k) := fun k => by
    blk_point [rows, iblk, V, idx t]
  have hp : rows Y o inb (ix2 r l)
      = prod (m ((c : Thread nD τ).loc main_arg0)) (m ((c : Thread nD τ).loc main_arg1)) (ix2 ⟨t.val / 4 * 1024 + (o + r), by omega⟩ l) := by
    rw [← acc_last m c t h3 ⟨o + r, by omega⟩ l _ rfl, hY]
    exact rows_at _ o inb r l _
  exact congrArg₂ (· * ·) (congrArg₂ (· * ·) hp (hx l)) (congrArg rstd (funext hx))

/-- The four row tiles together are the row block. -/
theorem block_eq (c : Dev nD) (t : Fin cfg0.N) (h3 : t.val % 4 = 3)
    (Y : FVec Ideal S1024x1024 .f32) (hY : Y = (outsAt0 m c t.val t.isLt).2.2.2) (hb : t.val / 4 < 4) (l : Fin 1024) :
    ((colSum (rows (iblk m c 2 t) 0 inb_S1024x1024_S256x1024_0_0) (rows (Y) 0 inb_S1024x1024_S256x1024_0_0) l
      + colSum (rows (iblk m c 2 t) 256 inb_S1024x1024_S256x1024_256_0) (rows (Y) 256 inb_S1024x1024_S256x1024_256_0) l)
      + colSum (rows (iblk m c 2 t) 512 inb_S1024x1024_S256x1024_512_0) (rows (Y) 512 inb_S1024x1024_S256x1024_512_0) l)
      + colSum (rows (iblk m c 2 t) 768 inb_S1024x1024_S256x1024_768_0) (rows (Y) 768 inb_S1024x1024_S256x1024_768_0) l = blockSum m c (t.val / 4) hb l := by
  rw [blockSum]
  refine Eq.trans ?_ (Fin.sum_univ_add (a := 768) (b := 256) _).symm
  refine congrArg₂ (· + ·) (Eq.trans ?_ (Fin.sum_univ_add (a := 512) (b := 256) _).symm) ?_
  · refine congrArg₂ (· + ·) (Eq.trans ?_ (Fin.sum_univ_add (a := 256) (b := 256) _).symm) ?_
    · refine congrArg₂ (· + ·) ?_ ?_
      · refine (col_tile m c t h3 0 _ Y hY hb (by omega) l).trans (Finset.sum_congr rfl fun r _ => ?_)
        simp only [Fin.val_castAdd, Nat.zero_add]
      · refine (col_tile m c t h3 256 _ Y hY hb (by omega) l).trans (Finset.sum_congr rfl fun r _ => ?_)
        rfl
    · refine (col_tile m c t h3 512 _ Y hY hb (by omega) l).trans (Finset.sum_congr rfl fun r _ => ?_)
      rfl
  · refine (col_tile m c t h3 768 _ Y hY hb (by omega) l).trans (Finset.sum_congr rfl fun r _ => ?_)
    rfl

theorem gain_first (c : Dev nD) (t : Fin cfg0.N) (h3 : t.val % 4 = 3) (h4 : t.val < 4) (hb : t.val / 4 < 4) (l : Fin 1024) :
    (outsAt0 m c t.val t.isLt).2.2.1 (ix2 0 l) = blockSum m c (t.val / 4) hb l := by
  refine Eq.trans ?_ (block_eq m c t h3 _ (written m c t (by omega) (lt_of_le_of_lt (Nat.sub_le _ _) t.isLt)) hb l)
  rw [outsAt0_C m c t (by omega) (by omega) h3 h4 (by omega)]; frame_out
  simp only [View.readCov_fill (s := S1024x1024) (off := ![0, 0]) _ _ _ _ _ start0]
  rw [cols3_at, cols2_at, cols1_at, cols0_at, zero_at, zero_add]

theorem gain_next (c : Dev nD) (t : Fin cfg0.N) (h3 : t.val % 4 = 3) (h4 : ¬t.val < 4) (hb : t.val / 4 < 4) (hp : t.val - 1 < cfg0.N) (l : Fin 1024) :
    (outsAt0 m c t.val t.isLt).2.2.1 (ix2 0 l) = (outsAt0 m c (t.val - 1) hp).2.2.1 (ix2 0 l) + blockSum m c (t.val / 4) hb l := by
  refine Eq.trans ?_ (congrArg ((outsAt0 m c (t.val - 1) hp).2.2.1 (ix2 0 l) + ·) (block_eq m c t h3 _ (written m c t (by omega) hp) hb l))
  rw [outsAt0_D m c t (by omega) (by omega) h3 h4 (by omega)]; frame_out
  simp only [View.readCov_fill (s := S1024x1024) (off := ![0, 0]) _ _ _ _ _ start0]
  rw [total_at, cols3_at, cols2_at, cols1_at, cols0_at, zero_at, zero_add]

/-- After the last point: all four row blocks. -/
theorem gain_all (c : Dev nD) (n : ℕ) (hn : n < cfg0.N) (e : n = 15) (l : Fin 1024) : (outsAt0 m c n hn).2.2.1 (ix2 0 l)
    = dg (prod (m ((c : Thread nD τ).loc main_arg0)) (m ((c : Thread nD τ).loc main_arg1))) (m ((c : Thread nD τ).loc main_arg2)) (ix2 0 l) := by
  refine (Cert.Norm.walk cfg0.N rfl (fun n hn => (outsAt0 m c n hn).2.2.1 (ix2 0 l)) (fun k hk => blockSum m c k hk l)
    (fun n h hn => congrFun (keep m c ⟨n + 1, h⟩ hn (Nat.succ_ne_zero n) (Nat.lt_of_succ_lt h)) (ix2 0 l))
    (fun n h hb h3 h4 => gain_next m c ⟨n + 1, h⟩ h3 h4 hb (Nat.lt_of_succ_lt h) l)
    (fun n h e => (gain_first m c ⟨n, h⟩ (by simp only; omega) (by simp only; omega) (by simp only; omega) l).trans (blockSum_congr m c l (by simp only; omega) _ _)) n hn e).trans ?_
  rw [dg_at]
  refine Eq.trans ?_ (Fin.sum_univ_add (a := 3072) (b := 1024) _).symm
  refine congrArg₂ (· + ·) (Eq.trans ?_ (Fin.sum_univ_add (a := 2048) (b := 1024) _).symm) ?_
  · refine congrArg₂ (· + ·) (Eq.trans ?_ (Fin.sum_univ_add (a := 1024) (b := 1024) _).symm) ?_
    · refine congrArg₂ (· + ·) ?_ (Finset.sum_congr rfl fun r _ => rfl)
      refine Finset.sum_congr rfl fun r _ => ?_
      simp only [Nat.zero_mul, Nat.zero_add]
      rfl
    · exact Finset.sum_congr rfl fun r _ => rfl
  · exact Finset.sum_congr rfl fun r _ => rfl

theorem final7 (c : Dev nD) : (dats m 0 c).arrAt 7 (cfgs 0).N
    = dg (prod (m ((c : Thread nD τ).loc main_arg0)) (m ((c : Thread nD τ).loc main_arg1))) (m ((c : Thread nD τ).loc main_arg2)) := by
  refine (dats m 0 c).arrAt_eq_of_after_last 7 t0_15 (by decide +kernel) _ fun j => ?_
  blk_simp
  rw [after0_7]
  idx_vars j
  obtain rfl : j0 = 0 := Subsingleton.elim _ _
  exact gain_all m c _ _ rfl j1

end Cert.NormUpIdeal.Math

end
-- ==== Proof.NormUp.Claim.lean ====
/-
  The claim about the second norm's backward pass: over the reals the program and the reference leave the same results.
-/
module

public import proofs.«01_k».proof.Defs
public import proofs.«01_k».proof.Proof.NormUp.Value
public import proofs.«01_k».proof.Proof.Gen.NormUpReferenceIdeal.Run

@[expose] public section

set_option maxRecDepth 16384

noncomputable section

namespace Cert.NormUpIdeal.Math

open Idealize.ShloMosaic Idealize.ShloMosaic.TcCoe Idealize.SL.Sem

theorem frame_reference : Cert.quiescent_NormUpReferenceIdeal := by
  intro m ρ _
  exact (θ_run Cert.NormUpReferenceIdeal.defs _ _).mono (fun r h => ⟨fun c => (h c).2.2.2, sem_eq_zero_of_no_sems (by decide) r.2⟩)
    (Cert.NormUpReferenceIdeal.Value.run m ρ)

theorem algebraic : Cert.algebraic_NormUpIdeal_NormUpReferenceIdeal := by
  pair_intro
  · run_from Cert.NormUpIdeal.Gen.run_main m g
  · run_from Cert.NormUpReferenceIdeal.Value.run m' g'
    · refine (Cert.NormUpReferenceIdeal.Math.dx_eq m' c).trans (Eq.trans ?_ (final5 m c).symm)
      rw [(hagree c).1, (hagree c).2.1, (hagree c).2.2.1, (hagree c).2.2.2.1, (hagree c).2.2.2.2]
    · refine (Cert.NormUpReferenceIdeal.Math.half_eq m' c).trans (Eq.trans ?_ (final6 m c).symm)
      rw [(hagree c).1, (hagree c).2.1, (hagree c).2.2.1, (hagree c).2.2.2.1, (hagree c).2.2.2.2]
    · exact (final7 m c).symm

end Cert.NormUpIdeal.Math

end
-- ==== Proof.DwIn.Value.lean ====
/-
  The gradient of the input projection's weight: what the program leaves in its two result arrays is what the
  reference computes, the columns laid out in four shards.
-/
module

public import proofs.«01_k».proof.Proof.Gen.DwInIdeal.Frame
public import proofs.«01_k».proof.Proof.Gen.DwInReferenceIdeal
public import Idealize.ShloMosaic.Lib.Pointwise
public import Idealize.ShloMosaic.Lib.Pipeline.ValueKit
public import Idealize.ShloMosaic.Lib.Claim

@[expose] public section

set_option maxRecDepth 16384

noncomputable section

namespace Cert.DwInReferenceIdeal.Math

open Cert.DwInReferenceIdeal Cert.DwInReferenceIdeal.Gen Idealize.ShloMosaic Idealize.ShloMosaic.TcCoe

/-- The gradient of `w` in `a · w` for the cotangent `dz`, its columns in four shards. -/
def dw (a : FVec Ideal S4096x1024 .bf16) (dz : FVec Ideal S4096x7168 .bf16) : FVec Ideal S4x1024x1792 .f32 :=
  transpose S4x1024x1792 [1, 0, 2] (shapeCast S1024x4x1792 (transpose S1024x7168 [1, 0]
    (Host.dotGeneral dot_S4096x7168_S4096x1024_S7168x1024_0_0_1_1_n_n none (extf .f32 dz bitsLt_bf16_f32) (extf .f32 a bitsLt_bf16_f32))
    transposes_S7168x1024_S1024x7168_1_0) shapeCasts_S1024x7168_S1024x4x1792) transposes_S1024x4x1792_S4x1024x1792_1_0_2

theorem dw_at (a : FVec Ideal S4096x1024 .bf16) (dz : FVec Ideal S4096x7168 .bf16) (s : Fin 4) (r : Fin 1024) (l : Fin 1792) :
    dw a dz (ix3 s r l) = ∑ k : Fin 4096, a (ix2 k r) * dz (ix2 k ⟨s * 1792 + l, by omega⟩) := by
  pointwise! [dw]

end Cert.DwInReferenceIdeal.Math

namespace Cert.DwInIdeal.Math

open Cert.DwInIdeal Cert.DwInIdeal.Gen Idealize.ShloMosaic Idealize.ShloMosaic.TcCoe Idealize.SL.Sem
open Idealize.ShloMosaic.Pipeline (Dat)
open Cert.DwInReferenceIdeal.Math (dw dw_at)

theorem store2_at (a : Vec Ideal S4096x1024 .bf16) (b : Vec Ideal S4096x896 .bf16) (s : Fin 1) (r : Fin 1024) (l : Fin 896) :
    k0_pay2 a b (ix3 s r l) = ∑ k : Fin 4096, a (ix2 k r) * b (ix2 k l) := by
  pointwise [k0_pay2, k0_pay1]

theorem store3_at (a : Vec Ideal S4096x1024 .bf16) (b : Vec Ideal S4096x896 .bf16) (s : Fin 1) (r : Fin 1024) (l : Fin 896) :
    k0_pay3 a b (ix3 s r l) = ∑ k : Fin 4096, a (ix2 k r) * b (ix2 k l) := by
  pointwise [k0_pay3, k0_pay1]

variable (m : (ℓ : Loc nD τ sig) → Buf (Elt Ideal) ℓ)

/-- The block each window holds at a point. -/
theorem idx : ∀ t : Fin cfg0.N, win0_0.index t = ![0, 0] ∧ win0_1.index t = ![0, t.val]
    ∧ win0_2.index t = ![t.val / 2, 0, t.val % 2] ∧ win0_3.index t = ![t.val / 2, 0, t.val % 2] :=
  (by decide +kernel : ∀ t : Fin grid0.N, _)

theorem sum_eq (c : Dev nD) (t : Fin cfg0.N) (r : Fin 1024) (l : Fin 896) (j : S4x1024x1792.Idx)
    (h0 : (j 0 : ℕ) = t.val / 2) (h1 : (j 1 : ℕ) = r) (h2 : (j 2 : ℕ) = t.val % 2 * 896 + l) :
    (∑ k : Fin 4096, (show FVec Ideal S4096x1024 .bf16 from iblk m c 0 t) (ix2 k r) * (show FVec Ideal S4096x896 .bf16 from iblk m c 1 t) (ix2 k l))
      = dw (m ((c : Thread nD τ).loc main_arg0)) (m ((c : Thread nD τ).loc main_arg1)) j := by
  idx_vars j
  have e1 : j1 = r := Fin.ext h1
  subst e1
  rw [dw_at]
  refine Finset.sum_congr rfl fun k _ => ?_
  blk_point [iblk, V, idx t]

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  rw [store2_at]
  exact sum_eq m c t y1 y2 _ (by blk_simp [idx t] <;> omega) (by blk_simp [idx t] <;> omega) (by blk_simp [idx t] <;> omega)

theorem final3 (c : Dev nD) : (dats m 0 c).arrAt 3 (cfgs 0).N
    = truncf .bf16 (dw (m ((c : Thread nD τ).loc main_arg0)) (m ((c : Thread nD τ).loc main_arg1))) Cert.DwInReferenceIdeal.Gen.bitsLt_bf16_f32 := by
  refine (dats m 0 c).arrAt_eq_of_covers 3 _ (by decide +kernel) fun t hf y => ?_
  blk_simp
  rw [after0_3]; unfold outsAt0; frame_out
  idx_vars y
  rw [store3_at]
  exact sum_eq m c t y1 y2 _ (by blk_simp [idx t] <;> omega) (by blk_simp [idx t] <;> omega) (by blk_simp [idx t] <;> omega)

end Cert.DwInIdeal.Math

end
-- ==== Proof.DwIn.Claim.lean ====
/-
  The claim about the input projection's weight gradient: over the reals the program and the reference leave the same results.
-/
module

public import proofs.«01_k».proof.Defs
public import proofs.«01_k».proof.Proof.DwIn.Value
public import proofs.«01_k».proof.Proof.Gen.DwInReferenceIdeal.Run

@[expose] public section

set_option maxRecDepth 16384

noncomputable section

namespace Cert.DwInIdeal.Math

open Idealize.ShloMosaic Idealize.ShloMosaic.TcCoe Idealize.SL.Sem

theorem frame_reference : Cert.quiescent_DwInReferenceIdeal := by
  intro m ρ _
  exact (θ_run Cert.DwInReferenceIdeal.defs _ _).mono (fun r h => ⟨fun c => (h c).2.2, sem_eq_zero_of_no_sems (by decide) r.2⟩)
    (Cert.DwInReferenceIdeal.Value.run m ρ)

theorem algebraic : Cert.algebraic_DwInIdeal_DwInReferenceIdeal := by
  pair_intro
  · run_from Cert.DwInIdeal.Gen.run_main m g
  · run_from Cert.DwInReferenceIdeal.Value.run m' g'
    · exact (final2 m c).symm
    · exact (final3 m c).symm

end Cert.DwInIdeal.Math

end
-- ==== Proof.DwUp.Value.lean ====
/-
  The gradient of the up projection's weight: the two halves of the rows are added in the accumulator, and what the
  program leaves in its two result arrays is what the reference computes, the columns laid out in four shards.
-/
module

public import proofs.«01_k».proof.Proof.Gen.DwUpIdeal.Frame
public import proofs.«01_k».proof.Proof.Gen.DwUpReferenceIdeal
public import Idealize.ShloMosaic.Lib.Pointwise
public import Idealize.ShloMosaic.Lib.Pipeline.ValueKit
public import Idealize.ShloMosaic.Lib.Claim

@[expose] public section

set_option maxRecDepth 16384

noncomputable section

namespace Cert.DwUpReferenceIdeal.Math

open Cert.DwUpReferenceIdeal Cert.DwUpReferenceIdeal.Gen Idealize.ShloMosaic Idealize.ShloMosaic.TcCoe

/-- The gradient of `w` in `a · w` for the cotangent `dup`, its columns in four shards. -/
def dw (a : FVec Ideal S4096x1024 .bf16) (dup : FVec Ideal S4096x5632 .bf16) : FVec Ideal S4x1024x1408 .f32 :=
  transpose S4x1024x1408 [1, 0, 2] (shapeCast S1024x4x1408 (transpose S1024x5632 [1, 0]
    (Host.dotGeneral dot_S4096x5632_S4096x1024_S5632x1024_0_0_1_1_n_n none (extf .f32 dup bitsLt_bf16_f32) (extf .f32 a bitsLt_bf16_f32))
    transposes_S5632x1024_S1024x5632_1_0) shapeCasts_S1024x5632_S1024x4x1408) transposes_S1024x4x1408_S4x1024x1408_1_0_2

theorem dw_at (a : FVec Ideal S4096x1024 .bf16) (dup : FVec Ideal S4096x5632 .bf16) (s : Fin 4) (r : Fin 1024) (l : Fin 1408) :
    dw a dup (ix3 s r l) = ∑ k : Fin 4096, a (ix2 k r) * dup (ix2 k ⟨s * 1408 + l, by omega⟩) := by
  pointwise! [dw]

end Cert.DwUpReferenceIdeal.Math

namespace Cert.DwUpIdeal.Math

open Cert.DwUpIdeal Cert.DwUpIdeal.Gen Idealize.ShloMosaic Idealize.ShloMosaic.TcCoe Idealize.SL.Sem
open Idealize.ShloMosaic.Pipeline (Dat)
open Cert.DwUpReferenceIdeal.Math (dw dw_at)

theorem part_at (a : Vec Ideal S2048x1024 .bf16) (b : Vec Ideal S2048x1408 .bf16) (r : Fin 1024) (l : Fin 1408) :
    k0_pay2 a b (ix2 r l) = ∑ k : Fin 2048, a (ix2 k r) * b (ix2 k l) := by
  pointwise [k0_pay2, k0_pay1]

theorem acc_at (a : Vec Ideal S2048x1024 .bf16) (b : Vec Ideal S2048x1408 .bf16) (v : Vec Ideal S1024x1408 .f32) (r : Fin 1024) (l : Fin 1408) :
    k0_pay3 a b v (ix2 r l) = v (ix2 r l) + ∑ k : Fin 2048, a (ix2 k r) * b (ix2 k l) := by
  pointwise [k0_pay3, k0_pay1]

theorem store2_at (v : Vec Ideal S1024x1408 .f32) (s : Fin 1) (r : Fin 1024) (l : Fin 1408) :
    k0_pay4 v (ix3 s r l) = v (ix2 r l) := by
  pointwise [k0_pay4]

theorem store3_at (v : Vec Ideal S1024x1408 .f32) (s : Fin 1) (r : Fin 1024) (l : Fin 1408) :
    k0_pay5 v (ix3 s r l) = v (ix2 r l) := by
  pointwise [k0_pay5]

variable (m : (ℓ : Loc nD τ sig) → Buf (Elt Ideal) ℓ)

/-- The block each window holds at a point. -/
theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

/-- What the accumulator holds after the first point of a pair. -/
theorem first (c : Dev nD) (t : Fin cfg0.N) (h : t.val % 2 = 0) :
    (outsAt0 m c t.val t.isLt).2.2 = k0_pay2 (F := Ideal) (iblk m c 0 t) (iblk m c 1 t) := by
  rw [outsAt0_A m c t h (by omega) (by omega)]; frame_out

/-- The two halves of the rows added are all rows. -/
theorem sum_eq (c : Dev nD) (t u : Fin cfg0.N) (ht : t.val % 2 = 1) (hu : u.val = t.val - 1) (r : Fin 1024) (l : Fin 1408) (j : S4x1024x1408.Idx)
    (h0 : (j 0 : ℕ) = t.val / 2) (h1 : (j 1 : ℕ) = r) (h2 : (j 2 : ℕ) = l) :
    (∑ k : Fin 2048, (show FVec Ideal S2048x1024 .bf16 from iblk m c 0 u) (ix2 k r) * (show FVec Ideal S2048x1408 .bf16 from iblk m c 1 u) (ix2 k l))
      + (∑ k : Fin 2048, (show FVec Ideal S2048x1024 .bf16 from iblk m c 0 t) (ix2 k r) * (show FVec Ideal S2048x1408 .bf16 from iblk m c 1 t) (ix2 k l))
      = dw (m ((c : Thread nD τ).loc main_arg0)) (m ((c : Thread nD τ).loc main_arg1)) j := by
  idx_vars j
  have e1 : j1 = r := Fin.ext h1
  have e2 : j2 = l := Fin.ext h2
  subst e1 e2
  rw [dw_at]
  refine Eq.trans ?_ (Fin.sum_univ_add (a := 2048) (b := 2048) _).symm
  refine congrArg₂ (· + ·) (Finset.sum_congr rfl fun k _ => ?_) (Finset.sum_congr rfl fun k _ => ?_)
  · have e : u.val % 2 = 0 := by omega
    have e' : u.val / 2 = t.val / 2 := by omega
    have ek : ((Fin.castAdd 2048 k : Fin (2048 + 2048)) : ℕ) = k := rfl
    blk_point [iblk, V, idx u]
  · have ek : ((Fin.natAdd 2048 k : Fin (2048 + 2048)) : ℕ) = 2048 + k := rfl
    blk_point [iblk, V, idx t]

/-- The accumulator written at the second point of a pair. -/
theorem point (c : Dev nD) (t : Fin cfg0.N) (ht : t.val % 2 = 1) (hp : t.val - 1 < cfg0.N) (r : Fin 1024) (l : Fin 1408) (j : S4x1024x1408.Idx)
    (h0 : (j 0 : ℕ) = t.val / 2) (h1 : (j 1 : ℕ) = r) (h2 : (j 2 : ℕ) = l) :
    k0_pay3 (F := Ideal) (iblk m c 0 t) (iblk m c 1 t) (outsAt0 m c (t.val - 1) hp).2.2 (ix2 r l)
      = dw (m ((c : Thread nD τ).loc main_arg0)) (m ((c : Thread nD τ).loc main_arg1)) j := by
  refine Eq.trans ?_ (sum_eq m c t ⟨t.val - 1, hp⟩ ht rfl r l j h0 h1 h2)
  rw [acc_at, show (outsAt0 m c (t.val - 1) hp).2.2 = _ from first m c ⟨t.val - 1, hp⟩ (by simp only; omega), part_at]

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, outsAt0_B m c t (by omega) (by omega) (by omega)]; frame_out
  idx_vars y
  rw [store2_at]
  refine Eq.trans (congrArg (fun v => k0_pay3 (F := Ideal) (iblk m c 0 t) (iblk m c 1 t) v (ix2 y1 y2)) ((Memref.isWhole_whole cc0_scratch0).read_unread _)) ?_
  exact point m c t h1 _ y1 y2 _ (by blk_simp [idx t] <;> omega) (by blk_simp [idx t] <;> omega) (by blk_simp [idx t] <;> omega)

theorem final3 (c : Dev nD) : (dats m 0 c).arrAt 3 (cfgs 0).N
    = truncf .bf16 (dw (m ((c : Thread nD τ).loc main_arg0)) (m ((c : Thread nD τ).loc main_arg1))) Cert.DwUpReferenceIdeal.Gen.bitsLt_bf16_f32 := by
  refine (dats m 0 c).arrAt_eq_of_covers 3 _ (by decide +kernel) fun t hf y => ?_
  blk_simp
  have h1 := (flush0_3 t).mp hf
  rw [after0_3, outsAt0_B m c t (by omega) (by omega) (by omega)]; frame_out
  idx_vars y
  rw [store3_at]
  refine Eq.trans (congrArg (fun v => k0_pay3 (F := Ideal) (iblk m c 0 t) (iblk m c 1 t) v (ix2 y1 y2)) ((Memref.isWhole_whole cc0_scratch0).read_unread _)) ?_
  exact point m c t h1 _ y1 y2 _ (by blk_simp [idx t] <;> omega) (by blk_simp [idx t] <;> omega) (by blk_simp [idx t] <;> omega)

end Cert.DwUpIdeal.Math

end
-- ==== Proof.DwUp.Claim.lean ====
/-
  The claim about the up projection's weight gradient: over the reals the program and the reference leave the same results.
-/
module

public import proofs.«01_k».proof.Defs
public import proofs.«01_k».proof.Proof.DwUp.Value
public import proofs.«01_k».proof.Proof.Gen.DwUpReferenceIdeal.Run

@[expose] public section

set_option maxRecDepth 16384

noncomputable section

namespace Cert.DwUpIdeal.Math

open Idealize.ShloMosaic Idealize.ShloMosaic.TcCoe Idealize.SL.Sem

theorem frame_reference : Cert.quiescent_DwUpReferenceIdeal := by
  intro m ρ _
  exact (θ_run Cert.DwUpReferenceIdeal.defs _ _).mono (fun r h => ⟨fun c => (h c).2.2, sem_eq_zero_of_no_sems (by decide) r.2⟩)
    (Cert.DwUpReferenceIdeal.Value.run m ρ)

theorem algebraic : Cert.algebraic_DwUpIdeal_DwUpReferenceIdeal := by
  pair_intro
  · run_from Cert.DwUpIdeal.Gen.run_main m g
  · run_from Cert.DwUpReferenceIdeal.Value.run m' g'
    · exact (final2 m c).symm
    · exact (final3 m c).symm

end Cert.DwUpIdeal.Math

end
-- ==== Proof.DwDown.Value.lean ====
/-
  The gradient of the down projection's weight: the two halves of the rows are added in the accumulator, and what the
  program leaves in its two result arrays is what the reference computes.
-/
module

public import proofs.«01_k».proof.Proof.Gen.DwDownIdeal.Frame
public import proofs.«01_k».proof.Proof.Gen.DwDownReferenceIdeal
public import Idealize.ShloMosaic.Lib.Pointwise
public import Idealize.ShloMosaic.Lib.Pipeline.ValueKit
public import Idealize.ShloMosaic.Lib.Claim

@[expose] public section

set_option maxRecDepth 16384

noncomputable section

namespace Cert.DwDownReferenceIdeal.Math

open Cert.DwDownReferenceIdeal Cert.DwDownReferenceIdeal.Gen Idealize.ShloMosaic Idealize.ShloMosaic.TcCoe

/-- The gradient of `w` in `a · w` for the cotangent `dy`. -/
def dw (a : FVec Ideal S4096x2816 .bf16) (dy : FVec Ideal S4096x1024 .bf16) : FVec Ideal S1x2816x1024 .f32 :=
  transpose S1x2816x1024 [1, 0, 2] (shapeCast S2816x1x1024 (transpose S2816x1024 [1, 0]
    (Host.dotGeneral dot_S4096x1024_S4096x2816_S1024x2816_0_0_1_1_n_n none (extf .f32 dy bitsLt_bf16_f32) (extf .f32 a bitsLt_bf16_f32))
    transposes_S1024x2816_S2816x1024_1_0) shapeCasts_S2816x1024_S2816x1x1024) transposes_S2816x1x1024_S1x2816x1024_1_0_2

theorem dw_at (a : FVec Ideal S4096x2816 .bf16) (dy : FVec Ideal S4096x1024 .bf16) (s : Fin 1) (r : Fin 2816) (l : Fin 1024) :
    dw a dy (ix3 s r l) = ∑ k : Fin 4096, a (ix2 k r) * dy (ix2 k l) := by
  pointwise! [dw]

end Cert.DwDownReferenceIdeal.Math

namespace Cert.DwDownIdeal.Math

open Cert.DwDownIdeal Cert.DwDownIdeal.Gen Idealize.ShloMosaic Idealize.ShloMosaic.TcCoe Idealize.SL.Sem
open Idealize.ShloMosaic.Pipeline (Dat)
open Cert.DwDownReferenceIdeal.Math (dw dw_at)

theorem part_at (a : Vec Ideal S2048x1408 .bf16) (b : Vec Ideal S2048x1024 .bf16) (r : Fin 1408) (l : Fin 1024) :
    k0_pay2 a b (ix2 r l) = ∑ k : Fin 2048, a (ix2 k r) * b (ix2 k l) := by
  pointwise [k0_pay2, k0_pay1]

theorem acc_at (a : Vec Ideal S2048x1408 .bf16) (b : Vec Ideal S2048x1024 .bf16) (v : Vec Ideal S1408x1024 .f32) (r : Fin 1408) (l : Fin 1024) :
    k0_pay3 a b v (ix2 r l) = v (ix2 r l) + ∑ k : Fin 2048, a (ix2 k r) * b (ix2 k l) := by
  pointwise [k0_pay3, k0_pay1]

theorem store2_at (v : Vec Ideal S1408x1024 .f32) (s : Fin 1) (r : Fin 1408) (l : Fin 1024) :
    k0_pay4 v (ix3 s r l) = v (ix2 r l) := by
  pointwise [k0_pay4]

theorem store3_at (v : Vec Ideal S1408x1024 .f32) (s : Fin 1) (r : Fin 1408) (l : Fin 1024) :
    k0_pay5 v (ix3 s r l) = v (ix2 r l) := by
  pointwise [k0_pay5]

variable (m : (ℓ : Loc nD τ sig) → Buf (Elt Ideal) ℓ)

/-- The block each window holds at a point. -/
theorem idx : ∀ t : Fin cfg0.N, win0_0.index t = ![t.val % 2, t.val / 2] ∧ win0_1.index t = ![t.val % 2, 0]
    ∧ win0_2.index t = ![0, t.val / 2, 0] ∧ win0_3.index t = ![0, t.val / 2, 0] :=
  (by decide +kernel : ∀ t : Fin grid0.N, _)

/-- What the accumulator holds after the first point of a pair. -/
theorem first (c : Dev nD) (t : Fin cfg0.N) (h : t.val % 2 = 0) :
    (outsAt0 m c t.val t.isLt).2.2 = k0_pay2 (F := Ideal) (iblk m c 0 t) (iblk m c 1 t) := by
  rw [outsAt0_A m c t h (by omega) (by omega)]; frame_out

/-- The two halves of the rows added are all rows. -/
theorem sum_eq (c : Dev nD) (t u : Fin cfg0.N) (ht : t.val % 2 = 1) (hu : u.val = t.val - 1) (r : Fin 1408) (l : Fin 1024) (j : S1x2816x1024.Idx)
    (h1 : (j 1 : ℕ) = t.val / 2 * 1408 + r) (h2 : (j 2 : ℕ) = l) :
    (∑ k : Fin 2048, (show FVec Ideal S2048x1408 .bf16 from iblk m c 0 u) (ix2 k r) * (show FVec Ideal S2048x1024 .bf16 from iblk m c 1 u) (ix2 k l))
      + (∑ k : Fin 2048, (show FVec Ideal S2048x1408 .bf16 from iblk m c 0 t) (ix2 k r) * (show FVec Ideal S2048x1024 .bf16 from iblk m c 1 t) (ix2 k l))
      = dw (m ((c : Thread nD τ).loc main_arg0)) (m ((c : Thread nD τ).loc main_arg1)) j := by
  idx_vars j
  have e2 : j2 = l := Fin.ext h2
  subst e2
  rw [dw_at]
  refine Eq.trans ?_ (Fin.sum_univ_add (a := 2048) (b := 2048) _).symm
  refine congrArg₂ (· + ·) (Finset.sum_congr rfl fun k _ => ?_) (Finset.sum_congr rfl fun k _ => ?_)
  · have e : u.val % 2 = 0 := by omega
    have e' : u.val / 2 = t.val / 2 := by omega
    have ek : ((Fin.castAdd 2048 k : Fin (2048 + 2048)) : ℕ) = k := rfl
    blk_point [iblk, V, idx u]
  · have ek : ((Fin.natAdd 2048 k : Fin (2048 + 2048)) : ℕ) = 2048 + k := rfl
    blk_point [iblk, V, idx t]

/-- The accumulator written at the second point of a pair. -/
theorem point (c : Dev nD) (t : Fin cfg0.N) (ht : t.val % 2 = 1) (hp : t.val - 1 < cfg0.N) (r : Fin 1408) (l : Fin 1024) (j : S1x2816x1024.Idx)
    (h1 : (j 1 : ℕ) = t.val / 2 * 1408 + r) (h2 : (j 2 : ℕ) = l) :
    k0_pay3 (F := Ideal) (iblk m c 0 t) (iblk m c 1 t) (outsAt0 m c (t.val - 1) hp).2.2 (ix2 r l)
      = dw (m ((c : Thread nD τ).loc main_arg0)) (m ((c : Thread nD τ).loc main_arg1)) j := by
  refine Eq.trans ?_ (sum_eq m c t ⟨t.val - 1, hp⟩ ht rfl r l j h1 h2)
  rw [acc_at, show (outsAt0 m c (t.val - 1) hp).2.2 = _ from first m c ⟨t.val - 1, hp⟩ (by simp only; omega), part_at]

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, outsAt0_B m c t (by omega) (by omega) (by omega)]; frame_out
  idx_vars y
  rw [store2_at]
  refine Eq.trans (congrArg (fun v => k0_pay3 (F := Ideal) (iblk m c 0 t) (iblk m c 1 t) v (ix2 y1 y2)) ((Memref.isWhole_whole cc0_scratch0).read_unread _)) ?_
  exact point m c t h1 _ y1 y2 _ (by blk_simp [idx t] <;> omega) (by blk_simp [idx t] <;> omega)

theorem final3 (c : Dev nD) : (dats m 0 c).arrAt 3 (cfgs 0).N
    = truncf .bf16 (dw (m ((c : Thread nD τ).loc main_arg0)) (m ((c : Thread nD τ).loc main_arg1))) Cert.DwDownReferenceIdeal.Gen.bitsLt_bf16_f32 := by
  refine (dats m 0 c).arrAt_eq_of_covers 3 _ (by decide +kernel) fun t hf y => ?_
  blk_simp
  have h1 := (flush0_3 t).mp hf
  rw [after0_3, outsAt0_B m c t (by omega) (by omega) (by omega)]; frame_out
  idx_vars y
  rw [store3_at]
  refine Eq.trans (congrArg (fun v => k0_pay3 (F := Ideal) (iblk m c 0 t) (iblk m c 1 t) v (ix2 y1 y2)) ((Memref.isWhole_whole cc0_scratch0).read_unread _)) ?_
  exact point m c t h1 _ y1 y2 _ (by blk_simp [idx t] <;> omega) (by blk_simp [idx t] <;> omega)

end Cert.DwDownIdeal.Math

end
-- ==== Proof.DwDown.Claim.lean ====
/-
  The claim about the down projection's weight gradient: over the reals the program and the reference leave the same results.
-/
module

public import proofs.«01_k».proof.Defs
public import proofs.«01_k».proof.Proof.DwDown.Value
public import proofs.«01_k».proof.Proof.Gen.DwDownReferenceIdeal.Run

@[expose] public section

set_option maxRecDepth 16384

noncomputable section

namespace Cert.DwDownIdeal.Math

open Idealize.ShloMosaic Idealize.ShloMosaic.TcCoe Idealize.SL.Sem

theorem frame_reference : Cert.quiescent_DwDownReferenceIdeal := by
  intro m ρ _
  exact (θ_run Cert.DwDownReferenceIdeal.defs _ _).mono (fun r h => ⟨fun c => (h c).2.2, sem_eq_zero_of_no_sems (by decide) r.2⟩)
    (Cert.DwDownReferenceIdeal.Value.run m ρ)

theorem algebraic : Cert.algebraic_DwDownIdeal_DwDownReferenceIdeal := by
  pair_intro
  · run_from Cert.DwDownIdeal.Gen.run_main m g
  · run_from Cert.DwDownReferenceIdeal.Value.run m' g'
    · exact (final2 m c).symm
    · exact (final3 m c).symm

end Cert.DwDownIdeal.Math

end
-- ==== Proof.DwOut.Value.lean ====
/-
  The gradient of a square projection's weight: what the program leaves in its two result arrays is what the
  reference computes.
-/
module

public import proofs.«01_k».proof.Proof.Gen.DwOutIdeal.Frame
public import proofs.«01_k».proof.Proof.Gen.DwOutReferenceIdeal
public import Idealize.ShloMosaic.Lib.Pointwise
public import Idealize.ShloMosaic.Lib.Pipeline.ValueKit
public import Idealize.ShloMosaic.Lib.Claim

@[expose] public section

set_option maxRecDepth 16384

noncomputable section

namespace Cert.DwOutReferenceIdeal.Math

open Cert.DwOutReferenceIdeal Cert.DwOutReferenceIdeal.Gen Idealize.ShloMosaic Idealize.ShloMosaic.TcCoe

/-- The gradient of `w` in `a · w` for the cotangent `dy`. -/
def dw (a : FVec Ideal S4096x1024 .bf16) (dy : FVec Ideal S4096x1024 .bf16) : FVec Ideal S1x1024x1024 .f32 :=
  transpose S1x1024x1024 [1, 0, 2] (shapeCast S1024x1x1024 (transpose S1024x1024 [1, 0]
    (Host.dotGeneral dot_S4096x1024_S4096x1024_S1024x1024_0_0_1_1_n_n none (extf .f32 dy bitsLt_bf16_f32) (extf .f32 a bitsLt_bf16_f32))
    transposes_S1024x1024_S1024x1024_1_0) shapeCasts_S1024x1024_S1024x1x1024) transposes_S1024x1x1024_S1x1024x1024_1_0_2

theorem dw_at (a : FVec Ideal S4096x1024 .bf16) (dy : FVec Ideal S4096x1024 .bf16) (s : Fin 1) (r l : Fin 1024) :
    dw a dy (ix3 s r l) = ∑ k : Fin 4096, a (ix2 k r) * dy (ix2 k l) := by
  pointwise! [dw]

end Cert.DwOutReferenceIdeal.Math

namespace Cert.DwOutIdeal.Math

open Cert.DwOutIdeal Cert.DwOutIdeal.Gen Idealize.ShloMosaic Idealize.ShloMosaic.TcCoe Idealize.SL.Sem
open Idealize.ShloMosaic.Pipeline (Dat)
open Cert.DwOutReferenceIdeal.Math (dw dw_at)

theorem store2_at (a : Vec Ideal S4096x1024 .bf16) (b : Vec Ideal S4096x512 .bf16) (s : Fin 1) (r : Fin 1024) (l : Fin 512) :
    k0_pay2 a b (ix3 s r l) = ∑ k : Fin 4096, a (ix2 k r) * b (ix2 k l) := by
  pointwise [k0_pay2, k0_pay1]

theorem store3_at (a : Vec Ideal S4096x1024 .bf16) (b : Vec Ideal S4096x512 .bf16) (s : Fin 1) (r : Fin 1024) (l : Fin 512) :
    k0_pay3 a b (ix3 s r l) = ∑ k : Fin 4096, a (ix2 k r) * b (ix2 k l) := by
  pointwise [k0_pay3, k0_pay1]

variable (m : (ℓ : Loc nD τ sig) → Buf (Elt Ideal) ℓ)

/-- The block each window holds at a point. -/
theorem idx : ∀ t : Fin cfg0.N, win0_0.index t = ![0, 0] ∧ win0_1.index t = ![0, t.val]
    ∧ win0_2.index t = ![0, 0, t.val] ∧ win0_3.index t = ![0, 0, t.val] :=
  (by decide +kernel : ∀ t : Fin grid0.N, _)

theorem sum_eq (c : Dev nD) (t : Fin cfg0.N) (r : Fin 1024) (l : Fin 512) (j : S1x1024x1024.Idx)
    (h1 : (j 1 : ℕ) = r) (h2 : (j 2 : ℕ) = t.val * 512 + l) :
    (∑ k : Fin 4096, (show FVec Ideal S4096x1024 .bf16 from iblk m c 0 t) (ix2 k r) * (show FVec Ideal S4096x512 .bf16 from iblk m c 1 t) (ix2 k l))
      = dw (m ((c : Thread nD τ).loc main_arg0)) (m ((c : Thread nD τ).loc main_arg1)) j := by
  idx_vars j
  have e1 : j1 = r := Fin.ext h1
  subst e1
  rw [dw_at]
  refine Finset.sum_congr rfl fun k _ => ?_
  blk_point [iblk, V, idx t]

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  rw [store2_at]
  exact sum_eq m c t y1 y2 _ (by blk_simp [idx t] <;> omega) (by blk_simp [idx t] <;> omega)

theorem final3 (c : Dev nD) : (dats m 0 c).arrAt 3 (cfgs 0).N
    = truncf .bf16 (dw (m ((c : Thread nD τ).loc main_arg0)) (m ((c : Thread nD τ).loc main_arg1))) Cert.DwOutReferenceIdeal.Gen.bitsLt_bf16_f32 := by
  refine (dats m 0 c).arrAt_eq_of_covers 3 _ (by decide +kernel) fun t hf y => ?_
  blk_simp
  rw [after0_3]; unfold outsAt0; frame_out
  idx_vars y
  rw [store3_at]
  exact sum_eq m c t y1 y2 _ (by blk_simp [idx t] <;> omega) (by blk_simp [idx t] <;> omega)

end Cert.DwOutIdeal.Math

end
-- ==== Proof.DwOut.Claim.lean ====
/-
  The claim about a square projection's weight gradient: over the reals the program and the reference leave the same results.
-/
module

public import proofs.«01_k».proof.Defs
public import proofs.«01_k».proof.Proof.DwOut.Value
public import proofs.«01_k».proof.Proof.Gen.DwOutReferenceIdeal.Run

@[expose] public section

set_option maxRecDepth 16384

noncomputable section

namespace Cert.DwOutIdeal.Math

open Idealize.ShloMosaic Idealize.ShloMosaic.TcCoe Idealize.SL.Sem

theorem frame_reference : Cert.quiescent_DwOutReferenceIdeal := by
  intro m ρ _
  exact (θ_run Cert.DwOutReferenceIdeal.defs _ _).mono (fun r h => ⟨fun c => (h c).2.2, sem_eq_zero_of_no_sems (by decide) r.2⟩)
    (Cert.DwOutReferenceIdeal.Value.run m ρ)

theorem algebraic : Cert.algebraic_DwOutIdeal_DwOutReferenceIdeal := by
  pair_intro
  · run_from Cert.DwOutIdeal.Gen.run_main m g
  · run_from Cert.DwOutReferenceIdeal.Value.run m' g'
    · exact (final2 m c).symm
    · exact (final3 m c).symm

end Cert.DwOutIdeal.Math

end
-- ==== Proof.DAct.Value.lean ====
/-
  The gradient through the down projection: what the program leaves in its result array is what the reference
  computes.
-/
module

public import proofs.«01_k».proof.Proof.Gen.DActIdeal.Frame
public import proofs.«01_k».proof.Proof.Gen.DActReferenceIdeal
public import Idealize.ShloMosaic.Lib.Pointwise
public import Idealize.ShloMosaic.Lib.Pipeline.ValueKit
public import Idealize.ShloMosaic.Lib.Claim

@[expose] public section

set_option maxRecDepth 16384

noncomputable section

namespace Cert.DActReferenceIdeal.Math

open Cert.DActReferenceIdeal Cert.DActReferenceIdeal.Gen Idealize.ShloMosaic Idealize.ShloMosaic.TcCoe

/-- The cotangent `a` carried through the transpose of the down projection `w`. -/
def prod (a : FVec Ideal S4096x1024 .bf16) (w : FVec Ideal S2816x1024 .bf16) : FVec Ideal S4096x2816 .bf16 :=
  truncf .bf16 (Host.dotGeneral dot_S4096x1024_S2816x1024_S4096x2816_1_1_0_0_n_n none (extf .f32 a bitsLt_bf16_f32) (extf .f32 w bitsLt_bf16_f32)) bitsLt_bf16_f32

theorem prod_at (a : FVec Ideal S4096x1024 .bf16) (w : FVec Ideal S2816x1024 .bf16) (r : Fin 4096) (l : Fin 2816) :
    prod a w (ix2 r l) = ∑ k : Fin 1024, a (ix2 r k) * w (ix2 l k) := by
  pointwise [prod]

end Cert.DActReferenceIdeal.Math

namespace Cert.DActIdeal.Math

open Cert.DActIdeal Cert.DActIdeal.Gen Idealize.ShloMosaic Idealize.ShloMosaic.TcCoe Idealize.SL.Sem
open Idealize.ShloMosaic.Pipeline (Dat)
open Cert.DActReferenceIdeal.Math (prod prod_at)

theorem store_at (a : Vec Ideal S1024x1024 .bf16) (b : Vec Ideal S1x1408x1024 .bf16) (r : Fin 1024) (l : Fin 1408) :
    k0_pay1 a b (ix2 r l) = ∑ k : Fin 1024, a (ix2 r k) * b (ix3 0 l k) := by
  pointwise [k0_pay1]

variable (m : (ℓ : Loc nD τ sig) → Buf (Elt Ideal) ℓ)

/-- The block each window holds at a point. -/
theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

theorem sum_eq (c : Dev nD) (t : Fin cfg0.N) (r : Fin 1024) (l : Fin 1408) (j : S4096x2816.Idx)
    (h0 : (j 0 : ℕ) = t.val / 2 * 1024 + r) (h1 : (j 1 : ℕ) = t.val % 2 * 1408 + l) :
    (∑ k : Fin 1024, (show FVec Ideal S1024x1024 .bf16 from iblk m c 0 t) (ix2 r k) * (show FVec Ideal S1x1408x1024 .bf16 from iblk m c 1 t) (ix3 0 l k))
      = prod (m ((c : Thread nD τ).loc main_arg0)) (m ((c : Thread nD τ).loc main_arg1)) j := by
  idx_vars j
  rw [prod_at]
  refine Finset.sum_congr rfl fun k _ => ?_
  blk_point [iblk, V, idx t]

theorem final2 (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  rw [store_at]
  exact sum_eq m c t y0 y1 _ (by blk_simp [idx t] <;> omega) (by blk_simp [idx t] <;> omega)

end Cert.DActIdeal.Math

end
-- ==== Proof.DAct.Claim.lean ====
/-
  The claim about the gradient through the down projection: over the reals the program and the reference leave the same results.
-/
module

public import proofs.«01_k».proof.Defs
public import proofs.«01_k».proof.Proof.DAct.Value
public import proofs.«01_k».proof.Proof.Gen.DActReferenceIdeal.Run

@[expose] public section

set_option maxRecDepth 16384

noncomputable section

namespace Cert.DActIdeal.Math

open Idealize.ShloMosaic Idealize.ShloMosaic.TcCoe Idealize.SL.Sem

theorem frame_reference : Cert.quiescent_DActReferenceIdeal := by
  intro m ρ _
  exact (θ_run Cert.DActReferenceIdeal.defs _ _).mono (fun r h => ⟨fun c => (h c).2, sem_eq_zero_of_no_sems (by decide) r.2⟩)
    (Cert.DActReferenceIdeal.Value.run m ρ)

theorem algebraic : Cert.algebraic_DActIdeal_DActReferenceIdeal := by
  pair_intro
  · run_from Cert.DActIdeal.Gen.run_main m g
  · run_from Cert.DActReferenceIdeal.Value.run m' g'
    · exact (final2 m c).symm

end Cert.DActIdeal.Math

end
-- ==== Proof.InProj.Value.lean ====
/-
  The input projection: what the program leaves in its result array is what the reference computes.
-/
module

public import proofs.«01_k».proof.Proof.Gen.InProjIdeal.Frame
public import proofs.«01_k».proof.Proof.Gen.InProjReferenceIdeal
public import Idealize.ShloMosaic.Lib.Pointwise
public import Idealize.ShloMosaic.Lib.Pipeline.ValueKit
public import Idealize.ShloMosaic.Lib.Claim

@[expose] public section

set_option maxRecDepth 16384

noncomputable section

namespace Cert.InProjReferenceIdeal.Math

open Cert.InProjReferenceIdeal Cert.InProjReferenceIdeal.Gen Idealize.ShloMosaic Idealize.ShloMosaic.TcCoe

/-- The input projection. -/
def prod (a : FVec Ideal S4096x1024 .bf16) (w : FVec Ideal S1024x7168 .bf16) : FVec Ideal S4096x7168 .bf16 :=
  truncf .bf16 (Host.dotGeneral dot_S4096x1024_S1024x7168_S4096x7168_1_0_0_1_n_n none (extf .f32 a bitsLt_bf16_f32) (extf .f32 w bitsLt_bf16_f32)) bitsLt_bf16_f32

theorem prod_at (a : FVec Ideal S4096x1024 .bf16) (w : FVec Ideal S1024x7168 .bf16) (r : Fin 4096) (l : Fin 7168) :
    prod a w (ix2 r l) = ∑ k : Fin 1024, a (ix2 r k) * w (ix2 k l) := by
  pointwise [prod]

end Cert.InProjReferenceIdeal.Math

namespace Cert.InProjIdeal.Math

open Cert.InProjIdeal Cert.InProjIdeal.Gen Idealize.ShloMosaic Idealize.ShloMosaic.TcCoe Idealize.SL.Sem
open Idealize.ShloMosaic.Pipeline (Dat)
open Cert.InProjReferenceIdeal.Math (prod prod_at)

theorem store_at (a : Vec Ideal S2048x1024 .bf16) (b : Vec Ideal S1x1024x1792 .bf16) (r : Fin 2048) (l : Fin 1792) :
    k0_pay1 a b (ix2 r l) = ∑ k : Fin 1024, a (ix2 r k) * b (ix3 0 k l) := by
  pointwise [k0_pay1]

variable (m : (ℓ : Loc nD τ sig) → Buf (Elt Ideal) ℓ)

/-- The block each window holds at a point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem sum_eq (c : Dev nD) (t : Fin cfg0.N) (r : Fin 2048) (l : Fin 1792) (j : S4096x7168.Idx)
    (h0 : (j 0 : ℕ) = t.val / 4 * 2048 + r) (h1 : (j 1 : ℕ) = t.val % 4 * 1792 + l) :
    (∑ k : Fin 1024, (show FVec Ideal S2048x1024 .bf16 from iblk m c 0 t) (ix2 r k) * (show FVec Ideal S1x1024x1792 .bf16 from iblk m c 1 t) (ix3 0 k l))
      = prod (m ((c : Thread nD τ).loc main_arg0)) (m ((c : Thread nD τ).loc main_arg1)) j := by
  idx_vars j
  rw [prod_at]
  refine Finset.sum_congr rfl fun k _ => ?_
  blk_point [iblk, V, idx t]

theorem final2 (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  rw [store_at]
  exact sum_eq m c t y0 y1 _ (by blk_simp [idx t] <;> omega) (by blk_simp [idx t] <;> omega)

end Cert.InProjIdeal.Math

end
-- ==== Proof.InProj.Claim.lean ====
/-
  The claim about the input projection: over the reals the program and the reference leave the same results.
-/
module

public import proofs.«01_k».proof.Defs
public import proofs.«01_k».proof.Proof.InProj.Value
public import proofs.«01_k».proof.Proof.Gen.InProjReferenceIdeal.Run

@[expose] public section

set_option maxRecDepth 16384

noncomputable section

namespace Cert.InProjIdeal.Math

open Idealize.ShloMosaic Idealize.ShloMosaic.TcCoe Idealize.SL.Sem

theorem frame_reference : Cert.quiescent_InProjReferenceIdeal := by
  intro m ρ _
  exact (θ_run Cert.InProjReferenceIdeal.defs _ _).mono (fun r h => ⟨fun c => (h c).2, sem_eq_zero_of_no_sems (by decide) r.2⟩)
    (Cert.InProjReferenceIdeal.Value.run m ρ)

theorem algebraic : Cert.algebraic_InProjIdeal_InProjReferenceIdeal := by
  pair_intro
  · run_from Cert.InProjIdeal.Gen.run_main m g
  · run_from Cert.InProjReferenceIdeal.Value.run m' g'
    · exact (final2 m c).symm

end Cert.InProjIdeal.Math

end
-- ==== Proof.UpProj.Value.lean ====
/-
  The up projection: what the program leaves in its result array is what the reference computes.
-/
module

public import proofs.«01_k».proof.Proof.Gen.UpProjIdeal.Frame
public import proofs.«01_k».proof.Proof.Gen.UpProjReferenceIdeal
public import Idealize.ShloMosaic.Lib.Pointwise
public import Idealize.ShloMosaic.Lib.Pipeline.ValueKit
public import Idealize.ShloMosaic.Lib.Claim

@[expose] public section

set_option maxRecDepth 16384

noncomputable section

namespace Cert.UpProjReferenceIdeal.Math

open Cert.UpProjReferenceIdeal Cert.UpProjReferenceIdeal.Gen Idealize.ShloMosaic Idealize.ShloMosaic.TcCoe

/-- The up projection. -/
def prod (a : FVec Ideal S4096x1024 .bf16) (w : FVec Ideal S1024x5632 .bf16) : FVec Ideal S4096x5632 .f32 :=
  Host.dotGeneral dot_S4096x1024_S1024x5632_S4096x5632_1_0_0_1_n_n none (extf .f32 a bitsLt_bf16_f32) (extf .f32 w bitsLt_bf16_f32)

theorem prod_at (a : FVec Ideal S4096x1024 .bf16) (w : FVec Ideal S1024x5632 .bf16) (r : Fin 4096) (l : Fin 5632) :
    prod a w (ix2 r l) = ∑ k : Fin 1024, a (ix2 r k) * w (ix2 k l) := by
  pointwise [prod]

end Cert.UpProjReferenceIdeal.Math

namespace Cert.UpProjIdeal.Math

open Cert.UpProjIdeal Cert.UpProjIdeal.Gen Idealize.ShloMosaic Idealize.ShloMosaic.TcCoe Idealize.SL.Sem
open Idealize.ShloMosaic.Pipeline (Dat)
open Cert.UpProjReferenceIdeal.Math (prod prod_at)

theorem store_at (a : Vec Ideal S2048x1024 .bf16) (b : Vec Ideal S1x1024x1408 .bf16) (r : Fin 2048) (l : Fin 1408) :
    k0_pay1 a b (ix2 r l) = ∑ k : Fin 1024, a (ix2 r k) * b (ix3 0 k l) := by
  pointwise [k0_pay1]

variable (m : (ℓ : Loc nD τ sig) → Buf (Elt Ideal) ℓ)

/-- The block each window holds at a point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem sum_eq (c : Dev nD) (t : Fin cfg0.N) (r : Fin 2048) (l : Fin 1408) (j : S4096x5632.Idx)
    (h0 : (j 0 : ℕ) = t.val / 4 * 2048 + r) (h1 : (j 1 : ℕ) = t.val % 4 * 1408 + l) :
    (∑ k : Fin 1024, (show FVec Ideal S2048x1024 .bf16 from iblk m c 0 t) (ix2 r k) * (show FVec Ideal S1x1024x1408 .bf16 from iblk m c 1 t) (ix3 0 k l))
      = prod (m ((c : Thread nD τ).loc main_arg0)) (m ((c : Thread nD τ).loc main_arg1)) j := by
  idx_vars j
  rw [prod_at]
  refine Finset.sum_congr rfl fun k _ => ?_
  blk_point [iblk, V, idx t]

theorem final2 (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  idx_vars y
  rw [store_at]
  exact sum_eq m c t y0 y1 _ (by blk_simp [idx t] <;> omega) (by blk_simp [idx t] <;> omega)

end Cert.UpProjIdeal.Math

end
-- ==== Proof.UpProj.Claim.lean ====
/-
  The claim about the up projection: over the reals the program and the reference leave the same results.
-/
module

public import proofs.«01_k».proof.Defs
public import proofs.«01_k».proof.Proof.UpProj.Value
public import proofs.«01_k».proof.Proof.Gen.UpProjReferenceIdeal.Run

@[expose] public section

set_option maxRecDepth 16384

noncomputable section

namespace Cert.UpProjIdeal.Math

open Idealize.ShloMosaic Idealize.ShloMosaic.TcCoe Idealize.SL.Sem

theorem frame_reference : Cert.quiescent_UpProjReferenceIdeal := by
  intro m ρ _
  exact (θ_run Cert.UpProjReferenceIdeal.defs _ _).mono (fun r h => ⟨fun c => (h c).2, sem_eq_zero_of_no_sems (by decide) r.2⟩)
    (Cert.UpProjReferenceIdeal.Value.run m ρ)

theorem algebraic : Cert.algebraic_UpProjIdeal_UpProjReferenceIdeal := by
  pair_intro
  · run_from Cert.UpProjIdeal.Gen.run_main m g
  · run_from Cert.UpProjReferenceIdeal.Value.run m' g'
    · exact (final2 m c).symm

end Cert.UpProjIdeal.Math

end
-- ==== Proof.Loss.Value.lean ====
/-
  The down projection with the loss: what the program leaves in its three result arrays is the loss's gradient, the
  same in sixteen bits, and the loss that the reference computes.
-/
module

public import proofs.«01_k».proof.Proof.Gen.LossIdeal.Frame
public import proofs.«01_k».proof.Proof.Gen.LossReferenceIdeal
public import Idealize.ShloMosaic.Lib.Pointwise
public import Idealize.ShloMosaic.Lib.Pipeline.ValueKit
public import Idealize.ShloMosaic.Lib.Claim

@[expose] public section

set_option maxRecDepth 16384

noncomputable section

namespace Cert.Loss

open Idealize.ShloMosaic

/-- One half. -/
abbrev half : EReal := Ideal.ofBits .f32 0x3F000000#32
/-- One. -/
abbrev one : EReal := Ideal.ofBits .f32 0x3F800000#32
/-- Two. -/
abbrev two : EReal := Ideal.ofBits .f32 0x40000000#32
/-- The number of columns. -/
abbrev width : EReal := Ideal.ofBits .f32 0x44800000#32
/-- One over the number of columns. -/
abbrev inv : EReal := Ideal.ofBits .f32 0x3A800000#32
/-- Half of it. -/
abbrev hinv : EReal := Ideal.ofBits .f32 0x3A000000#32

theorem half_eq : half = ((1 / 2 : ℝ) : EReal) := by simp [Ideal.ofBits, Ideal.ieee, -EReal.coe_mul]; norm_num
theorem one_eq : one = ((1 : ℝ) : EReal) := by simp [Ideal.ofBits, Ideal.ieee, -EReal.coe_mul]
theorem two_eq : two = ((2 : ℝ) : EReal) := by simp [Ideal.ofBits, Ideal.ieee, -EReal.coe_mul]; norm_num
theorem width_eq : width = ((1024 : ℝ) : EReal) := by simp [Ideal.ofBits, Ideal.ieee, -EReal.coe_mul]; norm_num
theorem inv_eq : inv = ((1 / 1024 : ℝ) : EReal) := by simp [Ideal.ofBits, Ideal.ieee, -EReal.coe_mul]; norm_num
theorem hinv_eq : hinv = ((1 / 2048 : ℝ) : EReal) := by simp [Ideal.ofBits, Ideal.ieee, -EReal.coe_mul]; norm_num

/-- The gradient of the halved mean of squares. -/
theorem grad_eq (e : EReal) : Ideal.div (half * one) width * (two * e) = e * inv := by
  rw [half_eq, one_eq, two_eq, width_eq, inv_eq, Ideal.div_coe (by norm_num), ← mul_assoc, ← EReal.coe_mul, ← EReal.coe_mul, ← EReal.coe_mul, mul_comm]
  norm_num

/-- One row's share of the loss. -/
theorem share_eq (s : EReal) : half * Ideal.div s width = s * hinv := by
  rw [half_eq, width_eq, hinv_eq, Ideal.div_coe (by norm_num), mul_comm, mul_assoc, ← EReal.coe_mul]
  norm_num

theorem mul_sum_of_nonneg {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem sum_hinv {ι : Type*} (s : Finset ι) (f : ι → EReal) : (∑ i ∈ s, f i) * hinv = ∑ i ∈ s, f i * hinv := by
  rw [hinv_eq]; exact mul_sum_of_nonneg s f (by norm_num)

theorem half_sum {ι : Type*} (s : Finset ι) (f : ι → EReal) : half * (∑ i ∈ s, f i) = ∑ i ∈ s, half * f i := by
  rw [mul_comm, half_eq, mul_sum_of_nonneg s f (by norm_num)]
  exact Finset.sum_congr rfl fun i _ => mul_comm _ _

end Cert.Loss

namespace Cert.LossReferenceIdeal.Math

open Cert.LossReferenceIdeal Cert.LossReferenceIdeal.Gen Idealize.ShloMosaic Idealize.ShloMosaic.TcCoe

variable (a : FVec Ideal S4096x2816 .bf16) (w : FVec Ideal S2816x1024 .bf16) (x t : FVec Ideal S4096x1024 .f32)

/-- The step's output less its target. -/
def err : FVec Ideal S4096x1024 .f32 :=
  subf (addf x (Host.dotGeneral dot_S4096x2816_S2816x1024_S4096x1024_1_0_0_1_n_n none (extf .f32 a bitsLt_bf16_f32) (extf .f32 w bitsLt_bf16_f32))) t

/-- The gradient of the loss. -/
def dy : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) (err a w x t))

/-- The loss, in every entry. -/
def loss : FVec Ideal S8x128 .f32 :=
  broadcastInDim S8x128 ![] bcast_S_S8x128 (mulf (constant S_ .f32 0x3F000000#32) (Host.reduceAdd (Host.divf (Host.reduceAdd (mulf (err a w x t) (err a w x t))
    (constant S_ .f32 0x00000000#32) reducesTo_S4096x1024_S4096_d1 h_S_) (broadcastInDim S4096 ![] bcast_S_S4096 (constant S_ .f32 0x44800000#32)))
    (constant S_ .f32 0x00000000#32) reducesTo_S4096_S_d0 h_S_))

theorem err_at (r : Fin 4096) (l : Fin 1024) : err a w x t (ix2 r l) = (x (ix2 r l) + ∑ k : Fin 2816, a (ix2 r k) * w (ix2 k l)) - t (ix2 r l) := by
  pointwise [err]

theorem dy_at (r : Fin 4096) (l : Fin 1024) : dy a w x t (ix2 r l) = err a w x t (ix2 r l) * Cert.Loss.inv := by
  rw [← Cert.Loss.grad_eq]
  pointwise [dy]

theorem loss_at (r : Fin 8) (l : Fin 128) : loss a w x t (ix2 r l)
    = ∑ i : Fin 4096, (∑ k : Fin 1024, err a w x t (ix2 i k) * err a w x t (ix2 i k)) * Cert.Loss.hinv := by
  refine Eq.trans (b := Cert.Loss.half * ∑ i : Fin 4096, Ideal.div (∑ k : Fin 1024, err a w x t (ix2 i k) * err a w x t (ix2 i k)) Cert.Loss.width) ?_ ?_
  · pointwise [loss]
  · rw [Cert.Loss.half_sum]
    exact Finset.sum_congr rfl fun i _ => Cert.Loss.share_eq _

end Cert.LossReferenceIdeal.Math

namespace Cert.LossIdeal.Math

open Cert.LossIdeal Cert.LossIdeal.Gen Idealize.ShloMosaic Idealize.ShloMosaic.TcCoe Idealize.SL.Sem
open Idealize.ShloMosaic.Pipeline (Dat)
open Cert.LossReferenceIdeal.Math (err err_at dy dy_at loss loss_at)

section stores

variable (x : Vec Ideal S512x1024 .f32) (a : Vec Ideal S512x2816 .bf16) (w : Vec Ideal S1x2816x1024 .bf16) (t : Vec Ideal S512x1024 .f32)

theorem err_blk (r : Fin 512) (l : Fin 1024) : k0_pay1 x a w t (ix2 r l) = (x (ix2 r l) + ∑ k : Fin 2816, a (ix2 r k) * w (ix3 0 k l)) - t (ix2 r l) := by
  pointwise [k0_pay1]

theorem store4_at (r : Fin 512) (l : Fin 1024) : k0_pay2 x a w t (ix2 r l) = k0_pay1 x a w t (ix2 r l) * Cert.Loss.inv := by
  pointwise [k0_pay2]

theorem store5_at (r : Fin 512) (l : Fin 1024) : k0_pay3 x a w t (ix2 r l) = k0_pay1 x a w t (ix2 r l) * Cert.Loss.inv := by
  pointwise [k0_pay3, k0_pay2]

theorem part_at (r : Fin 8) (l : Fin 128) : k0_pay4 x a w t (ix2 r l)
    = ∑ i : Fin 512, (∑ k : Fin 1024, k0_pay1 x a w t (ix2 i k) * k0_pay1 x a w t (ix2 i k)) * Cert.Loss.hinv := by
  rw [← Cert.Loss.sum_hinv]
  pointwise [k0_pay4]

theorem acc_at (v : Vec Ideal S8x128 .f32) (j : S8x128.Idx) : k0_pay5 x a w t v j = v j + k0_pay4 x a w t j := by
  pointwise [k0_pay5]

end stores

variable (m : (ℓ : Loc nD τ sig) → Buf (Elt Ideal) ℓ)

/-- The block each window holds at a point. -/
theorem idx : ∀ t : Fin cfg0.N, win0_0.index t = ![t.val, 0] ∧ win0_1.index t = ![0, 0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The two cases of a grid point: the first, and every later one. -/
theorem cases (t : Fin cfg0.N) : (t.val % 8 = 0 ∧ ¬1 ≤ t.val) ∨ (¬t.val % 8 = 0 ∧ 1 ≤ t.val) := by
  have h : t.val < 8 := lt_of_lt_of_eq t.isLt N_0
  omega

section reads

variable (c : Dev nD) (t : Fin cfg0.N) (r : Fin 512) (R : Fin 4096) (hR : (R : ℕ) = t.val * 512 + r)

theorem read1 (k : Fin 2816) (l : Fin 1024) : (show FVec Ideal S1x2816x1024 .bf16 from iblk m c 1 t) (ix3 0 k l) = (m ((c : Thread nD τ).loc main_arg1) : FVec Ideal S2816x1024 .bf16) (ix2 k l) := by
  blk_point [iblk, V, idx t]

include hR

theorem read0 (k : Fin 2816) : (show FVec Ideal S512x2816 .bf16 from iblk m c 0 t) (ix2 r k) = (m ((c : Thread nD τ).loc main_arg0) : FVec Ideal S4096x2816 .bf16) (ix2 R k) := by
  blk_point [iblk, V, idx t]

theorem read2 (l : Fin 1024) : (show FVec Ideal S512x1024 .f32 from iblk m c 2 t) (ix2 r l) = (m ((c : Thread nD τ).loc main_arg2) : FVec Ideal S4096x1024 .f32) (ix2 R l) := by
  blk_point [iblk, V, idx t]

theorem read3 (l : Fin 1024) : (show FVec Ideal S512x1024 .f32 from iblk m c 3 t) (ix2 r l) = (m ((c : Thread nD τ).loc main_arg3) : FVec Ideal S4096x1024 .f32) (ix2 R l) := by
  blk_point [iblk, V, idx t]

theorem err_eq (l : Fin 1024) : k0_pay1 (F := Ideal) (iblk m c 2 t) (iblk m c 0 t) (iblk m c 1 t) (iblk m c 3 t) (ix2 r l)
    = err (m ((c : Thread nD τ).loc main_arg0)) (m ((c : Thread nD τ).loc main_arg1)) (m ((c : Thread nD τ).loc main_arg2)) (m ((c : Thread nD τ).loc main_arg3)) (ix2 R l) := by
  refine (err_blk _ _ _ _ r l).trans (Eq.trans ?_ (err_at _ _ _ _ R l).symm)
  refine congrArg₂ (· - ·) (congrArg₂ (· + ·) (read2 m c t r R hR l) (Finset.sum_congr rfl fun k _ => ?_)) (read3 m c t r R hR l)
  exact congrArg₂ (· * ·) (read0 m c t r R hR k) (read1 m c t k l)

end reads

theorem dy_eq (c : Dev nD) (t : Fin cfg0.N) (r : Fin 512) (l : Fin 1024) (j : S4096x1024.Idx) (h0 : (j 0 : ℕ) = t.val * 512 + r) (h1 : (j 1 : ℕ) = l) :
    k0_pay1 (F := Ideal) (iblk m c 2 t) (iblk m c 0 t) (iblk m c 1 t) (iblk m c 3 t) (ix2 r l) * Cert.Loss.inv
      = dy (m ((c : Thread nD τ).loc main_arg0)) (m ((c : Thread nD τ).loc main_arg1)) (m ((c : Thread nD τ).loc main_arg2)) (m ((c : Thread nD τ).loc main_arg3)) j := by
  idx_vars j
  have e : j1 = l := Fin.ext h1
  subst e
  rw [dy_at, err_eq m c t r j0 h0]

theorem sums_eq (c : Dev nD) (j : S8x128.Idx) :
    (∑ p : Fin cfg0.N, k0_pay4 (F := Ideal) (iblk m c 2 p) (iblk m c 0 p) (iblk m c 1 p) (iblk m c 3 p) j)
      = loss (m ((c : Thread nD τ).loc main_arg0)) (m ((c : Thread nD τ).loc main_arg1)) (m ((c : Thread nD τ).loc main_arg2)) (m ((c : Thread nD τ).loc main_arg3)) j := by
  idx_vars j
  rw [loss_at]
  simp only [part_at]
  refine Fin.sum_mul_add_congr fun t r hr => ?_
  refine congrArg (· * Cert.Loss.hinv) (Finset.sum_congr rfl fun k _ => ?_)
  exact congrArg₂ (· * ·) (err_eq m c t r _ rfl k) (err_eq m c t r _ rfl k)

theorem final4 (c : Dev nD) : (dats m 0 c).arrAt 4 (cfgs 0).N
    = dy (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  rcases cases t with h | h
  · rw [outsAt0_A m c t h.1 h.2]; frame_out
    idx_vars y
    rw [store4_at]
    exact dy_eq m c t y0 y1 _ (by blk_simp [idx t] <;> omega) (by blk_simp [idx t] <;> omega)
  · rw [outsAt0_B m c t h.1 h.2]; frame_out
    idx_vars y
    rw [store4_at]
    exact dy_eq m c t y0 y1 _ (by blk_simp [idx t] <;> omega) (by blk_simp [idx t] <;> omega)

theorem final5 (c : Dev nD) : (dats m 0 c).arrAt 5 (cfgs 0).N
    = truncf .bf16 (dy (m ((c : Thread nD τ).loc main_arg0)) (m ((c : Thread nD τ).loc main_arg1)) (m ((c : Thread nD τ).loc main_arg2)) (m ((c : Thread nD τ).loc main_arg3)))
      Cert.LossReferenceIdeal.Gen.bitsLt_bf16_f32 := by
  refine (dats m 0 c).arrAt_eq_of_covers 5 _ (by decide +kernel) fun t hf y => ?_
  blk_simp
  rw [after0_5]
  rcases cases t with h | h
  · rw [outsAt0_A m c t h.1 h.2]; frame_out
    idx_vars y
    rw [store5_at]
    exact dy_eq m c t y0 y1 _ (by blk_simp [idx t] <;> omega) (by blk_simp [idx t] <;> omega)
  · rw [outsAt0_B m c t h.1 h.2]; frame_out
    idx_vars y
    rw [store5_at]
    exact dy_eq m c t y0 y1 _ (by blk_simp [idx t] <;> omega) (by blk_simp [idx t] <;> omega)

theorem final6 (c : Dev nD) : (dats m 0 c).arrAt 6 (cfgs 0).N
    = loss (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by rw [outsAt0_A m c t h ((cases t).resolve_right fun k => k.1 h).2]; frame_out; rw [← zero_add (k0_pay4 _ _ _ _ j)])
    (fun t h j => by rw [outsAt0_B m c t h ((cases t).resolve_left fun k => h k.1).2]; frame_out; rw [acc_at])
    (le_of_eq N_0) t0_7 rfl j, zero_add]
  exact sums_eq m c j

end Cert.LossIdeal.Math

end
-- ==== Proof.Loss.Claim.lean ====
/-
  The claim about the down projection with the loss: over the reals the program and the reference leave the same results.
-/
module

public import proofs.«01_k».proof.Defs
public import proofs.«01_k».proof.Proof.Loss.Value
public import proofs.«01_k».proof.Proof.Gen.LossReferenceIdeal.Run

@[expose] public section

set_option maxRecDepth 16384

noncomputable section

namespace Cert.LossIdeal.Math

open Idealize.ShloMosaic Idealize.ShloMosaic.TcCoe Idealize.SL.Sem

theorem frame_reference : Cert.quiescent_LossReferenceIdeal := by
  intro m ρ _
  exact (θ_run Cert.LossReferenceIdeal.defs _ _).mono (fun r h => ⟨fun c => (h c).2.2.2, sem_eq_zero_of_no_sems (by decide) r.2⟩)
    (Cert.LossReferenceIdeal.Value.run m ρ)

theorem algebraic : Cert.algebraic_LossIdeal_LossReferenceIdeal := by
  pair_intro
  · run_from Cert.LossIdeal.Gen.run_main m g
  · run_from Cert.LossReferenceIdeal.Value.run m' g'
    · exact (final4 m c).symm
    · exact (final5 m c).symm
    · exact (final6 m c).symm

end Cert.LossIdeal.Math

end
-- ==== Proof.AdamIn.Value.lean ====
/-
  The optimiser's step of the input projection's weight: what the program leaves in its four result arrays is the summed gradient, the
  change of the weight and the two new moments that the reference computes.
-/
module

public import proofs.«01_k».proof.Proof.Gen.AdamInIdeal.Frame
public import proofs.«01_k».proof.Proof.Gen.AdamInReferenceIdeal
public import Idealize.ShloMosaic.Lib.Pointwise
public import Idealize.ShloMosaic.Lib.Pipeline.ValueKit
public import Idealize.ShloMosaic.Lib.Claim

@[expose] public section

set_option maxRecDepth 16384

noncomputable section

namespace Cert.AdamInReferenceIdeal.Math

open Cert.AdamInReferenceIdeal Cert.AdamInReferenceIdeal.Gen Idealize.ShloMosaic Idealize.ShloMosaic.TcCoe

/-- The gradient: the sum of its two parts. -/
def grad (a b : FVec Ideal S1024x1792 .f32) : FVec Ideal S1024x1792 .f32 := addf a b

/-- The new first moment. -/
def mom (a b m : FVec Ideal S1024x1792 .f32) : FVec Ideal S1024x1792 .f32 :=
  addf (mulf (broadcastInDim S1024x1792 ![] bcast_S_S1024x1792 (constant S_ .f32 0x3F666666#32)) m) (mulf (broadcastInDim S1024x1792 ![] bcast_S_S1024x1792 (constant S_ .f32 0x3DCCCCCD#32)) (grad a b))

/-- The new second moment. -/
def vel (a b v : FVec Ideal S1024x1792 .f32) : FVec Ideal S1024x1792 .f32 :=
  addf (mulf (broadcastInDim S1024x1792 ![] bcast_S_S1024x1792 (constant S_ .f32 0x3F7FBE77#32)) v) (mulf (broadcastInDim S1024x1792 ![] bcast_S_S1024x1792 (constant S_ .f32 0x3A83126F#32)) (mulf (grad a b) (grad a b)))

/-- The change of the weight. -/
def delta (w a b m v : FVec Ideal S1024x1792 .f32) : FVec Ideal S1024x1792 .f32 :=
  mulf (broadcastInDim S1024x1792 ![] bcast_S_S1024x1792 (constant S_ .f32 0xBA83126F#32)) (addf (Host.divf (Host.divf (mom a b m) (broadcastInDim S1024x1792 ![] bcast_S_S1024x1792 (constant S_ .f32 0x3F26BD02#32)))
    (addf (Host.sqrt (Host.divf (vel a b v) (broadcastInDim S1024x1792 ![] bcast_S_S1024x1792 (constant S_ .f32 0x3C231ACC#32)))) (broadcastInDim S1024x1792 ![] bcast_S_S1024x1792 (constant S_ .f32 0x322BCC77#32))))
    (mulf (broadcastInDim S1024x1792 ![] bcast_S_S1024x1792 (constant S_ .f32 0x3C23D70A#32)) w))

end Cert.AdamInReferenceIdeal.Math

namespace Cert.AdamInIdeal.Math

open Cert.AdamInIdeal Cert.AdamInIdeal.Gen Idealize.ShloMosaic Idealize.ShloMosaic.TcCoe Idealize.SL.Sem
open Idealize.ShloMosaic.Pipeline (Dat)
open Cert.AdamInReferenceIdeal.Math (grad mom vel delta)

section point

variable (w a b m v : Vec Ideal S256x1792 .f32) (W A B M V : FVec Ideal S1024x1792 .f32) (y : S256x1792.Idx) (j : S1024x1792.Idx)

theorem grad_at (ha : a y = A j) (hb : b y = B j) : k0_pay2 a b y = grad A B j := by
  pointwise [k0_pay2, grad, ha, hb]

theorem mom_at (ha : a y = A j) (hb : b y = B j) (hm : m y = M j) : k0_pay3 a b m y = mom A B M j := by
  pointwise [k0_pay3, k0_pay2, grad, mom, ha, hb, hm]

theorem vel_at (ha : a y = A j) (hb : b y = B j) (hv : v y = V j) : k0_pay4 a b v y = vel A B V j := by
  pointwise [k0_pay4, k0_pay2, grad, vel, ha, hb, hv]

theorem delta_at (hw : w y = W j) (ha : a y = A j) (hb : b y = B j) (hm : m y = M j) (hv : v y = V j) :
    k0_pay1 (k0_pay5 a b m v w) (Scalar.ofBits .f32 0xBA83126F#32) y = delta W A B M V j := by
  pointwise [k0_pay1, k0_pay5, k0_pay4, k0_pay3, k0_pay2, grad, mom, vel, delta, hw, ha, hb, hm, hv]

end point

variable (m : (ℓ : Loc nD τ sig) → Buf (Elt Ideal) ℓ)

/-- The block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section reads

variable (c : Dev nD) (t : Fin cfg0.N) (y : S256x1792.Idx) (j : S1024x1792.Idx) (h0 : (j 0 : ℕ) = t.val * 256 + y 0) (h1 : (j 1 : ℕ) = y 1)
include h0 h1

theorem read0 : (show FVec Ideal S256x1792 .f32 from iblk m c 0 t) y = (m ((c : Thread nD τ).loc main_arg0) : FVec Ideal S1024x1792 .f32) j := by
  idx_vars y
  idx_vars j
  blk_point [iblk, V, idx t]

theorem read1 : (show FVec Ideal S256x1792 .f32 from iblk m c 1 t) y = (m ((c : Thread nD τ).loc main_arg1) : FVec Ideal S1024x1792 .f32) j := by
  idx_vars y
  idx_vars j
  blk_point [iblk, V, idx t]

theorem read2 : (show FVec Ideal S256x1792 .f32 from iblk m c 2 t) y = (m ((c : Thread nD τ).loc main_arg2) : FVec Ideal S1024x1792 .f32) j := by
  idx_vars y
  idx_vars j
  blk_point [iblk, V, idx t]

theorem read3 : (show FVec Ideal S256x1792 .f32 from iblk m c 3 t) y = (m ((c : Thread nD τ).loc main_arg3) : FVec Ideal S1024x1792 .f32) j := by
  idx_vars y
  idx_vars j
  blk_point [iblk, V, idx t]

theorem read4 : (show FVec Ideal S256x1792 .f32 from iblk m c 4 t) y = (m ((c : Thread nD τ).loc main_arg4) : FVec Ideal S1024x1792 .f32) j := by
  idx_vars y
  idx_vars j
  blk_point [iblk, V, idx t]

end reads

theorem final5 (c : Dev nD) : (dats m 0 c).arrAt 5 (cfgs 0).N
    = grad (m ((c : Thread nD τ).loc main_arg1)) (m ((c : Thread nD τ).loc main_arg2)) := by
  refine (dats m 0 c).arrAt_eq_of_covers 5 _ (by decide +kernel) fun t hf y => ?_
  blk_simp
  rw [after0_5]; frame_out
  exact grad_at _ _ _ _ y _ (read1 m c t y _ (by blk_simp [idx t] <;> omega) (by blk_simp [idx t] <;> omega)) (read2 m c t y _ (by blk_simp [idx t] <;> omega) (by blk_simp [idx t] <;> omega))

theorem final6 (c : Dev nD) : (dats m 0 c).arrAt 6 (cfgs 0).N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  exact delta_at _ _ _ _ _ _ _ _ _ _ y _ (read0 m c t y _ (by blk_simp [idx t] <;> omega) (by blk_simp [idx t] <;> omega)) (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega)) (read4 m c t y _ (by blk_simp [idx t] <;> omega) (by blk_simp [idx t] <;> omega))

theorem final7 (c : Dev nD) : (dats m 0 c).arrAt 7 (cfgs 0).N
    = mom (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]; frame_out
  exact mom_at _ _ _ _ _ _ y _ (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega))

theorem final8 (c : Dev nD) : (dats m 0 c).arrAt 8 (cfgs 0).N
    = vel (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]; frame_out
  exact vel_at _ _ _ _ _ _ y _ (read1 m c t y _ (by blk_simp [idx t] <;> omega) (by blk_simp [idx t] <;> omega)) (read2 m c t y _ (by blk_simp [idx t] <;> omega) (by blk_simp [idx t] <;> omega)) (read4 m c t y _ (by blk_simp [idx t] <;> omega) (by blk_simp [idx t] <;> omega))

end Cert.AdamInIdeal.Math

end
-- ==== Proof.AdamIn.Claim.lean ====
/-
  The claim about the input projection's optimiser step: over the reals the program and the reference leave the same results.
-/
module

public import proofs.«01_k».proof.Defs
public import proofs.«01_k».proof.Proof.AdamIn.Value
public import proofs.«01_k».proof.Proof.Gen.AdamInReferenceIdeal.Run

@[expose] public section

set_option maxRecDepth 16384

noncomputable section

namespace Cert.AdamInIdeal.Math

open Idealize.ShloMosaic Idealize.ShloMosaic.TcCoe Idealize.SL.Sem

theorem frame_reference : Cert.quiescent_AdamInReferenceIdeal := by
  intro m ρ _
  exact (θ_run Cert.AdamInReferenceIdeal.defs _ _).mono (fun r h => ⟨fun c => (h c).2.2.2.2, sem_eq_zero_of_no_sems (by decide) r.2⟩)
    (Cert.AdamInReferenceIdeal.Value.run m ρ)

theorem algebraic : Cert.algebraic_AdamInIdeal_AdamInReferenceIdeal := by
  pair_intro
  · run_from Cert.AdamInIdeal.Gen.run_main m g
  · run_from Cert.AdamInReferenceIdeal.Value.run m' g'
    · exact (final5 m c).symm
    · exact (final6 m c).symm
    · exact (final7 m c).symm
    · exact (final8 m c).symm

end Cert.AdamInIdeal.Math

end
-- ==== Proof.AdamUp.Value.lean ====
/-
  The optimiser's step of the up projection's weight: what the program leaves in its four result arrays is the summed gradient, the
  change of the weight and the two new moments that the reference computes.
-/
module

public import proofs.«01_k».proof.Proof.Gen.AdamUpIdeal.Frame
public import proofs.«01_k».proof.Proof.Gen.AdamUpReferenceIdeal
public import Idealize.ShloMosaic.Lib.Pointwise
public import Idealize.ShloMosaic.Lib.Pipeline.ValueKit
public import Idealize.ShloMosaic.Lib.Claim

@[expose] public section

set_option maxRecDepth 16384

noncomputable section

namespace Cert.AdamUpReferenceIdeal.Math

open Cert.AdamUpReferenceIdeal Cert.AdamUpReferenceIdeal.Gen Idealize.ShloMosaic Idealize.ShloMosaic.TcCoe

/-- The gradient: the sum of its two parts. -/
def grad (a b : FVec Ideal S1024x1408 .f32) : FVec Ideal S1024x1408 .f32 := addf a b

/-- The new first moment. -/
def mom (a b m : FVec Ideal S1024x1408 .f32) : FVec Ideal S1024x1408 .f32 :=
  addf (mulf (broadcastInDim S1024x1408 ![] bcast_S_S1024x1408 (constant S_ .f32 0x3F666666#32)) m) (mulf (broadcastInDim S1024x1408 ![] bcast_S_S1024x1408 (constant S_ .f32 0x3DCCCCCD#32)) (grad a b))

/-- The new second moment. -/
def vel (a b v : FVec Ideal S1024x1408 .f32) : FVec Ideal S1024x1408 .f32 :=
  addf (mulf (broadcastInDim S1024x1408 ![] bcast_S_S1024x1408 (constant S_ .f32 0x3F7FBE77#32)) v) (mulf (broadcastInDim S1024x1408 ![] bcast_S_S1024x1408 (constant S_ .f32 0x3A83126F#32)) (mulf (grad a b) (grad a b)))

/-- The change of the weight. -/
def delta (w a b m v : FVec Ideal S1024x1408 .f32) : FVec Ideal S1024x1408 .f32 :=
  mulf (broadcastInDim S1024x1408 ![] bcast_S_S1024x1408 (constant S_ .f32 0xBA83126F#32)) (addf (Host.divf (Host.divf (mom a b m) (broadcastInDim S1024x1408 ![] bcast_S_S1024x1408 (constant S_ .f32 0x3F26BD02#32)))
    (addf (Host.sqrt (Host.divf (vel a b v) (broadcastInDim S1024x1408 ![] bcast_S_S1024x1408 (constant S_ .f32 0x3C231ACC#32)))) (broadcastInDim S1024x1408 ![] bcast_S_S1024x1408 (constant S_ .f32 0x322BCC77#32))))
    (mulf (broadcastInDim S1024x1408 ![] bcast_S_S1024x1408 (constant S_ .f32 0x3C23D70A#32)) w))

end Cert.AdamUpReferenceIdeal.Math

namespace Cert.AdamUpIdeal.Math

open Cert.AdamUpIdeal Cert.AdamUpIdeal.Gen Idealize.ShloMosaic Idealize.ShloMosaic.TcCoe Idealize.SL.Sem
open Idealize.ShloMosaic.Pipeline (Dat)
open Cert.AdamUpReferenceIdeal.Math (grad mom vel delta)

section point

variable (w a b m v : Vec Ideal S256x1408 .f32) (W A B M V : FVec Ideal S1024x1408 .f32) (y : S256x1408.Idx) (j : S1024x1408.Idx)

theorem grad_at (ha : a y = A j) (hb : b y = B j) : k0_pay2 a b y = grad A B j := by
  pointwise [k0_pay2, grad, ha, hb]

theorem mom_at (ha : a y = A j) (hb : b y = B j) (hm : m y = M j) : k0_pay3 a b m y = mom A B M j := by
  pointwise [k0_pay3, k0_pay2, grad, mom, ha, hb, hm]

theorem vel_at (ha : a y = A j) (hb : b y = B j) (hv : v y = V j) : k0_pay4 a b v y = vel A B V j := by
  pointwise [k0_pay4, k0_pay2, grad, vel, ha, hb, hv]

theorem delta_at (hw : w y = W j) (ha : a y = A j) (hb : b y = B j) (hm : m y = M j) (hv : v y = V j) :
    k0_pay1 (k0_pay5 a b m v w) (Scalar.ofBits .f32 0xBA83126F#32) y = delta W A B M V j := by
  pointwise [k0_pay1, k0_pay5, k0_pay4, k0_pay3, k0_pay2, grad, mom, vel, delta, hw, ha, hb, hm, hv]

end point

variable (m : (ℓ : Loc nD τ sig) → Buf (Elt Ideal) ℓ)

/-- The block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section reads

variable (c : Dev nD) (t : Fin cfg0.N) (y : S256x1408.Idx) (j : S1024x1408.Idx) (h0 : (j 0 : ℕ) = t.val * 256 + y 0) (h1 : (j 1 : ℕ) = y 1)
include h0 h1

theorem read0 : (show FVec Ideal S256x1408 .f32 from iblk m c 0 t) y = (m ((c : Thread nD τ).loc main_arg0) : FVec Ideal S1024x1408 .f32) j := by
  idx_vars y
  idx_vars j
  blk_point [iblk, V, idx t]

theorem read1 : (show FVec Ideal S256x1408 .f32 from iblk m c 1 t) y = (m ((c : Thread nD τ).loc main_arg1) : FVec Ideal S1024x1408 .f32) j := by
  idx_vars y
  idx_vars j
  blk_point [iblk, V, idx t]

theorem read2 : (show FVec Ideal S256x1408 .f32 from iblk m c 2 t) y = (m ((c : Thread nD τ).loc main_arg2) : FVec Ideal S1024x1408 .f32) j := by
  idx_vars y
  idx_vars j
  blk_point [iblk, V, idx t]

theorem read3 : (show FVec Ideal S256x1408 .f32 from iblk m c 3 t) y = (m ((c : Thread nD τ).loc main_arg3) : FVec Ideal S1024x1408 .f32) j := by
  idx_vars y
  idx_vars j
  blk_point [iblk, V, idx t]

theorem read4 : (show FVec Ideal S256x1408 .f32 from iblk m c 4 t) y = (m ((c : Thread nD τ).loc main_arg4) : FVec Ideal S1024x1408 .f32) j := by
  idx_vars y
  idx_vars j
  blk_point [iblk, V, idx t]

end reads

theorem final5 (c : Dev nD) : (dats m 0 c).arrAt 5 (cfgs 0).N
    = grad (m ((c : Thread nD τ).loc main_arg1)) (m ((c : Thread nD τ).loc main_arg2)) := by
  refine (dats m 0 c).arrAt_eq_of_covers 5 _ (by decide +kernel) fun t hf y => ?_
  blk_simp
  rw [after0_5]; frame_out
  exact grad_at _ _ _ _ y _ (read1 m c t y _ (by blk_simp [idx t] <;> omega) (by blk_simp [idx t] <;> omega)) (read2 m c t y _ (by blk_simp [idx t] <;> omega) (by blk_simp [idx t] <;> omega))

theorem final6 (c : Dev nD) : (dats m 0 c).arrAt 6 (cfgs 0).N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  exact delta_at _ _ _ _ _ _ _ _ _ _ y _ (read0 m c t y _ (by blk_simp [idx t] <;> omega) (by blk_simp [idx t] <;> omega)) (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega)) (read4 m c t y _ (by blk_simp [idx t] <;> omega) (by blk_simp [idx t] <;> omega))

theorem final7 (c : Dev nD) : (dats m 0 c).arrAt 7 (cfgs 0).N
    = mom (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]; frame_out
  exact mom_at _ _ _ _ _ _ y _ (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega))

theorem final8 (c : Dev nD) : (dats m 0 c).arrAt 8 (cfgs 0).N
    = vel (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]; frame_out
  exact vel_at _ _ _ _ _ _ y _ (read1 m c t y _ (by blk_simp [idx t] <;> omega) (by blk_simp [idx t] <;> omega)) (read2 m c t y _ (by blk_simp [idx t] <;> omega) (by blk_simp [idx t] <;> omega)) (read4 m c t y _ (by blk_simp [idx t] <;> omega) (by blk_simp [idx t] <;> omega))

end Cert.AdamUpIdeal.Math

end
-- ==== Proof.AdamUp.Claim.lean ====
/-
  The claim about the up projection's optimiser step: over the reals the program and the reference leave the same results.
-/
module

public import proofs.«01_k».proof.Defs
public import proofs.«01_k».proof.Proof.AdamUp.Value
public import proofs.«01_k».proof.Proof.Gen.AdamUpReferenceIdeal.Run

@[expose] public section

set_option maxRecDepth 16384

noncomputable section

namespace Cert.AdamUpIdeal.Math

open Idealize.ShloMosaic Idealize.ShloMosaic.TcCoe Idealize.SL.Sem

theorem frame_reference : Cert.quiescent_AdamUpReferenceIdeal := by
  intro m ρ _
  exact (θ_run Cert.AdamUpReferenceIdeal.defs _ _).mono (fun r h => ⟨fun c => (h c).2.2.2.2, sem_eq_zero_of_no_sems (by decide) r.2⟩)
    (Cert.AdamUpReferenceIdeal.Value.run m ρ)

theorem algebraic : Cert.algebraic_AdamUpIdeal_AdamUpReferenceIdeal := by
  pair_intro
  · run_from Cert.AdamUpIdeal.Gen.run_main m g
  · run_from Cert.AdamUpReferenceIdeal.Value.run m' g'
    · exact (final5 m c).symm
    · exact (final6 m c).symm
    · exact (final7 m c).symm
    · exact (final8 m c).symm

end Cert.AdamUpIdeal.Math

end
-- ==== Proof.AdamDown.Value.lean ====
/-
  The optimiser's step of the down projection's weight: what the program leaves in its four result arrays is the summed gradient, the
  change of the weight and the two new moments that the reference computes.
-/
module

public import proofs.«01_k».proof.Proof.Gen.AdamDownIdeal.Frame
public import proofs.«01_k».proof.Proof.Gen.AdamDownReferenceIdeal
public import Idealize.ShloMosaic.Lib.Pointwise
public import Idealize.ShloMosaic.Lib.Pipeline.ValueKit
public import Idealize.ShloMosaic.Lib.Claim

@[expose] public section

set_option maxRecDepth 16384

noncomputable section

namespace Cert.AdamDownReferenceIdeal.Math

open Cert.AdamDownReferenceIdeal Cert.AdamDownReferenceIdeal.Gen Idealize.ShloMosaic Idealize.ShloMosaic.TcCoe

/-- The gradient: the sum of its two parts. -/
def grad (a b : FVec Ideal S704x1024 .f32) : FVec Ideal S704x1024 .f32 := addf a b

/-- The new first moment. -/
def mom (a b m : FVec Ideal S704x1024 .f32) : FVec Ideal S704x1024 .f32 :=
  addf (mulf (broadcastInDim S704x1024 ![] bcast_S_S704x1024 (constant S_ .f32 0x3F666666#32)) m) (mulf (broadcastInDim S704x1024 ![] bcast_S_S704x1024 (constant S_ .f32 0x3DCCCCCD#32)) (grad a b))

/-- The new second moment. -/
def vel (a b v : FVec Ideal S704x1024 .f32) : FVec Ideal S704x1024 .f32 :=
  addf (mulf (broadcastInDim S704x1024 ![] bcast_S_S704x1024 (constant S_ .f32 0x3F7FBE77#32)) v) (mulf (broadcastInDim S704x1024 ![] bcast_S_S704x1024 (constant S_ .f32 0x3A83126F#32)) (mulf (grad a b) (grad a b)))

/-- The change of the weight. -/
def delta (w a b m v : FVec Ideal S704x1024 .f32) : FVec Ideal S704x1024 .f32 :=
  mulf (broadcastInDim S704x1024 ![] bcast_S_S704x1024 (constant S_ .f32 0xBA83126F#32)) (addf (Host.divf (Host.divf (mom a b m) (broadcastInDim S704x1024 ![] bcast_S_S704x1024 (constant S_ .f32 0x3F26BD02#32)))
    (addf (Host.sqrt (Host.divf (vel a b v) (broadcastInDim S704x1024 ![] bcast_S_S704x1024 (constant S_ .f32 0x3C231ACC#32)))) (broadcastInDim S704x1024 ![] bcast_S_S704x1024 (constant S_ .f32 0x322BCC77#32))))
    (mulf (broadcastInDim S704x1024 ![] bcast_S_S704x1024 (constant S_ .f32 0x3C23D70A#32)) w))

end Cert.AdamDownReferenceIdeal.Math

namespace Cert.AdamDownIdeal.Math

open Cert.AdamDownIdeal Cert.AdamDownIdeal.Gen Idealize.ShloMosaic Idealize.ShloMosaic.TcCoe Idealize.SL.Sem
open Idealize.ShloMosaic.Pipeline (Dat)
open Cert.AdamDownReferenceIdeal.Math (grad mom vel delta)

section point

variable (w a b m v : Vec Ideal S176x1024 .f32) (W A B M V : FVec Ideal S704x1024 .f32) (y : S176x1024.Idx) (j : S704x1024.Idx)

theorem grad_at (ha : a y = A j) (hb : b y = B j) : k0_pay2 a b y = grad A B j := by
  pointwise [k0_pay2, grad, ha, hb]

theorem mom_at (ha : a y = A j) (hb : b y = B j) (hm : m y = M j) : k0_pay3 a b m y = mom A B M j := by
  pointwise [k0_pay3, k0_pay2, grad, mom, ha, hb, hm]

theorem vel_at (ha : a y = A j) (hb : b y = B j) (hv : v y = V j) : k0_pay4 a b v y = vel A B V j := by
  pointwise [k0_pay4, k0_pay2, grad, vel, ha, hb, hv]

theorem delta_at (hw : w y = W j) (ha : a y = A j) (hb : b y = B j) (hm : m y = M j) (hv : v y = V j) :
    k0_pay1 (k0_pay5 a b m v w) (Scalar.ofBits .f32 0xBA83126F#32) y = delta W A B M V j := by
  pointwise [k0_pay1, k0_pay5, k0_pay4, k0_pay3, k0_pay2, grad, mom, vel, delta, hw, ha, hb, hm, hv]

end point

variable (m : (ℓ : Loc nD τ sig) → Buf (Elt Ideal) ℓ)

/-- The block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section reads

variable (c : Dev nD) (t : Fin cfg0.N) (y : S176x1024.Idx) (j : S704x1024.Idx) (h0 : (j 0 : ℕ) = t.val * 176 + y 0) (h1 : (j 1 : ℕ) = y 1)
include h0 h1

theorem read0 : (show FVec Ideal S176x1024 .f32 from iblk m c 0 t) y = (m ((c : Thread nD τ).loc main_arg0) : FVec Ideal S704x1024 .f32) j := by
  idx_vars y
  idx_vars j
  blk_point [iblk, V, idx t]

theorem read1 : (show FVec Ideal S176x1024 .f32 from iblk m c 1 t) y = (m ((c : Thread nD τ).loc main_arg1) : FVec Ideal S704x1024 .f32) j := by
  idx_vars y
  idx_vars j
  blk_point [iblk, V, idx t]

theorem read2 : (show FVec Ideal S176x1024 .f32 from iblk m c 2 t) y = (m ((c : Thread nD τ).loc main_arg2) : FVec Ideal S704x1024 .f32) j := by
  idx_vars y
  idx_vars j
  blk_point [iblk, V, idx t]

theorem read3 : (show FVec Ideal S176x1024 .f32 from iblk m c 3 t) y = (m ((c : Thread nD τ).loc main_arg3) : FVec Ideal S704x1024 .f32) j := by
  idx_vars y
  idx_vars j
  blk_point [iblk, V, idx t]

theorem read4 : (show FVec Ideal S176x1024 .f32 from iblk m c 4 t) y = (m ((c : Thread nD τ).loc main_arg4) : FVec Ideal S704x1024 .f32) j := by
  idx_vars y
  idx_vars j
  blk_point [iblk, V, idx t]

end reads

theorem final5 (c : Dev nD) : (dats m 0 c).arrAt 5 (cfgs 0).N
    = grad (m ((c : Thread nD τ).loc main_arg1)) (m ((c : Thread nD τ).loc main_arg2)) := by
  refine (dats m 0 c).arrAt_eq_of_covers 5 _ (by decide +kernel) fun t hf y => ?_
  blk_simp
  rw [after0_5]; frame_out
  exact grad_at _ _ _ _ y _ (read1 m c t y _ (by blk_simp [idx t] <;> omega) (by blk_simp [idx t] <;> omega)) (read2 m c t y _ (by blk_simp [idx t] <;> omega) (by blk_simp [idx t] <;> omega))

theorem final6 (c : Dev nD) : (dats m 0 c).arrAt 6 (cfgs 0).N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  exact delta_at _ _ _ _ _ _ _ _ _ _ y _ (read0 m c t y _ (by blk_simp [idx t] <;> omega) (by blk_simp [idx t] <;> omega)) (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega)) (read4 m c t y _ (by blk_simp [idx t] <;> omega) (by blk_simp [idx t] <;> omega))

theorem final7 (c : Dev nD) : (dats m 0 c).arrAt 7 (cfgs 0).N
    = mom (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]; frame_out
  exact mom_at _ _ _ _ _ _ y _ (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega))

theorem final8 (c : Dev nD) : (dats m 0 c).arrAt 8 (cfgs 0).N
    = vel (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]; frame_out
  exact vel_at _ _ _ _ _ _ y _ (read1 m c t y _ (by blk_simp [idx t] <;> omega) (by blk_simp [idx t] <;> omega)) (read2 m c t y _ (by blk_simp [idx t] <;> omega) (by blk_simp [idx t] <;> omega)) (read4 m c t y _ (by blk_simp [idx t] <;> omega) (by blk_simp [idx t] <;> omega))

end Cert.AdamDownIdeal.Math

end
-- ==== Proof.AdamDown.Claim.lean ====
/-
  The claim about the down projection's optimiser step: over the reals the program and the reference leave the same results.
-/
module

public import proofs.«01_k».proof.Defs
public import proofs.«01_k».proof.Proof.AdamDown.Value
public import proofs.«01_k».proof.Proof.Gen.AdamDownReferenceIdeal.Run

@[expose] public section

set_option maxRecDepth 16384

noncomputable section

namespace Cert.AdamDownIdeal.Math

open Idealize.ShloMosaic Idealize.ShloMosaic.TcCoe Idealize.SL.Sem

theorem frame_reference : Cert.quiescent_AdamDownReferenceIdeal := by
  intro m ρ _
  exact (θ_run Cert.AdamDownReferenceIdeal.defs _ _).mono (fun r h => ⟨fun c => (h c).2.2.2.2, sem_eq_zero_of_no_sems (by decide) r.2⟩)
    (Cert.AdamDownReferenceIdeal.Value.run m ρ)

theorem algebraic : Cert.algebraic_AdamDownIdeal_AdamDownReferenceIdeal := by
  pair_intro
  · run_from Cert.AdamDownIdeal.Gen.run_main m g
  · run_from Cert.AdamDownReferenceIdeal.Value.run m' g'
    · exact (final5 m c).symm
    · exact (final6 m c).symm
    · exact (final7 m c).symm
    · exact (final8 m c).symm

end Cert.AdamDownIdeal.Math

end
-- ==== Proof.AdamOut.Value.lean ====
/-
  The optimiser's step of a square projection's weight: what the program leaves in its four result arrays is the summed gradient, the
  change of the weight and the two new moments that the reference computes.
-/
module

public import proofs.«01_k».proof.Proof.Gen.AdamOutIdeal.Frame
public import proofs.«01_k».proof.Proof.Gen.AdamOutReferenceIdeal
public import Idealize.ShloMosaic.Lib.Pointwise
public import Idealize.ShloMosaic.Lib.Pipeline.ValueKit
public import Idealize.ShloMosaic.Lib.Claim

@[expose] public section

set_option maxRecDepth 16384

noncomputable section

namespace Cert.AdamOutReferenceIdeal.Math

open Cert.AdamOutReferenceIdeal Cert.AdamOutReferenceIdeal.Gen Idealize.ShloMosaic Idealize.ShloMosaic.TcCoe

/-- The gradient: the sum of its two parts. -/
def grad (a b : FVec Ideal S256x1024 .f32) : FVec Ideal S256x1024 .f32 := addf a b

/-- The new first moment. -/
def mom (a b m : FVec Ideal S256x1024 .f32) : FVec Ideal S256x1024 .f32 :=
  addf (mulf (broadcastInDim S256x1024 ![] bcast_S_S256x1024 (constant S_ .f32 0x3F666666#32)) m) (mulf (broadcastInDim S256x1024 ![] bcast_S_S256x1024 (constant S_ .f32 0x3DCCCCCD#32)) (grad a b))

/-- The new second moment. -/
def vel (a b v : FVec Ideal S256x1024 .f32) : FVec Ideal S256x1024 .f32 :=
  addf (mulf (broadcastInDim S256x1024 ![] bcast_S_S256x1024 (constant S_ .f32 0x3F7FBE77#32)) v) (mulf (broadcastInDim S256x1024 ![] bcast_S_S256x1024 (constant S_ .f32 0x3A83126F#32)) (mulf (grad a b) (grad a b)))

/-- The change of the weight. -/
def delta (w a b m v : FVec Ideal S256x1024 .f32) : FVec Ideal S256x1024 .f32 :=
  mulf (broadcastInDim S256x1024 ![] bcast_S_S256x1024 (constant S_ .f32 0xBA83126F#32)) (addf (Host.divf (Host.divf (mom a b m) (broadcastInDim S256x1024 ![] bcast_S_S256x1024 (constant S_ .f32 0x3F26BD02#32)))
    (addf (Host.sqrt (Host.divf (vel a b v) (broadcastInDim S256x1024 ![] bcast_S_S256x1024 (constant S_ .f32 0x3C231ACC#32)))) (broadcastInDim S256x1024 ![] bcast_S_S256x1024 (constant S_ .f32 0x322BCC77#32))))
    (mulf (broadcastInDim S256x1024 ![] bcast_S_S256x1024 (constant S_ .f32 0x3C23D70A#32)) w))

end Cert.AdamOutReferenceIdeal.Math

namespace Cert.AdamOutIdeal.Math

open Cert.AdamOutIdeal Cert.AdamOutIdeal.Gen Idealize.ShloMosaic Idealize.ShloMosaic.TcCoe Idealize.SL.Sem
open Idealize.ShloMosaic.Pipeline (Dat)
open Cert.AdamOutReferenceIdeal.Math (grad mom vel delta)

section point

variable (w a b m v : Vec Ideal S256x1024 .f32) (W A B M V : FVec Ideal S256x1024 .f32) (y : S256x1024.Idx) (j : S256x1024.Idx)

theorem grad_at (ha : a y = A j) (hb : b y = B j) : k0_pay2 a b y = grad A B j := by
  pointwise [k0_pay2, grad, ha, hb]

theorem mom_at (ha : a y = A j) (hb : b y = B j) (hm : m y = M j) : k0_pay3 a b m y = mom A B M j := by
  pointwise [k0_pay3, k0_pay2, grad, mom, ha, hb, hm]

theorem vel_at (ha : a y = A j) (hb : b y = B j) (hv : v y = V j) : k0_pay4 a b v y = vel A B V j := by
  pointwise [k0_pay4, k0_pay2, grad, vel, ha, hb, hv]

theorem delta_at (hw : w y = W j) (ha : a y = A j) (hb : b y = B j) (hm : m y = M j) (hv : v y = V j) :
    k0_pay1 (k0_pay5 a b m v w) (Scalar.ofBits .f32 0xBA83126F#32) y = delta W A B M V j := by
  pointwise [k0_pay1, k0_pay5, k0_pay4, k0_pay3, k0_pay2, grad, mom, vel, delta, hw, ha, hb, hm, hv]

end point

variable (m : (ℓ : Loc nD τ sig) → Buf (Elt Ideal) ℓ)

/-- The block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section reads

variable (c : Dev nD) (t : Fin cfg0.N) (y : S256x1024.Idx) (j : S256x1024.Idx) (h0 : (j 0 : ℕ) = t.val * 256 + y 0) (h1 : (j 1 : ℕ) = y 1)
include h0 h1

theorem read0 : (show FVec Ideal S256x1024 .f32 from iblk m c 0 t) y = (m ((c : Thread nD τ).loc main_arg0) : FVec Ideal S256x1024 .f32) j := by
  idx_vars y
  idx_vars j
  blk_point [iblk, V, idx t]

theorem read1 : (show FVec Ideal S256x1024 .f32 from iblk m c 1 t) y = (m ((c : Thread nD τ).loc main_arg1) : FVec Ideal S256x1024 .f32) j := by
  idx_vars y
  idx_vars j
  blk_point [iblk, V, idx t]

theorem read2 : (show FVec Ideal S256x1024 .f32 from iblk m c 2 t) y = (m ((c : Thread nD τ).loc main_arg2) : FVec Ideal S256x1024 .f32) j := by
  idx_vars y
  idx_vars j
  blk_point [iblk, V, idx t]

theorem read3 : (show FVec Ideal S256x1024 .f32 from iblk m c 3 t) y = (m ((c : Thread nD τ).loc main_arg3) : FVec Ideal S256x1024 .f32) j := by
  idx_vars y
  idx_vars j
  blk_point [iblk, V, idx t]

theorem read4 : (show FVec Ideal S256x1024 .f32 from iblk m c 4 t) y = (m ((c : Thread nD τ).loc main_arg4) : FVec Ideal S256x1024 .f32) j := by
  idx_vars y
  idx_vars j
  blk_point [iblk, V, idx t]

end reads

theorem final5 (c : Dev nD) : (dats m 0 c).arrAt 5 (cfgs 0).N
    = grad (m ((c : Thread nD τ).loc main_arg1)) (m ((c : Thread nD τ).loc main_arg2)) := by
  refine (dats m 0 c).arrAt_eq_of_covers 5 _ (by decide +kernel) fun t hf y => ?_
  blk_simp
  rw [after0_5]; frame_out
  exact grad_at _ _ _ _ y _ (read1 m c t y _ (by blk_simp [idx t] <;> omega) (by blk_simp [idx t] <;> omega)) (read2 m c t y _ (by blk_simp [idx t] <;> omega) (by blk_simp [idx t] <;> omega))

theorem final6 (c : Dev nD) : (dats m 0 c).arrAt 6 (cfgs 0).N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  exact delta_at _ _ _ _ _ _ _ _ _ _ y _ (read0 m c t y _ (by blk_simp [idx t] <;> omega) (by blk_simp [idx t] <;> omega)) (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega)) (read4 m c t y _ (by blk_simp [idx t] <;> omega) (by blk_simp [idx t] <;> omega))

theorem final7 (c : Dev nD) : (dats m 0 c).arrAt 7 (cfgs 0).N
    = mom (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]; frame_out
  exact mom_at _ _ _ _ _ _ y _ (read1 m c t y _ (by blk_simp [idx t] <;> omega) (by blk_simp [idx t] <;> omega)) (read2 m c t y _ (by blk_simp [idx t] <;> omega) (by blk_simp [idx t] <;> omega)) (read3 m c t y _ (by blk_simp [idx t] <;> omega) (by blk_simp [idx t] <;> omega))

theorem final8 (c : Dev nD) : (dats m 0 c).arrAt 8 (cfgs 0).N
    = vel (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]; frame_out
  exact vel_at _ _ _ _ _ _ y _ (read1 m c t y _ (by blk_simp [idx t] <;> omega) (by blk_simp [idx t] <;> omega)) (read2 m c t y _ (by blk_simp [idx t] <;> omega) (by blk_simp [idx t] <;> omega)) (read4 m c t y _ (by blk_simp [idx t] <;> omega) (by blk_simp [idx t] <;> omega))

end Cert.AdamOutIdeal.Math

end
-- ==== Proof.AdamOut.Claim.lean ====
/-
  The claim about a square projection's optimiser step: over the reals the program and the reference leave the same results.
-/
module

public import proofs.«01_k».proof.Defs
public import proofs.«01_k».proof.Proof.AdamOut.Value
public import proofs.«01_k».proof.Proof.Gen.AdamOutReferenceIdeal.Run

@[expose] public section

set_option maxRecDepth 16384

noncomputable section

namespace Cert.AdamOutIdeal.Math

open Idealize.ShloMosaic Idealize.ShloMosaic.TcCoe Idealize.SL.Sem

theorem frame_reference : Cert.quiescent_AdamOutReferenceIdeal := by
  intro m ρ _
  exact (θ_run Cert.AdamOutReferenceIdeal.defs _ _).mono (fun r h => ⟨fun c => (h c).2.2.2.2, sem_eq_zero_of_no_sems (by decide) r.2⟩)
    (Cert.AdamOutReferenceIdeal.Value.run m ρ)

theorem algebraic : Cert.algebraic_AdamOutIdeal_AdamOutReferenceIdeal := by
  pair_intro
  · run_from Cert.AdamOutIdeal.Gen.run_main m g
  · run_from Cert.AdamOutReferenceIdeal.Value.run m' g'
    · exact (final5 m c).symm
    · exact (final6 m c).symm
    · exact (final7 m c).symm
    · exact (final8 m c).symm

end Cert.AdamOutIdeal.Math

end
-- ==== Proof.AdamSmall.Points.lean ====
/-
  The optimiser's step of the small weights, entry by entry: what the program computes in its packed rows is what the reference computes
  in a weight's own row.
-/
module

public import proofs.«01_k».proof.Proof.Gen.AdamSmallIdeal.Skeleton
public import proofs.«01_k».proof.Proof.Gen.AdamSmallReferenceIdeal
public import Idealize.ShloMosaic.Lib.Pointwise
public import Idealize.ShloMosaic.Lib.Pipeline.ValueKit
public import Idealize.ShloMosaic.Lib.Claim

@[expose] public section

set_option maxRecDepth 16384

noncomputable section

namespace Cert.AdamSmallReferenceIdeal.Math

open Cert.AdamSmallReferenceIdeal Cert.AdamSmallReferenceIdeal.Gen Idealize.ShloMosaic Idealize.ShloMosaic.TcCoe

/-- The new first moment of a row of 1024. -/
def mom1024 (g m : FVec Ideal S1x1024 .f32) : FVec Ideal S1x1024 .f32 :=
  addf (mulf (broadcastInDim S1x1024 ![] bcast_S_S1x1024 (constant S_ .f32 0x3F666666#32)) m) (mulf (broadcastInDim S1x1024 ![] bcast_S_S1x1024 (constant S_ .f32 0x3DCCCCCD#32)) g)

/-- The new second moment of a row of 1024. -/
def vel1024 (g v : FVec Ideal S1x1024 .f32) : FVec Ideal S1x1024 .f32 :=
  addf (mulf (broadcastInDim S1x1024 ![] bcast_S_S1x1024 (constant S_ .f32 0x3F7FBE77#32)) v) (mulf (broadcastInDim S1x1024 ![] bcast_S_S1x1024 (constant S_ .f32 0x3A83126F#32)) (mulf g g))

/-- The change of a row of 1024. -/
def delta1024 (w g m v : FVec Ideal S1x1024 .f32) : FVec Ideal S1x1024 .f32 :=
  mulf (broadcastInDim S1x1024 ![] bcast_S_S1x1024 (constant S_ .f32 0xBA83126F#32)) (addf (Host.divf (Host.divf (mom1024 g m) (broadcastInDim S1x1024 ![] bcast_S_S1x1024 (constant S_ .f32 0x3F26BD02#32)))
    (addf (Host.sqrt (Host.divf (vel1024 g v) (broadcastInDim S1x1024 ![] bcast_S_S1x1024 (constant S_ .f32 0x3C231ACC#32)))) (broadcastInDim S1x1024 ![] bcast_S_S1x1024 (constant S_ .f32 0x322BCC77#32))))
    (mulf (broadcastInDim S1x1024 ![] bcast_S_S1x1024 (constant S_ .f32 0x3C23D70A#32)) w))

/-- The new first moment of a row of 2048. -/
def mom2048 (g m : FVec Ideal S1x2048 .f32) : FVec Ideal S1x2048 .f32 :=
  addf (mulf (broadcastInDim S1x2048 ![] bcast_S_S1x2048 (constant S_ .f32 0x3F666666#32)) m) (mulf (broadcastInDim S1x2048 ![] bcast_S_S1x2048 (constant S_ .f32 0x3DCCCCCD#32)) g)

/-- The new second moment of a row of 2048. -/
def vel2048 (g v : FVec Ideal S1x2048 .f32) : FVec Ideal S1x2048 .f32 :=
  addf (mulf (broadcastInDim S1x2048 ![] bcast_S_S1x2048 (constant S_ .f32 0x3F7FBE77#32)) v) (mulf (broadcastInDim S1x2048 ![] bcast_S_S1x2048 (constant S_ .f32 0x3A83126F#32)) (mulf g g))

/-- The change of a row of 2048. -/
def delta2048 (w g m v : FVec Ideal S1x2048 .f32) : FVec Ideal S1x2048 .f32 :=
  mulf (broadcastInDim S1x2048 ![] bcast_S_S1x2048 (constant S_ .f32 0xBA83126F#32)) (addf (Host.divf (Host.divf (mom2048 g m) (broadcastInDim S1x2048 ![] bcast_S_S1x2048 (constant S_ .f32 0x3F26BD02#32)))
    (addf (Host.sqrt (Host.divf (vel2048 g v) (broadcastInDim S1x2048 ![] bcast_S_S1x2048 (constant S_ .f32 0x3C231ACC#32)))) (broadcastInDim S1x2048 ![] bcast_S_S1x2048 (constant S_ .f32 0x322BCC77#32))))
    (mulf (broadcastInDim S1x2048 ![] bcast_S_S1x2048 (constant S_ .f32 0x3C23D70A#32)) w))

/-- The gradient of small weight 0, out of its eight packed rows. -/
def grad_0 (g : FVec Ideal S80x1024 .f32) : FVec Ideal S1x1024 .f32 :=
  extractStridedSlice S1x1024 ![0, 0] (shapeCast _ (extractStridedSlice S8x1024 ![0, 0] g slices_S80x1024_S8x1024_0_0) shapeCasts_S8x1024_S1x8192) slices_S1x8192_S1x1024_0_0

theorem grad_0_at (g : FVec Ideal S80x1024 .f32) (j : S1x1024.Idx) (r : Fin 80) (l : Fin 1024) (q : ℕ) (h0 : (r : ℕ) = 0 + q) (h1 : (j 1 : ℕ) = q * 1024 + l) :
    grad_0 g j = g (ix2 r l) := by
  idx_vars j
  have hl := l.isLt
  pointwise [grad_0]
  exact congrArg g (congrArg₂ ix2 (Fin.ext (by simp only []; omega)) (Fin.ext (by simp only []; omega)))

/-- The gradient of small weight 1, out of its eight packed rows. -/
def grad_1 (g : FVec Ideal S80x1024 .f32) : FVec Ideal S1x2048 .f32 :=
  extractStridedSlice S1x2048 ![0, 0] (shapeCast _ (extractStridedSlice S8x1024 ![8, 0] g slices_S80x1024_S8x1024_8_0) shapeCasts_S8x1024_S1x8192) slices_S1x8192_S1x2048_0_0

theorem grad_1_at (g : FVec Ideal S80x1024 .f32) (j : S1x2048.Idx) (r : Fin 80) (l : Fin 1024) (q : ℕ) (h0 : (r : ℕ) = 8 + q) (h1 : (j 1 : ℕ) = q * 1024 + l) :
    grad_1 g j = g (ix2 r l) := by
  idx_vars j
  have hl := l.isLt
  pointwise [grad_1]
  exact congrArg g (congrArg₂ ix2 (Fin.ext (by simp only []; omega)) (Fin.ext (by simp only []; omega)))

/-- The gradient of small weight 2, out of its eight packed rows. -/
def grad_2 (g : FVec Ideal S80x1024 .f32) : FVec Ideal S1x1024 .f32 :=
  extractStridedSlice S1x1024 ![0, 0] (shapeCast _ (extractStridedSlice S8x1024 ![16, 0] g slices_S80x1024_S8x1024_16_0) shapeCasts_S8x1024_S1x8192) slices_S1x8192_S1x1024_0_0

theorem grad_2_at (g : FVec Ideal S80x1024 .f32) (j : S1x1024.Idx) (r : Fin 80) (l : Fin 1024) (q : ℕ) (h0 : (r : ℕ) = 16 + q) (h1 : (j 1 : ℕ) = q * 1024 + l) :
    grad_2 g j = g (ix2 r l) := by
  idx_vars j
  have hl := l.isLt
  pointwise [grad_2]
  exact congrArg g (congrArg₂ ix2 (Fin.ext (by simp only []; omega)) (Fin.ext (by simp only []; omega)))

/-- The gradient of small weight 3, out of its eight packed rows. -/
def grad_3 (g : FVec Ideal S80x1024 .f32) : FVec Ideal S1x1024 .f32 :=
  extractStridedSlice S1x1024 ![0, 0] (shapeCast _ (extractStridedSlice S8x1024 ![24, 0] g slices_S80x1024_S8x1024_24_0) shapeCasts_S8x1024_S1x8192) slices_S1x8192_S1x1024_0_0

theorem grad_3_at (g : FVec Ideal S80x1024 .f32) (j : S1x1024.Idx) (r : Fin 80) (l : Fin 1024) (q : ℕ) (h0 : (r : ℕ) = 24 + q) (h1 : (j 1 : ℕ) = q * 1024 + l) :
    grad_3 g j = g (ix2 r l) := by
  idx_vars j
  have hl := l.isLt
  pointwise [grad_3]
  exact congrArg g (congrArg₂ ix2 (Fin.ext (by simp only []; omega)) (Fin.ext (by simp only []; omega)))

end Cert.AdamSmallReferenceIdeal.Math

namespace Cert.AdamSmallIdeal.Math

open Cert.AdamSmallIdeal Cert.AdamSmallIdeal.Gen Idealize.ShloMosaic Idealize.ShloMosaic.TcCoe
open Cert.AdamSmallReferenceIdeal.Math

variable (g : Vec Ideal S80x1024 .f32) (w m v : Vec Ideal S1x80x1024 .f32) (r : Fin 80) (l : Fin 1024)

theorem grad_pay : k0_pay20 g (ix3 0 r l) = g (ix2 r l) := by
  pointwise [k0_pay20]

section row1024

variable (G W M V : FVec Ideal S1x1024 .f32) (j : S1x1024.Idx)

theorem mom1024_at (hg : g (ix2 r l) = G j) (hm : m (ix3 0 r l) = M j) : k0_pay22 (k0_pay17 g m) (ix3 0 r l) = mom1024 G M j := by
  pointwise [k0_pay22, k0_pay17, mom1024, hg, hm]

theorem vel1024_at (hg : g (ix2 r l) = G j) (hv : v (ix3 0 r l) = V j) : k0_pay23 g (k0_pay18 v) (Scalar.ofBits .f32 0x3F7FBE77#32) (ix3 0 r l) = vel1024 G V j := by
  pointwise [k0_pay23, k0_pay19, k0_pay18, vel1024, hg, hv]

theorem delta1024_at (hw : w (ix3 0 r l) = W j) (hg : g (ix2 r l) = G j) (hm : m (ix3 0 r l) = M j) (hv : v (ix3 0 r l) = V j) :
    k0_pay21 g (k0_pay17 g m) (k0_pay18 v) (Scalar.ofBits .f32 0x3F7FBE77#32) w (ix3 0 r l) = delta1024 W G M V j := by
  pointwise [k0_pay21, k0_pay19, k0_pay18, k0_pay17, mom1024, vel1024, delta1024, hw, hg, hm, hv]

end row1024

section row2048

variable (G W M V : FVec Ideal S1x2048 .f32) (j : S1x2048.Idx)

theorem mom2048_at (hg : g (ix2 r l) = G j) (hm : m (ix3 0 r l) = M j) : k0_pay22 (k0_pay17 g m) (ix3 0 r l) = mom2048 G M j := by
  pointwise [k0_pay22, k0_pay17, mom2048, hg, hm]

theorem vel2048_at (hg : g (ix2 r l) = G j) (hv : v (ix3 0 r l) = V j) : k0_pay23 g (k0_pay18 v) (Scalar.ofBits .f32 0x3F7FBE77#32) (ix3 0 r l) = vel2048 G V j := by
  pointwise [k0_pay23, k0_pay19, k0_pay18, vel2048, hg, hv]

theorem delta2048_at (hw : w (ix3 0 r l) = W j) (hg : g (ix2 r l) = G j) (hm : m (ix3 0 r l) = M j) (hv : v (ix3 0 r l) = V j) :
    k0_pay21 g (k0_pay17 g m) (k0_pay18 v) (Scalar.ofBits .f32 0x3F7FBE77#32) w (ix3 0 r l) = delta2048 W G M V j := by
  pointwise [k0_pay21, k0_pay19, k0_pay18, k0_pay17, mom2048, vel2048, delta2048, hw, hg, hm, hv]

end row2048

end Cert.AdamSmallIdeal.Math

end
-- ==== Proof.AdamSmall.Rows.lean ====
/-
  Reading one index of a buffer that was stored piece by piece.
-/
module

public import Idealize.ShloMosaic.Lib.Pointwise
public import Idealize.ShloMosaic.Lib.Pipeline.ValueKit
public import Idealize.ShloMosaic.Lib.Claim

@[expose] public section

noncomputable section

namespace Cert.Rows

open Idealize.ShloMosaic

variable {s : Shape} {e : EltTy} {Val : EltTy → Type} [∀ e, Nonempty (Val e)] {off size : Fin s.rank → ℕ} {inb : ∀ a, off a + size a ≤ s.size a}

/-- An index of the last piece reads that piece. -/
theorem canon_hit (w : (Rect.unit off size inb).shape.Idx → Val e) (L : List (View.Piece Val s e)) (y : s.Idx) (x : (Rect.unit off size inb).shape.Idx)
    (h : ∀ a, (y a : ℕ) = off a + (x a : ℕ)) : View.canon (⟨Rect.unit off size inb, w⟩ :: L) y = w x := by
  have e : (Rect.unit off size inb).emb x = y := funext fun a => Fin.ext (by rw [h a, Rect.emb_apply]; show off a + 1 * (x a : ℕ) = _; omega)
  rw [← e, View.canon_cons_emb]

/-- An index apart from the last piece in one axis reads the earlier pieces. -/
theorem canon_miss (a : Fin s.rank) (w : (Rect.unit off size inb).shape.Idx → Val e) (L : List (View.Piece Val s e)) (y : s.Idx)
    (h : (y a : ℕ) < off a ∨ off a + size a ≤ (y a : ℕ)) : View.canon (⟨Rect.unit off size inb, w⟩ :: L) y = View.canon L y :=
  View.canon_cons_of_not_mem _ _ fun hy => by
    have := Rect.mem_set_unit (inb := inb) |>.mp hy a
    omega

/-- A load of stored pieces reads, at an index of its box, the stores there. -/
theorem readCov_at {sig : RefSig} {κ : Kind} {sp : Space} (v : View sig κ sp s e) (L : List (View.Piece Val s e)) (x : (Rect.unit off size inb).shape.Idx) (y : s.Idx)
    (h : ∀ a, (y a : ℕ) = off a + (x a : ℕ)) : v.readCov L (Rect.unit off size inb).toLoadRect x = View.canon L y := by
  have e : (Rect.unit off size inb).emb x = y := funext fun a => Fin.ext (by rw [h a, Rect.emb_apply]; show off a + 1 * (x a : ℕ) = _; omega)
  rw [View.readCov_eq_canon']
  exact congrArg _ e

/-- A load of a buffer held at given contents reads them at an index of its box. -/
theorem readAt_at {sig : RefSig} {κ : Kind} {sp : Space} (M : Memref sig κ sp s e) (hM : M.IsWhole) (X : s.Idx → Val e) (x : (Rect.unit off size inb).shape.Idx) (y : s.Idx)
    (h : ∀ a, (y a : ℕ) = off a + (x a : ℕ)) : M.view.readAt Val (Rect.unit off size inb).toLoadRect (hM.unread X) x = X y := by
  have e : (Rect.unit off size inb).emb x = y := funext fun a => Fin.ext (by rw [h a, Rect.emb_apply]; show off a + 1 * (x a : ℕ) = _; omega)
  rw [View.readAt_apply, Memref.IsWhole.read_unread]
  exact congrArg X e

end Cert.Rows

end
-- ==== Proof.AdamSmall.Cells.lean ====
/-
  What the scratch rows of the small weights' optimiser step hold: each weight, each moment and the packed gradient, row by row.
-/
module

public import proofs.«01_k».proof.Proof.Gen.AdamSmallIdeal.Frame
public import proofs.«01_k».proof.Proof.AdamSmall.Points
public import proofs.«01_k».proof.Proof.AdamSmall.Rows
public import Idealize.ShloMosaic.Lib.Pointwise
public import Idealize.ShloMosaic.Lib.Pipeline.ValueKit
public import Idealize.ShloMosaic.Lib.Claim

@[expose] public section

set_option maxRecDepth 16384

noncomputable section

namespace Cert.AdamSmallIdeal.Math

open Cert.AdamSmallIdeal Cert.AdamSmallIdeal.Gen Idealize.ShloMosaic Idealize.ShloMosaic.TcCoe Idealize.SL.Sem
open Cert.AdamSmallReferenceIdeal.Math

variable (m : (ℓ : Loc nD τ sig) → Buf (Elt Ideal) ℓ)

/-- A row with two unit axes in front is the row. -/
theorem cast_in (X : Vec Ideal S1x1024 .f32) (l : Fin 1024) : shapeCast S1x1x1024 X shapeCasts_S1x1024_S1x1x1024 (ix3 0 0 l) = X (ix2 0 l) := by
  pointwise []

theorem cast_out (X : Vec Ideal S1x1x1024 .f32) (l : Fin 1024) : shapeCast S1x1024 X shapeCasts_S1x1x1024_S1x1024 (ix2 0 l) = X (ix3 0 0 l) := by
  pointwise []

theorem in_whole (M : Memref sig .tc .vmem S1x1024 .f32) (hM : M.IsWhole) (X : S1x1024.Idx → Elt Ideal .f32) (l : Fin 1024) :
    shapeCast S1x1x1024 (View.readAt (Elt Ideal) M.view (Rect.unit (s := S1x1024) ![0, 0] S1x1024.size inb_S1x1024_S1x1024_0_0).toLoadRect (hM.unread X)) shapeCasts_S1x1024_S1x1x1024 (ix3 0 0 l)
      = X (ix2 0 l) :=
  (cast_in _ l).trans (Rows.readAt_at (s := S1x1024) (off := ![0, 0]) (size := S1x1024.size) (inb := inb_S1x1024_S1x1024_0_0) M hM X (ix2 0 l : S1x1024.Idx) (ix2 0 l : S1x1024.Idx) (by
    intro (a : Fin 2)
    fin_cases a
    exacts [rfl, (Nat.zero_add _).symm]))

theorem in_first (M : Memref sig .tc .vmem S1x2048 .f32) (hM : M.IsWhole) (X : S1x2048.Idx → Elt Ideal .f32) (l : Fin 1024) :
    shapeCast S1x1x1024 (View.readAt (Elt Ideal) M.view (Rect.unit (s := S1x2048) ![0, 0] S1x1024.size inb_S1x2048_S1x1024_0_0).toLoadRect (hM.unread X)) shapeCasts_S1x1024_S1x1x1024 (ix3 0 0 l)
      = X (ix2 0 ⟨l, by omega⟩) :=
  (cast_in _ l).trans (Rows.readAt_at (s := S1x2048) (off := ![0, 0]) (size := S1x1024.size) (inb := inb_S1x2048_S1x1024_0_0) M hM X (ix2 0 l : S1x1024.Idx) (ix2 0 ⟨l, by omega⟩ : S1x2048.Idx) (by
    intro (a : Fin 2)
    fin_cases a
    exacts [rfl, (Nat.zero_add _).symm]))

theorem in_last (M : Memref sig .tc .vmem S1x2048 .f32) (hM : M.IsWhole) (X : S1x2048.Idx → Elt Ideal .f32) (l : Fin 1024) :
    shapeCast S1x1x1024 (View.readAt (Elt Ideal) M.view (Rect.unit (s := S1x2048) ![0, 1024] S1x1024.size inb_S1x2048_S1x1024_0_1024).toLoadRect (hM.unread X)) shapeCasts_S1x1024_S1x1x1024 (ix3 0 0 l)
      = X (ix2 0 ⟨1024 + l, by omega⟩) :=
  (cast_in _ l).trans (Rows.readAt_at (s := S1x2048) (off := ![0, 1024]) (size := S1x1024.size) (inb := inb_S1x2048_S1x1024_0_1024) M hM X (ix2 0 l : S1x1024.Idx) (ix2 0 ⟨1024 + l, by omega⟩ : S1x2048.Idx) (by
    intro (a : Fin 2)
    fin_cases a
    exacts [rfl, rfl]))

theorem idx0 : ∀ t : Fin cfg0.N, win0_0.index t = ![0, 0] :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx5 : ∀ t : Fin cfg0.N, win0_5.index t = ![0, 0] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem idx9 : ∀ t : Fin cfg0.N, win0_9.index t = ![0, 0] :=
  (by decide +kernel : ∀ t : Fin grid0.N, _)

theorem idx10 : ∀ t : Fin cfg0.N, win0_10.index t = ![0, 0] :=
  (by decide +kernel : ∀ t : Fin grid0.N, _)

theorem idx11 : ∀ t : Fin cfg0.N, win0_11.index t = ![0, 0] :=
  (by decide +kernel : ∀ t : Fin grid0.N, _)

theorem idx12 : ∀ t : Fin cfg0.N, win0_12.index t = ![0, 0] :=
  (by decide +kernel : ∀ t : Fin grid0.N, _)

theorem idx13 : ∀ t : Fin cfg0.N, win0_13.index t = ![0, 0] :=
  (by decide +kernel : ∀ t : Fin grid0.N, _)

theorem idx14 : ∀ t : Fin cfg0.N, win0_14.index t = ![0, 0] :=
  (by decide +kernel : ∀ t : Fin grid0.N, _)

theorem idx15 : ∀ t : Fin cfg0.N, win0_15.index t = ![0, 0] :=
  (by decide +kernel : ∀ t : Fin grid0.N, _)

theorem idx16 : ∀ t : Fin cfg0.N, win0_16.index t = ![0, 0] :=
  (by decide +kernel : ∀ t : Fin grid0.N, _)

theorem idx17 : ∀ t : Fin cfg0.N, win0_17.index t = ![0, 0] :=
  (by decide +kernel : ∀ t : Fin grid0.N, _)

theorem idx18 : ∀ t : Fin cfg0.N, win0_18.index t = ![0, 0] :=
  (by decide +kernel : ∀ t : Fin grid0.N, _)

theorem idx19 : ∀ t : Fin cfg0.N, win0_19.index t = ![0, 0] :=
  (by decide +kernel : ∀ t : Fin grid0.N, _)

theorem idx20 : ∀ t : Fin cfg0.N, win0_20.index t = ![0, 0] :=
  (by decide +kernel : ∀ t : Fin grid0.N, _)

theorem idx21 : ∀ t : Fin cfg0.N, win0_21.index t = ![0, 0] :=
  (by decide +kernel : ∀ t : Fin grid0.N, _)

theorem idx22 : ∀ t : Fin cfg0.N, win0_22.index t = ![0, 0] :=
  (by decide +kernel : ∀ t : Fin grid0.N, _)

theorem idx23 : ∀ t : Fin cfg0.N, win0_23.index t = ![0, 0] :=
  (by decide +kernel : ∀ t : Fin grid0.N, _)

theorem idx24 : ∀ t : Fin cfg0.N, win0_24.index t = ![0, 0] :=
  (by decide +kernel : ∀ t : Fin grid0.N, _)

theorem idx25 : ∀ t : Fin cfg0.N, win0_25.index t = ![0, 0] :=
  (by decide +kernel : ∀ t : Fin grid0.N, _)

theorem idx26 : ∀ t : Fin cfg0.N, win0_26.index t = ![0, 0] :=
  (by decide +kernel : ∀ t : Fin grid0.N, _)

theorem idx27 : ∀ t : Fin cfg0.N, win0_27.index t = ![0, 0] :=
  (by decide +kernel : ∀ t : Fin grid0.N, _)

theorem idx28 : ∀ t : Fin cfg0.N, win0_28.index t = ![0, 0] :=
  (by decide +kernel : ∀ t : Fin grid0.N, _)

section reads

variable (c : Dev nD) (t : Fin cfg0.N)

theorem read0 (y : S1x1024.Idx) : (show FVec Ideal S1x1024 .f32 from iblk m c 0 t) y = (m ((c : Thread nD τ).loc main_arg0) : FVec Ideal S1x1024 .f32) y := by
  idx_vars y
  blk_point [iblk, V, idx0 t]

theorem read1 (y : S1x2048.Idx) : (show FVec Ideal S1x2048 .f32 from iblk m c 1 t) y = (m ((c : Thread nD τ).loc main_arg1) : FVec Ideal S1x2048 .f32) y := by
  idx_vars y
  blk_point [iblk, V, idx1 t]

theorem read2 (y : S1x1024.Idx) : (show FVec Ideal S1x1024 .f32 from iblk m c 2 t) y = (m ((c : Thread nD τ).loc main_arg2) : FVec Ideal S1x1024 .f32) y := by
  idx_vars y
  blk_point [iblk, V, idx2 t]

theorem read3 (y : S1x1024.Idx) : (show FVec Ideal S1x1024 .f32 from iblk m c 3 t) y = (m ((c : Thread nD τ).loc main_arg3) : FVec Ideal S1x1024 .f32) y := by
  idx_vars y
  blk_point [iblk, V, idx3 t]

theorem read4 (y : S1x1024.Idx) : (show FVec Ideal S1x1024 .f32 from iblk m c 4 t) y = (m ((c : Thread nD τ).loc main_arg4) : FVec Ideal S1x1024 .f32) y := by
  idx_vars y
  blk_point [iblk, V, idx4 t]

theorem read5 (y : S1x2048.Idx) : (show FVec Ideal S1x2048 .f32 from iblk m c 5 t) y = (m ((c : Thread nD τ).loc main_arg5) : FVec Ideal S1x2048 .f32) y := by
  idx_vars y
  blk_point [iblk, V, idx5 t]

theorem read6 (y : S1x1024.Idx) : (show FVec Ideal S1x1024 .f32 from iblk m c 6 t) y = (m ((c : Thread nD τ).loc main_arg6) : FVec Ideal S1x1024 .f32) y := by
  idx_vars y
  blk_point [iblk, V, idx6 t]

theorem read7 (y : S1x1024.Idx) : (show FVec Ideal S1x1024 .f32 from iblk m c 7 t) y = (m ((c : Thread nD τ).loc main_arg7) : FVec Ideal S1x1024 .f32) y := by
  idx_vars y
  blk_point [iblk, V, idx7 t]

theorem read8 (y : S1x1024.Idx) : (show FVec Ideal S1x1024 .f32 from iblk m c 8 t) y = (m ((c : Thread nD τ).loc main_arg8) : FVec Ideal S1x1024 .f32) y := by
  idx_vars y
  blk_point [iblk, V, idx8 t]

theorem read9 (y : S1x2048.Idx) : (show FVec Ideal S1x2048 .f32 from iblk m c 9 t) y = (m ((c : Thread nD τ).loc main_arg9) : FVec Ideal S1x2048 .f32) y := by
  idx_vars y
  blk_point [iblk, V, idx9 t]

theorem read10 (y : S1x1024.Idx) : (show FVec Ideal S1x1024 .f32 from iblk m c 10 t) y = (m ((c : Thread nD τ).loc main_arg10) : FVec Ideal S1x1024 .f32) y := by
  idx_vars y
  blk_point [iblk, V, idx10 t]

theorem read11 (y : S1x1024.Idx) : (show FVec Ideal S1x1024 .f32 from iblk m c 11 t) y = (m ((c : Thread nD τ).loc main_arg11) : FVec Ideal S1x1024 .f32) y := by
  idx_vars y
  blk_point [iblk, V, idx11 t]

theorem read12 (y : S80x1024.Idx) : (show FVec Ideal S80x1024 .f32 from iblk m c 12 t) y = (m ((c : Thread nD τ).loc main_arg12) : FVec Ideal S80x1024 .f32) y := by
  idx_vars y
  blk_point [iblk, V, idx12 t]

/-- The weights and their moments, stored row by row. -/
def packed : List (View.Piece (Elt Ideal) S3x80x1024 .f32) :=
  [⟨Rect.unit (s := S3x80x1024) ![2, 24, 0] S1x1x1024.size inb_S3x80x1024_S1x1x1024_2_24_0, shapeCast S1x1x1024 (View.readAt (Elt Ideal) (ms0_11 t).view (Rect.unit (s := S1x1024) ![0, 0] S1x1024.size inb_S1x1024_S1x1024_0_0).toLoadRect ((hs0_11 t).unread (iblk m c 11 t))) shapeCasts_S1x1024_S1x1x1024⟩,
    ⟨Rect.unit (s := S3x80x1024) ![2, 16, 0] S1x1x1024.size inb_S3x80x1024_S1x1x1024_2_16_0, shapeCast S1x1x1024 (View.readAt (Elt Ideal) (ms0_10 t).view (Rect.unit (s := S1x1024) ![0, 0] S1x1024.size inb_S1x1024_S1x1024_0_0).toLoadRect ((hs0_10 t).unread (iblk m c 10 t))) shapeCasts_S1x1024_S1x1x1024⟩,
    ⟨Rect.unit (s := S3x80x1024) ![2, 9, 0] S1x1x1024.size inb_S3x80x1024_S1x1x1024_2_9_0, shapeCast S1x1x1024 (View.readAt (Elt Ideal) (ms0_9 t).view (Rect.unit (s := S1x2048) ![0, 1024] S1x1024.size inb_S1x2048_S1x1024_0_1024).toLoadRect ((hs0_9 t).unread (iblk m c 9 t))) shapeCasts_S1x1024_S1x1x1024⟩,
    ⟨Rect.unit (s := S3x80x1024) ![2, 8, 0] S1x1x1024.size inb_S3x80x1024_S1x1x1024_2_8_0, shapeCast S1x1x1024 (View.readAt (Elt Ideal) (ms0_9 t).view (Rect.unit (s := S1x2048) ![0, 0] S1x1024.size inb_S1x2048_S1x1024_0_0).toLoadRect ((hs0_9 t).unread (iblk m c 9 t))) shapeCasts_S1x1024_S1x1x1024⟩,
    ⟨Rect.unit (s := S3x80x1024) ![2, 0, 0] S1x1x1024.size inb_S3x80x1024_S1x1x1024_2_0_0, shapeCast S1x1x1024 (View.readAt (Elt Ideal) (ms0_8 t).view (Rect.unit (s := S1x1024) ![0, 0] S1x1024.size inb_S1x1024_S1x1024_0_0).toLoadRect ((hs0_8 t).unread (iblk m c 8 t))) shapeCasts_S1x1024_S1x1x1024⟩,
    ⟨Rect.unit (s := S3x80x1024) ![1, 24, 0] S1x1x1024.size inb_S3x80x1024_S1x1x1024_1_24_0, shapeCast S1x1x1024 (View.readAt (Elt Ideal) (ms0_7 t).view (Rect.unit (s := S1x1024) ![0, 0] S1x1024.size inb_S1x1024_S1x1024_0_0).toLoadRect ((hs0_7 t).unread (iblk m c 7 t))) shapeCasts_S1x1024_S1x1x1024⟩,
    ⟨Rect.unit (s := S3x80x1024) ![1, 16, 0] S1x1x1024.size inb_S3x80x1024_S1x1x1024_1_16_0, shapeCast S1x1x1024 (View.readAt (Elt Ideal) (ms0_6 t).view (Rect.unit (s := S1x1024) ![0, 0] S1x1024.size inb_S1x1024_S1x1024_0_0).toLoadRect ((hs0_6 t).unread (iblk m c 6 t))) shapeCasts_S1x1024_S1x1x1024⟩,
    ⟨Rect.unit (s := S3x80x1024) ![1, 9, 0] S1x1x1024.size inb_S3x80x1024_S1x1x1024_1_9_0, shapeCast S1x1x1024 (View.readAt (Elt Ideal) (ms0_5 t).view (Rect.unit (s := S1x2048) ![0, 1024] S1x1024.size inb_S1x2048_S1x1024_0_1024).toLoadRect ((hs0_5 t).unread (iblk m c 5 t))) shapeCasts_S1x1024_S1x1x1024⟩,
    ⟨Rect.unit (s := S3x80x1024) ![1, 8, 0] S1x1x1024.size inb_S3x80x1024_S1x1x1024_1_8_0, shapeCast S1x1x1024 (View.readAt (Elt Ideal) (ms0_5 t).view (Rect.unit (s := S1x2048) ![0, 0] S1x1024.size inb_S1x2048_S1x1024_0_0).toLoadRect ((hs0_5 t).unread (iblk m c 5 t))) shapeCasts_S1x1024_S1x1x1024⟩,
    ⟨Rect.unit (s := S3x80x1024) ![1, 0, 0] S1x1x1024.size inb_S3x80x1024_S1x1x1024_1_0_0, shapeCast S1x1x1024 (View.readAt (Elt Ideal) (ms0_4 t).view (Rect.unit (s := S1x1024) ![0, 0] S1x1024.size inb_S1x1024_S1x1024_0_0).toLoadRect ((hs0_4 t).unread (iblk m c 4 t))) shapeCasts_S1x1024_S1x1x1024⟩,
    ⟨Rect.unit (s := S3x80x1024) ![0, 24, 0] S1x1x1024.size inb_S3x80x1024_S1x1x1024_0_24_0, shapeCast S1x1x1024 (View.readAt (Elt Ideal) (ms0_3 t).view (Rect.unit (s := S1x1024) ![0, 0] S1x1024.size inb_S1x1024_S1x1024_0_0).toLoadRect ((hs0_3 t).unread (iblk m c 3 t))) shapeCasts_S1x1024_S1x1x1024⟩,
    ⟨Rect.unit (s := S3x80x1024) ![0, 16, 0] S1x1x1024.size inb_S3x80x1024_S1x1x1024_0_16_0, shapeCast S1x1x1024 (View.readAt (Elt Ideal) (ms0_2 t).view (Rect.unit (s := S1x1024) ![0, 0] S1x1024.size inb_S1x1024_S1x1024_0_0).toLoadRect ((hs0_2 t).unread (iblk m c 2 t))) shapeCasts_S1x1024_S1x1x1024⟩,
    ⟨Rect.unit (s := S3x80x1024) ![0, 9, 0] S1x1x1024.size inb_S3x80x1024_S1x1x1024_0_9_0, shapeCast S1x1x1024 (View.readAt (Elt Ideal) (ms0_1 t).view (Rect.unit (s := S1x2048) ![0, 1024] S1x1024.size inb_S1x2048_S1x1024_0_1024).toLoadRect ((hs0_1 t).unread (iblk m c 1 t))) shapeCasts_S1x1024_S1x1x1024⟩,
    ⟨Rect.unit (s := S3x80x1024) ![0, 8, 0] S1x1x1024.size inb_S3x80x1024_S1x1x1024_0_8_0, shapeCast S1x1x1024 (View.readAt (Elt Ideal) (ms0_1 t).view (Rect.unit (s := S1x2048) ![0, 0] S1x1024.size inb_S1x2048_S1x1024_0_0).toLoadRect ((hs0_1 t).unread (iblk m c 1 t))) shapeCasts_S1x1024_S1x1x1024⟩,
    ⟨Rect.unit (s := S3x80x1024) ![0, 0, 0] S1x1x1024.size inb_S3x80x1024_S1x1x1024_0_0_0, shapeCast S1x1x1024 (View.readAt (Elt Ideal) (ms0_0 t).view (Rect.unit (s := S1x1024) ![0, 0] S1x1024.size inb_S1x1024_S1x1024_0_0).toLoadRect ((hs0_0 t).unread (iblk m c 0 t))) shapeCasts_S1x1024_S1x1x1024⟩,
    ⟨Rect.unit (s := S3x80x1024) ![0, 0, 0] S3x80x1024.size inb_S3x80x1024_S3x80x1024_0_0_0, k0_pay1 (F := Ideal)⟩]

def rowsW : Vec Ideal S1x80x1024 .f32 :=
  scM0_0.view.readCov (packed m c t) (Rect.unit (s := S3x80x1024) ![0, 0, 0] S1x80x1024.size inb_S3x80x1024_S1x80x1024_0_0_0).toLoadRect

def rowsM : Vec Ideal S1x80x1024 .f32 :=
  scM0_0.view.readCov (packed m c t) (Rect.unit (s := S3x80x1024) ![1, 0, 0] S1x80x1024.size inb_S3x80x1024_S1x80x1024_1_0_0).toLoadRect

def rowsV : Vec Ideal S1x80x1024 .f32 :=
  scM0_0.view.readCov (packed m c t) (Rect.unit (s := S3x80x1024) ![2, 0, 0] S1x80x1024.size inb_S3x80x1024_S1x80x1024_2_0_0).toLoadRect

def rowsG : Vec Ideal S80x1024 .f32 :=
  View.readAt (Elt Ideal) (ms0_12 t).view (Rect.unit (s := S80x1024) ![0, 0] S80x1024.size inb_S80x1024_S80x1024_0_0).toLoadRect ((hs0_12 t).unread (iblk m c 12 t))

theorem rowsG_at (r : Fin 80) (l : Fin 1024) : rowsG m c t (ix2 r l) = (m ((c : Thread nD τ).loc main_arg12) : FVec Ideal S80x1024 .f32) (ix2 r l) :=
  (Rows.readAt_at (s := S80x1024) (off := ![0, 0]) (size := S80x1024.size) (inb := inb_S80x1024_S80x1024_0_0) (ms0_12 t) (hs0_12 t) (iblk m c 12 t) (ix2 r l : S80x1024.Idx) (ix2 r l : S80x1024.Idx) (by
    intro (a : Fin 2)
    fin_cases a
    exacts [(Nat.zero_add _).symm, (Nat.zero_add _).symm])).trans (read12 m c t _)

theorem rowsV_3_0 (l : Fin 1024) : rowsV m c t (ix3 0 ⟨24, by decide⟩ l) = (m ((c : Thread nD τ).loc main_arg11) : FVec Ideal S1x1024 .f32) (ix2 0 l) := by
  unfold rowsV packed
  refine Eq.trans (Rows.readCov_at (s := S3x80x1024) (off := ![2, 0, 0]) (size := S1x80x1024.size) (inb := inb_S3x80x1024_S1x80x1024_2_0_0) _ _ (ix3 0 ⟨24, by decide⟩ l : S1x80x1024.Idx) (ix3 ⟨2, by decide⟩ ⟨24, by decide⟩ l : S3x80x1024.Idx) (by
    intro (a : Fin 3)
    fin_cases a
    exacts [rfl, rfl, (Nat.zero_add _).symm])) ?_
  refine Eq.trans (Rows.canon_hit (s := S3x80x1024) (off := ![2, 24, 0]) (size := S1x1x1024.size) (inb := inb_S3x80x1024_S1x1x1024_2_24_0) _ _ (ix3 ⟨2, by decide⟩ ⟨24, by decide⟩ l : S3x80x1024.Idx) (ix3 0 0 l : S1x1x1024.Idx) (by
    intro (a : Fin 3)
    fin_cases a
    exacts [rfl, rfl, (Nat.zero_add _).symm])) ?_
  exact (in_whole _ _ _ l).trans (read11 m c t _)

theorem rowsV_2_0 (l : Fin 1024) : rowsV m c t (ix3 0 ⟨16, by decide⟩ l) = (m ((c : Thread nD τ).loc main_arg10) : FVec Ideal S1x1024 .f32) (ix2 0 l) := by
  unfold rowsV packed
  refine Eq.trans (Rows.readCov_at (s := S3x80x1024) (off := ![2, 0, 0]) (size := S1x80x1024.size) (inb := inb_S3x80x1024_S1x80x1024_2_0_0) _ _ (ix3 0 ⟨16, by decide⟩ l : S1x80x1024.Idx) (ix3 ⟨2, by decide⟩ ⟨16, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (1 : Fin 3) _ _ (ix3 ⟨2, by decide⟩ ⟨16, by decide⟩ l : S3x80x1024.Idx) (Or.inl (show (16 : ℕ) < 24 by decide))) ?_
  refine Eq.trans (Rows.canon_hit (s := S3x80x1024) (off := ![2, 16, 0]) (size := S1x1x1024.size) (inb := inb_S3x80x1024_S1x1x1024_2_16_0) _ _ (ix3 ⟨2, by decide⟩ ⟨16, by decide⟩ l : S3x80x1024.Idx) (ix3 0 0 l : S1x1x1024.Idx) (by
    intro (a : Fin 3)
    fin_cases a
    exacts [rfl, rfl, (Nat.zero_add _).symm])) ?_
  exact (in_whole _ _ _ l).trans (read10 m c t _)

theorem rowsV_1_1 (l : Fin 1024) : rowsV m c t (ix3 0 ⟨9, by decide⟩ l) = (m ((c : Thread nD τ).loc main_arg9) : FVec Ideal S1x2048 .f32) (ix2 0 ⟨1024 + l, by omega⟩) := by
  unfold rowsV packed
  refine Eq.trans (Rows.readCov_at (s := S3x80x1024) (off := ![2, 0, 0]) (size := S1x80x1024.size) (inb := inb_S3x80x1024_S1x80x1024_2_0_0) _ _ (ix3 0 ⟨9, by decide⟩ l : S1x80x1024.Idx) (ix3 ⟨2, by decide⟩ ⟨9, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (1 : Fin 3) _ _ (ix3 ⟨2, by decide⟩ ⟨9, by decide⟩ l : S3x80x1024.Idx) (Or.inl (show (9 : ℕ) < 24 by decide))) ?_
  refine Eq.trans (Rows.canon_miss (s := S3x80x1024) (off := ![2, 16, 0]) (size := S1x1x1024.size) (inb := inb_S3x80x1024_S1x1x1024_2_16_0) (1 : Fin 3) _ _ (ix3 ⟨2, by decide⟩ ⟨9, by decide⟩ l : S3x80x1024.Idx) (Or.inl (show (9 : ℕ) < 16 by decide))) ?_
  refine Eq.trans (Rows.canon_hit (s := S3x80x1024) (off := ![2, 9, 0]) (size := S1x1x1024.size) (inb := inb_S3x80x1024_S1x1x1024_2_9_0) _ _ (ix3 ⟨2, by decide⟩ ⟨9, by decide⟩ l : S3x80x1024.Idx) (ix3 0 0 l : S1x1x1024.Idx) (by
    intro (a : Fin 3)
    fin_cases a
    exacts [rfl, rfl, (Nat.zero_add _).symm])) ?_
  exact (in_last _ _ _ l).trans (read9 m c t _)

theorem rowsV_1_0 (l : Fin 1024) : rowsV m c t (ix3 0 ⟨8, by decide⟩ l) = (m ((c : Thread nD τ).loc main_arg9) : FVec Ideal S1x2048 .f32) (ix2 0 ⟨l, by omega⟩) := by
  unfold rowsV packed
  refine Eq.trans (Rows.readCov_at (s := S3x80x1024) (off := ![2, 0, 0]) (size := S1x80x1024.size) (inb := inb_S3x80x1024_S1x80x1024_2_0_0) _ _ (ix3 0 ⟨8, by decide⟩ l : S1x80x1024.Idx) (ix3 ⟨2, by decide⟩ ⟨8, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (1 : Fin 3) _ _ (ix3 ⟨2, by decide⟩ ⟨8, by decide⟩ l : S3x80x1024.Idx) (Or.inl (show (8 : ℕ) < 24 by decide))) ?_
  refine Eq.trans (Rows.canon_miss (s := S3x80x1024) (off := ![2, 16, 0]) (size := S1x1x1024.size) (inb := inb_S3x80x1024_S1x1x1024_2_16_0) (1 : Fin 3) _ _ (ix3 ⟨2, by decide⟩ ⟨8, by decide⟩ l : S3x80x1024.Idx) (Or.inl (show (8 : ℕ) < 16 by decide))) ?_
  refine Eq.trans (Rows.canon_miss (s := S3x80x1024) (off := ![2, 9, 0]) (size := S1x1x1024.size) (inb := inb_S3x80x1024_S1x1x1024_2_9_0) (1 : Fin 3) _ _ (ix3 ⟨2, by decide⟩ ⟨8, by decide⟩ l : S3x80x1024.Idx) (Or.inl (show (8 : ℕ) < 9 by decide))) ?_
  refine Eq.trans (Rows.canon_hit (s := S3x80x1024) (off := ![2, 8, 0]) (size := S1x1x1024.size) (inb := inb_S3x80x1024_S1x1x1024_2_8_0) _ _ (ix3 ⟨2, by decide⟩ ⟨8, by decide⟩ l : S3x80x1024.Idx) (ix3 0 0 l : S1x1x1024.Idx) (by
    intro (a : Fin 3)
    fin_cases a
    exacts [rfl, rfl, (Nat.zero_add _).symm])) ?_
  exact (in_first _ _ _ l).trans (read9 m c t _)

theorem rowsV_0_0 (l : Fin 1024) : rowsV m c t (ix3 0 ⟨0, by decide⟩ l) = (m ((c : Thread nD τ).loc main_arg8) : FVec Ideal S1x1024 .f32) (ix2 0 l) := by
  unfold rowsV packed
  refine Eq.trans (Rows.readCov_at (s := S3x80x1024) (off := ![2, 0, 0]) (size := S1x80x1024.size) (inb := inb_S3x80x1024_S1x80x1024_2_0_0) _ _ (ix3 0 ⟨0, by decide⟩ l : S1x80x1024.Idx) (ix3 ⟨2, by decide⟩ ⟨0, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (1 : Fin 3) _ _ (ix3 ⟨2, by decide⟩ ⟨0, by decide⟩ l : S3x80x1024.Idx) (Or.inl (show (0 : ℕ) < 24 by decide))) ?_
  refine Eq.trans (Rows.canon_miss (s := S3x80x1024) (off := ![2, 16, 0]) (size := S1x1x1024.size) (inb := inb_S3x80x1024_S1x1x1024_2_16_0) (1 : Fin 3) _ _ (ix3 ⟨2, by decide⟩ ⟨0, by decide⟩ l : S3x80x1024.Idx) (Or.inl (show (0 : ℕ) < 16 by decide))) ?_
  refine Eq.trans (Rows.canon_miss (s := S3x80x1024) (off := ![2, 9, 0]) (size := S1x1x1024.size) (inb := inb_S3x80x1024_S1x1x1024_2_9_0) (1 : Fin 3) _ _ (ix3 ⟨2, by decide⟩ ⟨0, by decide⟩ l : S3x80x1024.Idx) (Or.inl (show (0 : ℕ) < 9 by decide))) ?_
  refine Eq.trans (Rows.canon_miss (s := S3x80x1024) (off := ![2, 8, 0]) (size := S1x1x1024.size) (inb := inb_S3x80x1024_S1x1x1024_2_8_0) (1 : Fin 3) _ _ (ix3 ⟨2, by decide⟩ ⟨0, by decide⟩ l : S3x80x1024.Idx) (Or.inl (show (0 : ℕ) < 8 by decide))) ?_
  refine Eq.trans (Rows.canon_hit (s := S3x80x1024) (off := ![2, 0, 0]) (size := S1x1x1024.size) (inb := inb_S3x80x1024_S1x1x1024_2_0_0) _ _ (ix3 ⟨2, by decide⟩ ⟨0, by decide⟩ l : S3x80x1024.Idx) (ix3 0 0 l : S1x1x1024.Idx) (by
    intro (a : Fin 3)
    fin_cases a
    exacts [rfl, rfl, (Nat.zero_add _).symm])) ?_
  exact (in_whole _ _ _ l).trans (read8 m c t _)

theorem rowsM_3_0 (l : Fin 1024) : rowsM m c t (ix3 0 ⟨24, by decide⟩ l) = (m ((c : Thread nD τ).loc main_arg7) : FVec Ideal S1x1024 .f32) (ix2 0 l) := by
  unfold rowsM packed
  refine Eq.trans (Rows.readCov_at (s := S3x80x1024) (off := ![1, 0, 0]) (size := S1x80x1024.size) (inb := inb_S3x80x1024_S1x80x1024_1_0_0) _ _ (ix3 0 ⟨24, by decide⟩ l : S1x80x1024.Idx) (ix3 ⟨1, by decide⟩ ⟨24, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨1, by decide⟩ ⟨24, by decide⟩ l : S3x80x1024.Idx) (Or.inl (show (1 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨1, by decide⟩ ⟨24, by decide⟩ l : S3x80x1024.Idx) (Or.inl (show (1 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨1, by decide⟩ ⟨24, by decide⟩ l : S3x80x1024.Idx) (Or.inl (show (1 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨1, by decide⟩ ⟨24, by decide⟩ l : S3x80x1024.Idx) (Or.inl (show (1 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨1, by decide⟩ ⟨24, by decide⟩ l : S3x80x1024.Idx) (Or.inl (show (1 : ℕ) < 2 by decide))) ?_
  refine Eq.trans (Rows.canon_hit (s := S3x80x1024) (off := ![1, 24, 0]) (size := S1x1x1024.size) (inb := inb_S3x80x1024_S1x1x1024_1_24_0) _ _ (ix3 ⟨1, by decide⟩ ⟨24, by decide⟩ l : S3x80x1024.Idx) (ix3 0 0 l : S1x1x1024.Idx) (by
    intro (a : Fin 3)
    fin_cases a
    exacts [rfl, rfl, (Nat.zero_add _).symm])) ?_
  exact (in_whole _ _ _ l).trans (read7 m c t _)

theorem rowsM_2_0 (l : Fin 1024) : rowsM m c t (ix3 0 ⟨16, by decide⟩ l) = (m ((c : Thread nD τ).loc main_arg6) : FVec Ideal S1x1024 .f32) (ix2 0 l) := by
  unfold rowsM packed
  refine Eq.trans (Rows.readCov_at (s := S3x80x1024) (off := ![1, 0, 0]) (size := S1x80x1024.size) (inb := inb_S3x80x1024_S1x80x1024_1_0_0) _ _ (ix3 0 ⟨16, by decide⟩ l : S1x80x1024.Idx) (ix3 ⟨1, by decide⟩ ⟨16, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨1, by decide⟩ ⟨16, by decide⟩ l : S3x80x1024.Idx) (Or.inl (show (1 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨1, by decide⟩ ⟨16, by decide⟩ l : S3x80x1024.Idx) (Or.inl (show (1 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨1, by decide⟩ ⟨16, by decide⟩ l : S3x80x1024.Idx) (Or.inl (show (1 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨1, by decide⟩ ⟨16, by decide⟩ l : S3x80x1024.Idx) (Or.inl (show (1 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨1, by decide⟩ ⟨16, by decide⟩ l : S3x80x1024.Idx) (Or.inl (show (1 : ℕ) < 2 by decide))) ?_
  refine Eq.trans (Rows.canon_miss (s := S3x80x1024) (off := ![1, 24, 0]) (size := S1x1x1024.size) (inb := inb_S3x80x1024_S1x1x1024_1_24_0) (1 : Fin 3) _ _ (ix3 ⟨1, by decide⟩ ⟨16, by decide⟩ l : S3x80x1024.Idx) (Or.inl (show (16 : ℕ) < 24 by decide))) ?_
  refine Eq.trans (Rows.canon_hit (s := S3x80x1024) (off := ![1, 16, 0]) (size := S1x1x1024.size) (inb := inb_S3x80x1024_S1x1x1024_1_16_0) _ _ (ix3 ⟨1, by decide⟩ ⟨16, by decide⟩ l : S3x80x1024.Idx) (ix3 0 0 l : S1x1x1024.Idx) (by
    intro (a : Fin 3)
    fin_cases a
    exacts [rfl, rfl, (Nat.zero_add _).symm])) ?_
  exact (in_whole _ _ _ l).trans (read6 m c t _)

theorem rowsM_1_1 (l : Fin 1024) : rowsM m c t (ix3 0 ⟨9, by decide⟩ l) = (m ((c : Thread nD τ).loc main_arg5) : FVec Ideal S1x2048 .f32) (ix2 0 ⟨1024 + l, by omega⟩) := by
  unfold rowsM packed
  refine Eq.trans (Rows.readCov_at (s := S3x80x1024) (off := ![1, 0, 0]) (size := S1x80x1024.size) (inb := inb_S3x80x1024_S1x80x1024_1_0_0) _ _ (ix3 0 ⟨9, by decide⟩ l : S1x80x1024.Idx) (ix3 ⟨1, by decide⟩ ⟨9, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨1, by decide⟩ ⟨9, by decide⟩ l : S3x80x1024.Idx) (Or.inl (show (1 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨1, by decide⟩ ⟨9, by decide⟩ l : S3x80x1024.Idx) (Or.inl (show (1 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨1, by decide⟩ ⟨9, by decide⟩ l : S3x80x1024.Idx) (Or.inl (show (1 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨1, by decide⟩ ⟨9, by decide⟩ l : S3x80x1024.Idx) (Or.inl (show (1 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨1, by decide⟩ ⟨9, by decide⟩ l : S3x80x1024.Idx) (Or.inl (show (1 : ℕ) < 2 by decide))) ?_
  refine Eq.trans (Rows.canon_miss (s := S3x80x1024) (off := ![1, 24, 0]) (size := S1x1x1024.size) (inb := inb_S3x80x1024_S1x1x1024_1_24_0) (1 : Fin 3) _ _ (ix3 ⟨1, by decide⟩ ⟨9, by decide⟩ l : S3x80x1024.Idx) (Or.inl (show (9 : ℕ) < 24 by decide))) ?_
  refine Eq.trans (Rows.canon_miss (s := S3x80x1024) (off := ![1, 16, 0]) (size := S1x1x1024.size) (inb := inb_S3x80x1024_S1x1x1024_1_16_0) (1 : Fin 3) _ _ (ix3 ⟨1, by decide⟩ ⟨9, by decide⟩ l : S3x80x1024.Idx) (Or.inl (show (9 : ℕ) < 16 by decide))) ?_
  refine Eq.trans (Rows.canon_hit (s := S3x80x1024) (off := ![1, 9, 0]) (size := S1x1x1024.size) (inb := inb_S3x80x1024_S1x1x1024_1_9_0) _ _ (ix3 ⟨1, by decide⟩ ⟨9, by decide⟩ l : S3x80x1024.Idx) (ix3 0 0 l : S1x1x1024.Idx) (by
    intro (a : Fin 3)
    fin_cases a
    exacts [rfl, rfl, (Nat.zero_add _).symm])) ?_
  exact (in_last _ _ _ l).trans (read5 m c t _)

theorem rowsM_1_0 (l : Fin 1024) : rowsM m c t (ix3 0 ⟨8, by decide⟩ l) = (m ((c : Thread nD τ).loc main_arg5) : FVec Ideal S1x2048 .f32) (ix2 0 ⟨l, by omega⟩) := by
  unfold rowsM packed
  refine Eq.trans (Rows.readCov_at (s := S3x80x1024) (off := ![1, 0, 0]) (size := S1x80x1024.size) (inb := inb_S3x80x1024_S1x80x1024_1_0_0) _ _ (ix3 0 ⟨8, by decide⟩ l : S1x80x1024.Idx) (ix3 ⟨1, by decide⟩ ⟨8, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨1, by decide⟩ ⟨8, by decide⟩ l : S3x80x1024.Idx) (Or.inl (show (1 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨1, by decide⟩ ⟨8, by decide⟩ l : S3x80x1024.Idx) (Or.inl (show (1 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨1, by decide⟩ ⟨8, by decide⟩ l : S3x80x1024.Idx) (Or.inl (show (1 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨1, by decide⟩ ⟨8, by decide⟩ l : S3x80x1024.Idx) (Or.inl (show (1 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨1, by decide⟩ ⟨8, by decide⟩ l : S3x80x1024.Idx) (Or.inl (show (1 : ℕ) < 2 by decide))) ?_
  refine Eq.trans (Rows.canon_miss (s := S3x80x1024) (off := ![1, 24, 0]) (size := S1x1x1024.size) (inb := inb_S3x80x1024_S1x1x1024_1_24_0) (1 : Fin 3) _ _ (ix3 ⟨1, by decide⟩ ⟨8, by decide⟩ l : S3x80x1024.Idx) (Or.inl (show (8 : ℕ) < 24 by decide))) ?_
  refine Eq.trans (Rows.canon_miss (s := S3x80x1024) (off := ![1, 16, 0]) (size := S1x1x1024.size) (inb := inb_S3x80x1024_S1x1x1024_1_16_0) (1 : Fin 3) _ _ (ix3 ⟨1, by decide⟩ ⟨8, by decide⟩ l : S3x80x1024.Idx) (Or.inl (show (8 : ℕ) < 16 by decide))) ?_
  refine Eq.trans (Rows.canon_miss (s := S3x80x1024) (off := ![1, 9, 0]) (size := S1x1x1024.size) (inb := inb_S3x80x1024_S1x1x1024_1_9_0) (1 : Fin 3) _ _ (ix3 ⟨1, by decide⟩ ⟨8, by decide⟩ l : S3x80x1024.Idx) (Or.inl (show (8 : ℕ) < 9 by decide))) ?_
  refine Eq.trans (Rows.canon_hit (s := S3x80x1024) (off := ![1, 8, 0]) (size := S1x1x1024.size) (inb := inb_S3x80x1024_S1x1x1024_1_8_0) _ _ (ix3 ⟨1, by decide⟩ ⟨8, by decide⟩ l : S3x80x1024.Idx) (ix3 0 0 l : S1x1x1024.Idx) (by
    intro (a : Fin 3)
    fin_cases a
    exacts [rfl, rfl, (Nat.zero_add _).symm])) ?_
  exact (in_first _ _ _ l).trans (read5 m c t _)

theorem rowsM_0_0 (l : Fin 1024) : rowsM m c t (ix3 0 ⟨0, by decide⟩ l) = (m ((c : Thread nD τ).loc main_arg4) : FVec Ideal S1x1024 .f32) (ix2 0 l) := by
  unfold rowsM packed
  refine Eq.trans (Rows.readCov_at (s := S3x80x1024) (off := ![1, 0, 0]) (size := S1x80x1024.size) (inb := inb_S3x80x1024_S1x80x1024_1_0_0) _ _ (ix3 0 ⟨0, by decide⟩ l : S1x80x1024.Idx) (ix3 ⟨1, by decide⟩ ⟨0, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨1, by decide⟩ ⟨0, by decide⟩ l : S3x80x1024.Idx) (Or.inl (show (1 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨1, by decide⟩ ⟨0, by decide⟩ l : S3x80x1024.Idx) (Or.inl (show (1 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨1, by decide⟩ ⟨0, by decide⟩ l : S3x80x1024.Idx) (Or.inl (show (1 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨1, by decide⟩ ⟨0, by decide⟩ l : S3x80x1024.Idx) (Or.inl (show (1 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨1, by decide⟩ ⟨0, by decide⟩ l : S3x80x1024.Idx) (Or.inl (show (1 : ℕ) < 2 by decide))) ?_
  refine Eq.trans (Rows.canon_miss (s := S3x80x1024) (off := ![1, 24, 0]) (size := S1x1x1024.size) (inb := inb_S3x80x1024_S1x1x1024_1_24_0) (1 : Fin 3) _ _ (ix3 ⟨1, by decide⟩ ⟨0, by decide⟩ l : S3x80x1024.Idx) (Or.inl (show (0 : ℕ) < 24 by decide))) ?_
  refine Eq.trans (Rows.canon_miss (s := S3x80x1024) (off := ![1, 16, 0]) (size := S1x1x1024.size) (inb := inb_S3x80x1024_S1x1x1024_1_16_0) (1 : Fin 3) _ _ (ix3 ⟨1, by decide⟩ ⟨0, by decide⟩ l : S3x80x1024.Idx) (Or.inl (show (0 : ℕ) < 16 by decide))) ?_
  refine Eq.trans (Rows.canon_miss (s := S3x80x1024) (off := ![1, 9, 0]) (size := S1x1x1024.size) (inb := inb_S3x80x1024_S1x1x1024_1_9_0) (1 : Fin 3) _ _ (ix3 ⟨1, by decide⟩ ⟨0, by decide⟩ l : S3x80x1024.Idx) (Or.inl (show (0 : ℕ) < 9 by decide))) ?_
  refine Eq.trans (Rows.canon_miss (s := S3x80x1024) (off := ![1, 8, 0]) (size := S1x1x1024.size) (inb := inb_S3x80x1024_S1x1x1024_1_8_0) (1 : Fin 3) _ _ (ix3 ⟨1, by decide⟩ ⟨0, by decide⟩ l : S3x80x1024.Idx) (Or.inl (show (0 : ℕ) < 8 by decide))) ?_
  refine Eq.trans (Rows.canon_hit (s := S3x80x1024) (off := ![1, 0, 0]) (size := S1x1x1024.size) (inb := inb_S3x80x1024_S1x1x1024_1_0_0) _ _ (ix3 ⟨1, by decide⟩ ⟨0, by decide⟩ l : S3x80x1024.Idx) (ix3 0 0 l : S1x1x1024.Idx) (by
    intro (a : Fin 3)
    fin_cases a
    exacts [rfl, rfl, (Nat.zero_add _).symm])) ?_
  exact (in_whole _ _ _ l).trans (read4 m c t _)

theorem rowsW_3_0 (l : Fin 1024) : rowsW m c t (ix3 0 ⟨24, by decide⟩ l) = (m ((c : Thread nD τ).loc main_arg3) : FVec Ideal S1x1024 .f32) (ix2 0 l) := by
  unfold rowsW packed
  refine Eq.trans (Rows.readCov_at (s := S3x80x1024) (off := ![0, 0, 0]) (size := S1x80x1024.size) (inb := inb_S3x80x1024_S1x80x1024_0_0_0) _ _ (ix3 0 ⟨24, by decide⟩ l : S1x80x1024.Idx) (ix3 ⟨0, by decide⟩ ⟨24, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨0, by decide⟩ ⟨24, by decide⟩ l : S3x80x1024.Idx) (Or.inl (show (0 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨0, by decide⟩ ⟨24, by decide⟩ l : S3x80x1024.Idx) (Or.inl (show (0 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨0, by decide⟩ ⟨24, by decide⟩ l : S3x80x1024.Idx) (Or.inl (show (0 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨0, by decide⟩ ⟨24, by decide⟩ l : S3x80x1024.Idx) (Or.inl (show (0 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨0, by decide⟩ ⟨24, by decide⟩ l : S3x80x1024.Idx) (Or.inl (show (0 : ℕ) < 2 by decide))) ?_
  refine Eq.trans (Rows.canon_miss (s := S3x80x1024) (off := ![1, 24, 0]) (size := S1x1x1024.size) (inb := inb_S3x80x1024_S1x1x1024_1_24_0) (0 : Fin 3) _ _ (ix3 ⟨0, by decide⟩ ⟨24, by decide⟩ l : S3x80x1024.Idx) (Or.inl (show (0 : ℕ) < 1 by decide))) ?_
  refine Eq.trans (Rows.canon_miss (s := S3x80x1024) (off := ![1, 16, 0]) (size := S1x1x1024.size) (inb := inb_S3x80x1024_S1x1x1024_1_16_0) (0 : Fin 3) _ _ (ix3 ⟨0, by decide⟩ ⟨24, by decide⟩ l : S3x80x1024.Idx) (Or.inl (show (0 : ℕ) < 1 by decide))) ?_
  refine Eq.trans (Rows.canon_miss (s := S3x80x1024) (off := ![1, 9, 0]) (size := S1x1x1024.size) (inb := inb_S3x80x1024_S1x1x1024_1_9_0) (0 : Fin 3) _ _ (ix3 ⟨0, by decide⟩ ⟨24, by decide⟩ l : S3x80x1024.Idx) (Or.inl (show (0 : ℕ) < 1 by decide))) ?_
  refine Eq.trans (Rows.canon_miss (s := S3x80x1024) (off := ![1, 8, 0]) (size := S1x1x1024.size) (inb := inb_S3x80x1024_S1x1x1024_1_8_0) (0 : Fin 3) _ _ (ix3 ⟨0, by decide⟩ ⟨24, by decide⟩ l : S3x80x1024.Idx) (Or.inl (show (0 : ℕ) < 1 by decide))) ?_
  refine Eq.trans (Rows.canon_miss (s := S3x80x1024) (off := ![1, 0, 0]) (size := S1x1x1024.size) (inb := inb_S3x80x1024_S1x1x1024_1_0_0) (0 : Fin 3) _ _ (ix3 ⟨0, by decide⟩ ⟨24, by decide⟩ l : S3x80x1024.Idx) (Or.inl (show (0 : ℕ) < 1 by decide))) ?_
  refine Eq.trans (Rows.canon_hit (s := S3x80x1024) (off := ![0, 24, 0]) (size := S1x1x1024.size) (inb := inb_S3x80x1024_S1x1x1024_0_24_0) _ _ (ix3 ⟨0, by decide⟩ ⟨24, by decide⟩ l : S3x80x1024.Idx) (ix3 0 0 l : S1x1x1024.Idx) (by
    intro (a : Fin 3)
    fin_cases a
    exacts [rfl, rfl, (Nat.zero_add _).symm])) ?_
  exact (in_whole _ _ _ l).trans (read3 m c t _)

theorem rowsW_2_0 (l : Fin 1024) : rowsW m c t (ix3 0 ⟨16, by decide⟩ l) = (m ((c : Thread nD τ).loc main_arg2) : FVec Ideal S1x1024 .f32) (ix2 0 l) := by
  unfold rowsW packed
  refine Eq.trans (Rows.readCov_at (s := S3x80x1024) (off := ![0, 0, 0]) (size := S1x80x1024.size) (inb := inb_S3x80x1024_S1x80x1024_0_0_0) _ _ (ix3 0 ⟨16, by decide⟩ l : S1x80x1024.Idx) (ix3 ⟨0, by decide⟩ ⟨16, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨0, by decide⟩ ⟨16, by decide⟩ l : S3x80x1024.Idx) (Or.inl (show (0 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨0, by decide⟩ ⟨16, by decide⟩ l : S3x80x1024.Idx) (Or.inl (show (0 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨0, by decide⟩ ⟨16, by decide⟩ l : S3x80x1024.Idx) (Or.inl (show (0 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨0, by decide⟩ ⟨16, by decide⟩ l : S3x80x1024.Idx) (Or.inl (show (0 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨0, by decide⟩ ⟨16, by decide⟩ l : S3x80x1024.Idx) (Or.inl (show (0 : ℕ) < 2 by decide))) ?_
  refine Eq.trans (Rows.canon_miss (s := S3x80x1024) (off := ![1, 24, 0]) (size := S1x1x1024.size) (inb := inb_S3x80x1024_S1x1x1024_1_24_0) (0 : Fin 3) _ _ (ix3 ⟨0, by decide⟩ ⟨16, by decide⟩ l : S3x80x1024.Idx) (Or.inl (show (0 : ℕ) < 1 by decide))) ?_
  refine Eq.trans (Rows.canon_miss (s := S3x80x1024) (off := ![1, 16, 0]) (size := S1x1x1024.size) (inb := inb_S3x80x1024_S1x1x1024_1_16_0) (0 : Fin 3) _ _ (ix3 ⟨0, by decide⟩ ⟨16, by decide⟩ l : S3x80x1024.Idx) (Or.inl (show (0 : ℕ) < 1 by decide))) ?_
  refine Eq.trans (Rows.canon_miss (s := S3x80x1024) (off := ![1, 9, 0]) (size := S1x1x1024.size) (inb := inb_S3x80x1024_S1x1x1024_1_9_0) (0 : Fin 3) _ _ (ix3 ⟨0, by decide⟩ ⟨16, by decide⟩ l : S3x80x1024.Idx) (Or.inl (show (0 : ℕ) < 1 by decide))) ?_
  refine Eq.trans (Rows.canon_miss (s := S3x80x1024) (off := ![1, 8, 0]) (size := S1x1x1024.size) (inb := inb_S3x80x1024_S1x1x1024_1_8_0) (0 : Fin 3) _ _ (ix3 ⟨0, by decide⟩ ⟨16, by decide⟩ l : S3x80x1024.Idx) (Or.inl (show (0 : ℕ) < 1 by decide))) ?_
  refine Eq.trans (Rows.canon_miss (s := S3x80x1024) (off := ![1, 0, 0]) (size := S1x1x1024.size) (inb := inb_S3x80x1024_S1x1x1024_1_0_0) (0 : Fin 3) _ _ (ix3 ⟨0, by decide⟩ ⟨16, by decide⟩ l : S3x80x1024.Idx) (Or.inl (show (0 : ℕ) < 1 by decide))) ?_
  refine Eq.trans (Rows.canon_miss (s := S3x80x1024) (off := ![0, 24, 0]) (size := S1x1x1024.size) (inb := inb_S3x80x1024_S1x1x1024_0_24_0) (1 : Fin 3) _ _ (ix3 ⟨0, by decide⟩ ⟨16, by decide⟩ l : S3x80x1024.Idx) (Or.inl (show (16 : ℕ) < 24 by decide))) ?_
  refine Eq.trans (Rows.canon_hit (s := S3x80x1024) (off := ![0, 16, 0]) (size := S1x1x1024.size) (inb := inb_S3x80x1024_S1x1x1024_0_16_0) _ _ (ix3 ⟨0, by decide⟩ ⟨16, by decide⟩ l : S3x80x1024.Idx) (ix3 0 0 l : S1x1x1024.Idx) (by
    intro (a : Fin 3)
    fin_cases a
    exacts [rfl, rfl, (Nat.zero_add _).symm])) ?_
  exact (in_whole _ _ _ l).trans (read2 m c t _)

theorem rowsW_1_1 (l : Fin 1024) : rowsW m c t (ix3 0 ⟨9, by decide⟩ l) = (m ((c : Thread nD τ).loc main_arg1) : FVec Ideal S1x2048 .f32) (ix2 0 ⟨1024 + l, by omega⟩) := by
  unfold rowsW packed
  refine Eq.trans (Rows.readCov_at (s := S3x80x1024) (off := ![0, 0, 0]) (size := S1x80x1024.size) (inb := inb_S3x80x1024_S1x80x1024_0_0_0) _ _ (ix3 0 ⟨9, by decide⟩ l : S1x80x1024.Idx) (ix3 ⟨0, by decide⟩ ⟨9, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨0, by decide⟩ ⟨9, by decide⟩ l : S3x80x1024.Idx) (Or.inl (show (0 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨0, by decide⟩ ⟨9, by decide⟩ l : S3x80x1024.Idx) (Or.inl (show (0 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨0, by decide⟩ ⟨9, by decide⟩ l : S3x80x1024.Idx) (Or.inl (show (0 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨0, by decide⟩ ⟨9, by decide⟩ l : S3x80x1024.Idx) (Or.inl (show (0 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨0, by decide⟩ ⟨9, by decide⟩ l : S3x80x1024.Idx) (Or.inl (show (0 : ℕ) < 2 by decide))) ?_
  refine Eq.trans (Rows.canon_miss (s := S3x80x1024) (off := ![1, 24, 0]) (size := S1x1x1024.size) (inb := inb_S3x80x1024_S1x1x1024_1_24_0) (0 : Fin 3) _ _ (ix3 ⟨0, by decide⟩ ⟨9, by decide⟩ l : S3x80x1024.Idx) (Or.inl (show (0 : ℕ) < 1 by decide))) ?_
  refine Eq.trans (Rows.canon_miss (s := S3x80x1024) (off := ![1, 16, 0]) (size := S1x1x1024.size) (inb := inb_S3x80x1024_S1x1x1024_1_16_0) (0 : Fin 3) _ _ (ix3 ⟨0, by decide⟩ ⟨9, by decide⟩ l : S3x80x1024.Idx) (Or.inl (show (0 : ℕ) < 1 by decide))) ?_
  refine Eq.trans (Rows.canon_miss (s := S3x80x1024) (off := ![1, 9, 0]) (size := S1x1x1024.size) (inb := inb_S3x80x1024_S1x1x1024_1_9_0) (0 : Fin 3) _ _ (ix3 ⟨0, by decide⟩ ⟨9, by decide⟩ l : S3x80x1024.Idx) (Or.inl (show (0 : ℕ) < 1 by decide))) ?_
  refine Eq.trans (Rows.canon_miss (s := S3x80x1024) (off := ![1, 8, 0]) (size := S1x1x1024.size) (inb := inb_S3x80x1024_S1x1x1024_1_8_0) (0 : Fin 3) _ _ (ix3 ⟨0, by decide⟩ ⟨9, by decide⟩ l : S3x80x1024.Idx) (Or.inl (show (0 : ℕ) < 1 by decide))) ?_
  refine Eq.trans (Rows.canon_miss (s := S3x80x1024) (off := ![1, 0, 0]) (size := S1x1x1024.size) (inb := inb_S3x80x1024_S1x1x1024_1_0_0) (0 : Fin 3) _ _ (ix3 ⟨0, by decide⟩ ⟨9, by decide⟩ l : S3x80x1024.Idx) (Or.inl (show (0 : ℕ) < 1 by decide))) ?_
  refine Eq.trans (Rows.canon_miss (s := S3x80x1024) (off := ![0, 24, 0]) (size := S1x1x1024.size) (inb := inb_S3x80x1024_S1x1x1024_0_24_0) (1 : Fin 3) _ _ (ix3 ⟨0, by decide⟩ ⟨9, by decide⟩ l : S3x80x1024.Idx) (Or.inl (show (9 : ℕ) < 24 by decide))) ?_
  refine Eq.trans (Rows.canon_miss (s := S3x80x1024) (off := ![0, 16, 0]) (size := S1x1x1024.size) (inb := inb_S3x80x1024_S1x1x1024_0_16_0) (1 : Fin 3) _ _ (ix3 ⟨0, by decide⟩ ⟨9, by decide⟩ l : S3x80x1024.Idx) (Or.inl (show (9 : ℕ) < 16 by decide))) ?_
  refine Eq.trans (Rows.canon_hit (s := S3x80x1024) (off := ![0, 9, 0]) (size := S1x1x1024.size) (inb := inb_S3x80x1024_S1x1x1024_0_9_0) _ _ (ix3 ⟨0, by decide⟩ ⟨9, by decide⟩ l : S3x80x1024.Idx) (ix3 0 0 l : S1x1x1024.Idx) (by
    intro (a : Fin 3)
    fin_cases a
    exacts [rfl, rfl, (Nat.zero_add _).symm])) ?_
  exact (in_last _ _ _ l).trans (read1 m c t _)

theorem rowsW_1_0 (l : Fin 1024) : rowsW m c t (ix3 0 ⟨8, by decide⟩ l) = (m ((c : Thread nD τ).loc main_arg1) : FVec Ideal S1x2048 .f32) (ix2 0 ⟨l, by omega⟩) := by
  unfold rowsW packed
  refine Eq.trans (Rows.readCov_at (s := S3x80x1024) (off := ![0, 0, 0]) (size := S1x80x1024.size) (inb := inb_S3x80x1024_S1x80x1024_0_0_0) _ _ (ix3 0 ⟨8, by decide⟩ l : S1x80x1024.Idx) (ix3 ⟨0, by decide⟩ ⟨8, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨0, by decide⟩ ⟨8, by decide⟩ l : S3x80x1024.Idx) (Or.inl (show (0 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨0, by decide⟩ ⟨8, by decide⟩ l : S3x80x1024.Idx) (Or.inl (show (0 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨0, by decide⟩ ⟨8, by decide⟩ l : S3x80x1024.Idx) (Or.inl (show (0 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨0, by decide⟩ ⟨8, by decide⟩ l : S3x80x1024.Idx) (Or.inl (show (0 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨0, by decide⟩ ⟨8, by decide⟩ l : S3x80x1024.Idx) (Or.inl (show (0 : ℕ) < 2 by decide))) ?_
  refine Eq.trans (Rows.canon_miss (s := S3x80x1024) (off := ![1, 24, 0]) (size := S1x1x1024.size) (inb := inb_S3x80x1024_S1x1x1024_1_24_0) (0 : Fin 3) _ _ (ix3 ⟨0, by decide⟩ ⟨8, by decide⟩ l : S3x80x1024.Idx) (Or.inl (show (0 : ℕ) < 1 by decide))) ?_
  refine Eq.trans (Rows.canon_miss (s := S3x80x1024) (off := ![1, 16, 0]) (size := S1x1x1024.size) (inb := inb_S3x80x1024_S1x1x1024_1_16_0) (0 : Fin 3) _ _ (ix3 ⟨0, by decide⟩ ⟨8, by decide⟩ l : S3x80x1024.Idx) (Or.inl (show (0 : ℕ) < 1 by decide))) ?_
  refine Eq.trans (Rows.canon_miss (s := S3x80x1024) (off := ![1, 9, 0]) (size := S1x1x1024.size) (inb := inb_S3x80x1024_S1x1x1024_1_9_0) (0 : Fin 3) _ _ (ix3 ⟨0, by decide⟩ ⟨8, by decide⟩ l : S3x80x1024.Idx) (Or.inl (show (0 : ℕ) < 1 by decide))) ?_
  refine Eq.trans (Rows.canon_miss (s := S3x80x1024) (off := ![1, 8, 0]) (size := S1x1x1024.size) (inb := inb_S3x80x1024_S1x1x1024_1_8_0) (0 : Fin 3) _ _ (ix3 ⟨0, by decide⟩ ⟨8, by decide⟩ l : S3x80x1024.Idx) (Or.inl (show (0 : ℕ) < 1 by decide))) ?_
  refine Eq.trans (Rows.canon_miss (s := S3x80x1024) (off := ![1, 0, 0]) (size := S1x1x1024.size) (inb := inb_S3x80x1024_S1x1x1024_1_0_0) (0 : Fin 3) _ _ (ix3 ⟨0, by decide⟩ ⟨8, by decide⟩ l : S3x80x1024.Idx) (Or.inl (show (0 : ℕ) < 1 by decide))) ?_
  refine Eq.trans (Rows.canon_miss (s := S3x80x1024) (off := ![0, 24, 0]) (size := S1x1x1024.size) (inb := inb_S3x80x1024_S1x1x1024_0_24_0) (1 : Fin 3) _ _ (ix3 ⟨0, by decide⟩ ⟨8, by decide⟩ l : S3x80x1024.Idx) (Or.inl (show (8 : ℕ) < 24 by decide))) ?_
  refine Eq.trans (Rows.canon_miss (s := S3x80x1024) (off := ![0, 16, 0]) (size := S1x1x1024.size) (inb := inb_S3x80x1024_S1x1x1024_0_16_0) (1 : Fin 3) _ _ (ix3 ⟨0, by decide⟩ ⟨8, by decide⟩ l : S3x80x1024.Idx) (Or.inl (show (8 : ℕ) < 16 by decide))) ?_
  refine Eq.trans (Rows.canon_miss (s := S3x80x1024) (off := ![0, 9, 0]) (size := S1x1x1024.size) (inb := inb_S3x80x1024_S1x1x1024_0_9_0) (1 : Fin 3) _ _ (ix3 ⟨0, by decide⟩ ⟨8, by decide⟩ l : S3x80x1024.Idx) (Or.inl (show (8 : ℕ) < 9 by decide))) ?_
  refine Eq.trans (Rows.canon_hit (s := S3x80x1024) (off := ![0, 8, 0]) (size := S1x1x1024.size) (inb := inb_S3x80x1024_S1x1x1024_0_8_0) _ _ (ix3 ⟨0, by decide⟩ ⟨8, by decide⟩ l : S3x80x1024.Idx) (ix3 0 0 l : S1x1x1024.Idx) (by
    intro (a : Fin 3)
    fin_cases a
    exacts [rfl, rfl, (Nat.zero_add _).symm])) ?_
  exact (in_first _ _ _ l).trans (read1 m c t _)

theorem rowsW_0_0 (l : Fin 1024) : rowsW m c t (ix3 0 ⟨0, by decide⟩ l) = (m ((c : Thread nD τ).loc main_arg0) : FVec Ideal S1x1024 .f32) (ix2 0 l) := by
  unfold rowsW packed
  refine Eq.trans (Rows.readCov_at (s := S3x80x1024) (off := ![0, 0, 0]) (size := S1x80x1024.size) (inb := inb_S3x80x1024_S1x80x1024_0_0_0) _ _ (ix3 0 ⟨0, by decide⟩ l : S1x80x1024.Idx) (ix3 ⟨0, by decide⟩ ⟨0, by decide⟩ l : S3x80x1024.Idx) (by
    intro (a : Fin 3)
    fin_cases a
    exacts [rfl, rfl, (Nat.zero_add _).symm])) ?_
  refine Eq.trans (Rows.canon_miss (s := S3x80x1024) (off := ![2, 24, 0]) (size := S1x1x1024.size) (inb := inb_S3x80x1024_S1x1x1024_2_24_0) (0 : Fin 3) _ _ (ix3 ⟨0, by decide⟩ ⟨0, by decide⟩ l : S3x80x1024.Idx) (Or.inl (show (0 : ℕ) < 2 by decide))) ?_
  refine Eq.trans (Rows.canon_miss (s := S3x80x1024) (off := ![2, 16, 0]) (size := S1x1x1024.size) (inb := inb_S3x80x1024_S1x1x1024_2_16_0) (0 : Fin 3) _ _ (ix3 ⟨0, by decide⟩ ⟨0, by decide⟩ l : S3x80x1024.Idx) (Or.inl (show (0 : ℕ) < 2 by decide))) ?_
  refine Eq.trans (Rows.canon_miss (s := S3x80x1024) (off := ![2, 9, 0]) (size := S1x1x1024.size) (inb := inb_S3x80x1024_S1x1x1024_2_9_0) (0 : Fin 3) _ _ (ix3 ⟨0, by decide⟩ ⟨0, by decide⟩ l : S3x80x1024.Idx) (Or.inl (show (0 : ℕ) < 2 by decide))) ?_
  refine Eq.trans (Rows.canon_miss (s := S3x80x1024) (off := ![2, 8, 0]) (size := S1x1x1024.size) (inb := inb_S3x80x1024_S1x1x1024_2_8_0) (0 : Fin 3) _ _ (ix3 ⟨0, by decide⟩ ⟨0, by decide⟩ l : S3x80x1024.Idx) (Or.inl (show (0 : ℕ) < 2 by decide))) ?_
  refine Eq.trans (Rows.canon_miss (s := S3x80x1024) (off := ![2, 0, 0]) (size := S1x1x1024.size) (inb := inb_S3x80x1024_S1x1x1024_2_0_0) (0 : Fin 3) _ _ (ix3 ⟨0, by decide⟩ ⟨0, by decide⟩ l : S3x80x1024.Idx) (Or.inl (show (0 : ℕ) < 2 by decide))) ?_
  refine Eq.trans (Rows.canon_miss (s := S3x80x1024) (off := ![1, 24, 0]) (size := S1x1x1024.size) (inb := inb_S3x80x1024_S1x1x1024_1_24_0) (0 : Fin 3) _ _ (ix3 ⟨0, by decide⟩ ⟨0, by decide⟩ l : S3x80x1024.Idx) (Or.inl (show (0 : ℕ) < 1 by decide))) ?_
  refine Eq.trans (Rows.canon_miss (s := S3x80x1024) (off := ![1, 16, 0]) (size := S1x1x1024.size) (inb := inb_S3x80x1024_S1x1x1024_1_16_0) (0 : Fin 3) _ _ (ix3 ⟨0, by decide⟩ ⟨0, by decide⟩ l : S3x80x1024.Idx) (Or.inl (show (0 : ℕ) < 1 by decide))) ?_
  refine Eq.trans (Rows.canon_miss (s := S3x80x1024) (off := ![1, 9, 0]) (size := S1x1x1024.size) (inb := inb_S3x80x1024_S1x1x1024_1_9_0) (0 : Fin 3) _ _ (ix3 ⟨0, by decide⟩ ⟨0, by decide⟩ l : S3x80x1024.Idx) (Or.inl (show (0 : ℕ) < 1 by decide))) ?_
  refine Eq.trans (Rows.canon_miss (s := S3x80x1024) (off := ![1, 8, 0]) (size := S1x1x1024.size) (inb := inb_S3x80x1024_S1x1x1024_1_8_0) (0 : Fin 3) _ _ (ix3 ⟨0, by decide⟩ ⟨0, by decide⟩ l : S3x80x1024.Idx) (Or.inl (show (0 : ℕ) < 1 by decide))) ?_
  refine Eq.trans (Rows.canon_miss (s := S3x80x1024) (off := ![1, 0, 0]) (size := S1x1x1024.size) (inb := inb_S3x80x1024_S1x1x1024_1_0_0) (0 : Fin 3) _ _ (ix3 ⟨0, by decide⟩ ⟨0, by decide⟩ l : S3x80x1024.Idx) (Or.inl (show (0 : ℕ) < 1 by decide))) ?_
  refine Eq.trans (Rows.canon_miss (s := S3x80x1024) (off := ![0, 24, 0]) (size := S1x1x1024.size) (inb := inb_S3x80x1024_S1x1x1024_0_24_0) (1 : Fin 3) _ _ (ix3 ⟨0, by decide⟩ ⟨0, by decide⟩ l : S3x80x1024.Idx) (Or.inl (show (0 : ℕ) < 24 by decide))) ?_
  refine Eq.trans (Rows.canon_miss (s := S3x80x1024) (off := ![0, 16, 0]) (size := S1x1x1024.size) (inb := inb_S3x80x1024_S1x1x1024_0_16_0) (1 : Fin 3) _ _ (ix3 ⟨0, by decide⟩ ⟨0, by decide⟩ l : S3x80x1024.Idx) (Or.inl (show (0 : ℕ) < 16 by decide))) ?_
  refine Eq.trans (Rows.canon_miss (s := S3x80x1024) (off := ![0, 9, 0]) (size := S1x1x1024.size) (inb := inb_S3x80x1024_S1x1x1024_0_9_0) (1 : Fin 3) _ _ (ix3 ⟨0, by decide⟩ ⟨0, by decide⟩ l : S3x80x1024.Idx) (Or.inl (show (0 : ℕ) < 9 by decide))) ?_
  refine Eq.trans (Rows.canon_miss (s := S3x80x1024) (off := ![0, 8, 0]) (size := S1x1x1024.size) (inb := inb_S3x80x1024_S1x1x1024_0_8_0) (1 : Fin 3) _ _ (ix3 ⟨0, by decide⟩ ⟨0, by decide⟩ l : S3x80x1024.Idx) (Or.inl (show (0 : ℕ) < 8 by decide))) ?_
  refine Eq.trans (Rows.canon_hit (s := S3x80x1024) (off := ![0, 0, 0]) (size := S1x1x1024.size) (inb := inb_S3x80x1024_S1x1x1024_0_0_0) _ _ (ix3 ⟨0, by decide⟩ ⟨0, by decide⟩ l : S3x80x1024.Idx) (ix3 0 0 l : S1x1x1024.Idx) (by
    intro (a : Fin 3)
    fin_cases a
    exacts [rfl, rfl, (Nat.zero_add _).symm])) ?_
  exact (in_whole _ _ _ l).trans (read0 m c t _)

/-- The step's four results, stored plane by plane. -/
def planes : List (View.Piece (Elt Ideal) S4x80x1024 .f32) :=
  [⟨Rect.unit (s := S4x80x1024) ![3, 0, 0] S1x80x1024.size inb_S4x80x1024_S1x80x1024_3_0_0, k0_pay23 (rowsG m c t) (k0_pay18 (rowsV m c t)) (Scalar.ofBits .f32 0x3F7FBE77#32)⟩,
    ⟨Rect.unit (s := S4x80x1024) ![2, 0, 0] S1x80x1024.size inb_S4x80x1024_S1x80x1024_2_0_0, k0_pay22 (k0_pay17 (rowsG m c t) (rowsM m c t))⟩,
    ⟨Rect.unit (s := S4x80x1024) ![1, 0, 0] S1x80x1024.size inb_S4x80x1024_S1x80x1024_1_0_0, k0_pay21 (rowsG m c t) (k0_pay17 (rowsG m c t) (rowsM m c t)) (k0_pay18 (rowsV m c t)) (Scalar.ofBits .f32 0x3F7FBE77#32) (rowsW m c t)⟩,
    ⟨Rect.unit (s := S4x80x1024) ![0, 0, 0] S1x80x1024.size inb_S4x80x1024_S1x80x1024_0_0_0, k0_pay20 (rowsG m c t)⟩]

theorem plane0 (r : ℕ) (hr : r < 80) (inb) (l : Fin 1024) :
    scM0_1.view.readCov (planes m c t) (Rect.unit (s := S4x80x1024) ![0, r, 0] S1x1x1024.size inb).toLoadRect (ix3 0 0 l) = k0_pay20 (rowsG m c t) (ix3 0 ⟨r, hr⟩ l) := by
  unfold planes
  refine Eq.trans (Rows.readCov_at (s := S4x80x1024) (off := ![0, r, 0]) (size := S1x1x1024.size) (inb := inb) _ _ (ix3 0 0 l : S1x1x1024.Idx) (ix3 ⟨0, by decide⟩ ⟨r, hr⟩ l : S4x80x1024.Idx) (by
    intro (a : Fin 3)
    fin_cases a
    exacts [rfl, rfl, (Nat.zero_add _).symm])) ?_
  refine Eq.trans (Rows.canon_miss (s := S4x80x1024) (off := ![3, 0, 0]) (size := S1x80x1024.size) (inb := inb_S4x80x1024_S1x80x1024_3_0_0) (0 : Fin 3) _ _ (ix3 ⟨0, by decide⟩ ⟨r, hr⟩ l : S4x80x1024.Idx) (Or.inl (show (0 : ℕ) < 3 by decide))) ?_
  refine Eq.trans (Rows.canon_miss (s := S4x80x1024) (off := ![2, 0, 0]) (size := S1x80x1024.size) (inb := inb_S4x80x1024_S1x80x1024_2_0_0) (0 : Fin 3) _ _ (ix3 ⟨0, by decide⟩ ⟨r, hr⟩ l : S4x80x1024.Idx) (Or.inl (show (0 : ℕ) < 2 by decide))) ?_
  refine Eq.trans (Rows.canon_miss (s := S4x80x1024) (off := ![1, 0, 0]) (size := S1x80x1024.size) (inb := inb_S4x80x1024_S1x80x1024_1_0_0) (0 : Fin 3) _ _ (ix3 ⟨0, by decide⟩ ⟨r, hr⟩ l : S4x80x1024.Idx) (Or.inl (show (0 : ℕ) < 1 by decide))) ?_
  exact Rows.canon_hit (s := S4x80x1024) (off := ![0, 0, 0]) (size := S1x80x1024.size) (inb := inb_S4x80x1024_S1x80x1024_0_0_0) _ _ (ix3 ⟨0, by decide⟩ ⟨r, hr⟩ l : S4x80x1024.Idx) (ix3 0 ⟨r, hr⟩ l : S1x80x1024.Idx) (by
    intro (a : Fin 3)
    fin_cases a
    exacts [rfl, (Nat.zero_add _).symm, (Nat.zero_add _).symm])

theorem plane1 (r : ℕ) (hr : r < 80) (inb) (l : Fin 1024) :
    scM0_1.view.readCov (planes m c t) (Rect.unit (s := S4x80x1024) ![1, r, 0] S1x1x1024.size inb).toLoadRect (ix3 0 0 l) = k0_pay21 (rowsG m c t) (k0_pay17 (rowsG m c t) (rowsM m c t)) (k0_pay18 (rowsV m c t)) (Scalar.ofBits .f32 0x3F7FBE77#32) (rowsW m c t) (ix3 0 ⟨r, hr⟩ l) := by
  unfold planes
  refine Eq.trans (Rows.readCov_at (s := S4x80x1024) (off := ![1, r, 0]) (size := S1x1x1024.size) (inb := inb) _ _ (ix3 0 0 l : S1x1x1024.Idx) (ix3 ⟨1, by decide⟩ ⟨r, hr⟩ l : S4x80x1024.Idx) (by
    intro (a : Fin 3)
    fin_cases a
    exacts [rfl, rfl, (Nat.zero_add _).symm])) ?_
  refine Eq.trans (Rows.canon_miss (s := S4x80x1024) (off := ![3, 0, 0]) (size := S1x80x1024.size) (inb := inb_S4x80x1024_S1x80x1024_3_0_0) (0 : Fin 3) _ _ (ix3 ⟨1, by decide⟩ ⟨r, hr⟩ l : S4x80x1024.Idx) (Or.inl (show (1 : ℕ) < 3 by decide))) ?_
  refine Eq.trans (Rows.canon_miss (s := S4x80x1024) (off := ![2, 0, 0]) (size := S1x80x1024.size) (inb := inb_S4x80x1024_S1x80x1024_2_0_0) (0 : Fin 3) _ _ (ix3 ⟨1, by decide⟩ ⟨r, hr⟩ l : S4x80x1024.Idx) (Or.inl (show (1 : ℕ) < 2 by decide))) ?_
  exact Rows.canon_hit (s := S4x80x1024) (off := ![1, 0, 0]) (size := S1x80x1024.size) (inb := inb_S4x80x1024_S1x80x1024_1_0_0) _ _ (ix3 ⟨1, by decide⟩ ⟨r, hr⟩ l : S4x80x1024.Idx) (ix3 0 ⟨r, hr⟩ l : S1x80x1024.Idx) (by
    intro (a : Fin 3)
    fin_cases a
    exacts [rfl, (Nat.zero_add _).symm, (Nat.zero_add _).symm])

theorem plane2 (r : ℕ) (hr : r < 80) (inb) (l : Fin 1024) :
    scM0_1.view.readCov (planes m c t) (Rect.unit (s := S4x80x1024) ![2, r, 0] S1x1x1024.size inb).toLoadRect (ix3 0 0 l) = k0_pay22 (k0_pay17 (rowsG m c t) (rowsM m c t)) (ix3 0 ⟨r, hr⟩ l) := by
  unfold planes
  refine Eq.trans (Rows.readCov_at (s := S4x80x1024) (off := ![2, r, 0]) (size := S1x1x1024.size) (inb := inb) _ _ (ix3 0 0 l : S1x1x1024.Idx) (ix3 ⟨2, by decide⟩ ⟨r, hr⟩ l : S4x80x1024.Idx) (by
    intro (a : Fin 3)
    fin_cases a
    exacts [rfl, rfl, (Nat.zero_add _).symm])) ?_
  refine Eq.trans (Rows.canon_miss (s := S4x80x1024) (off := ![3, 0, 0]) (size := S1x80x1024.size) (inb := inb_S4x80x1024_S1x80x1024_3_0_0) (0 : Fin 3) _ _ (ix3 ⟨2, by decide⟩ ⟨r, hr⟩ l : S4x80x1024.Idx) (Or.inl (show (2 : ℕ) < 3 by decide))) ?_
  exact Rows.canon_hit (s := S4x80x1024) (off := ![2, 0, 0]) (size := S1x80x1024.size) (inb := inb_S4x80x1024_S1x80x1024_2_0_0) _ _ (ix3 ⟨2, by decide⟩ ⟨r, hr⟩ l : S4x80x1024.Idx) (ix3 0 ⟨r, hr⟩ l : S1x80x1024.Idx) (by
    intro (a : Fin 3)
    fin_cases a
    exacts [rfl, (Nat.zero_add _).symm, (Nat.zero_add _).symm])

theorem plane3 (r : ℕ) (hr : r < 80) (inb) (l : Fin 1024) :
    scM0_1.view.readCov (planes m c t) (Rect.unit (s := S4x80x1024) ![3, r, 0] S1x1x1024.size inb).toLoadRect (ix3 0 0 l) = k0_pay23 (rowsG m c t) (k0_pay18 (rowsV m c t)) (Scalar.ofBits .f32 0x3F7FBE77#32) (ix3 0 ⟨r, hr⟩ l) := by
  unfold planes
  refine Eq.trans (Rows.readCov_at (s := S4x80x1024) (off := ![3, r, 0]) (size := S1x1x1024.size) (inb := inb) _ _ (ix3 0 0 l : S1x1x1024.Idx) (ix3 ⟨3, by decide⟩ ⟨r, hr⟩ l : S4x80x1024.Idx) (by
    intro (a : Fin 3)
    fin_cases a
    exacts [rfl, rfl, (Nat.zero_add _).symm])) ?_
  exact Rows.canon_hit (s := S4x80x1024) (off := ![3, 0, 0]) (size := S1x80x1024.size) (inb := inb_S4x80x1024_S1x80x1024_3_0_0) _ _ (ix3 ⟨3, by decide⟩ ⟨r, hr⟩ l : S4x80x1024.Idx) (ix3 0 ⟨r, hr⟩ l : S1x80x1024.Idx) (by
    intro (a : Fin 3)
    fin_cases a
    exacts [rfl, (Nat.zero_add _).symm, (Nat.zero_add _).symm])

end reads

end Cert.AdamSmallIdeal.Math

end
-- ==== Proof.AdamSmall.Value.lean ====
/-
  What the optimiser's step of the small weights leaves in its results: what the reference leaves.
-/
module

public import proofs.«01_k».proof.Proof.Gen.AdamSmallIdeal.Frame
public import proofs.«01_k».proof.Proof.AdamSmall.Points
public import proofs.«01_k».proof.Proof.AdamSmall.Cells
public import Idealize.ShloMosaic.Lib.Pointwise
public import Idealize.ShloMosaic.Lib.Pipeline.ValueKit
public import Idealize.ShloMosaic.Lib.Claim

@[expose] public section

set_option maxRecDepth 16384

noncomputable section

namespace Cert.AdamSmallIdeal.Math

open Cert.AdamSmallIdeal Cert.AdamSmallIdeal.Gen Idealize.ShloMosaic Idealize.ShloMosaic.TcCoe Idealize.SL.Sem
open Cert.AdamSmallReferenceIdeal.Math

variable (m : (ℓ : Loc nD τ sig) → Buf (Elt Ideal) ℓ)

theorem stored13 (c : Dev nD) (t : Fin cfg0.N) (y : S1x1024.Idx) : (show FVec Ideal S1x1024 .f32 from (dats m 0 c).after 13 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![0, 0, 0] S1x1x1024.size inb_S4x80x1024_S1x1x1024_0_0_0).toLoadRect) shapeCasts_S1x1x1024_S1x1024⟩] y := by
  show (dats m 0 c).after 13 t y = _
  rw [after0_13]
  unfold outsAt0
  dsimp only
  unfold out0_A_13
  refine (View.read_writes_junk_apply_eq_canon (Val := Elt Ideal) VO0_13 y _).trans ?_
  refine congrArg (fun L => View.canon L y) ?_
  rfl

theorem cell13_0 (c : Dev nD) (t : Fin cfg0.N) (l : Fin 1024) : (show FVec Ideal S1x1024 .f32 from (dats m 0 c).after 13 t) (ix2 0 l) = (grad_0 (m ((c : Thread nD τ).loc main_arg12) : FVec Ideal S80x1024 .f32)) (ix2 0 l) := by
  refine (stored13 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane0 m c t 0 (by decide) _ l).trans ?_)
  exact (grad_pay _ _ _).trans ((rowsG_at m c t _ l).trans (grad_0_at _ (ix2 0 l) ⟨0, by decide⟩ l 0 rfl (by show _ = _; simp <;> omega)).symm)

theorem point13 (c : Dev nD) (t : Fin cfg0.N) (y j : S1x1024.Idx) (h0 : (j 0 : ℕ) = y 0) (h1 : (j 1 : ℕ) = y 1) : (show FVec Ideal S1x1024 .f32 from (dats m 0 c).after 13 t) y = (grad_0 (m ((c : Thread nD τ).loc main_arg12) : FVec Ideal S80x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell13_0 m c t _

theorem final13 (c : Dev nD) : (dats m 0 c).arrAt 13 (cfgs 0).N = (grad_0 (m ((c : Thread nD τ).loc main_arg12) : FVec Ideal S80x1024 .f32)) := by
  refine (dats m 0 c).arrAt_eq_of_covers 13 _ (by decide +kernel) fun t hf y => ?_
  blk_simp
  exact point13 m c t y _ (by blk_simp [idx13 t] <;> omega) (by blk_simp [idx13 t] <;> omega)

theorem stored14 (c : Dev nD) (t : Fin cfg0.N) (y : S1x2048.Idx) : (show FVec Ideal S1x2048 .f32 from (dats m 0 c).after 14 t) y =
    View.canon (Val := Elt Ideal) (s := S1x2048) (e := .f32) [⟨Rect.unit (s := S1x2048) ![0, 1024] S1x1024.size inb_S1x2048_S1x1024_0_1024, shapeCast S1x1024 (scM0_1.view.readCov (planes m c t) (Rect.unit (s := S4x80x1024) ![0, 9, 0] S1x1x1024.size inb_S4x80x1024_S1x1x1024_0_9_0).toLoadRect) shapeCasts_S1x1x1024_S1x1024⟩,
      ⟨Rect.unit (s := S1x2048) ![0, 0] S1x1024.size inb_S1x2048_S1x1024_0_0, shapeCast S1x1024 (scM0_1.view.readCov (planes m c t) (Rect.unit (s := S4x80x1024) ![0, 8, 0] S1x1x1024.size inb_S4x80x1024_S1x1x1024_0_8_0).toLoadRect) shapeCasts_S1x1x1024_S1x1024⟩] y := by
  show (dats m 0 c).after 14 t y = _
  rw [after0_14]
  unfold outsAt0
  dsimp only
  unfold out0_A_14
  refine (View.read_writes_junk_apply_eq_canon (Val := Elt Ideal) VO0_14 y _).trans ?_
  refine congrArg (fun L => View.canon L y) ?_
  rfl

theorem cell14_0 (c : Dev nD) (t : Fin cfg0.N) (l : Fin 1024) : (show FVec Ideal S1x2048 .f32 from (dats m 0 c).after 14 t) (ix2 0 ⟨l, by omega⟩) = (grad_1 (m ((c : Thread nD τ).loc main_arg12) : FVec Ideal S80x1024 .f32)) (ix2 0 ⟨l, by omega⟩) := by
  refine (stored14 m c t _).trans ?_
  refine Eq.trans (Rows.canon_miss (s := S1x2048) (off := ![0, 1024]) (size := S1x1024.size) (inb := inb_S1x2048_S1x1024_0_1024) (1 : Fin 2) _ _ (ix2 0 ⟨l, by omega⟩ : S1x2048.Idx) (Or.inl (show (l : ℕ) < 1024 from l.isLt))) ?_
  refine Eq.trans (Rows.canon_hit (s := S1x2048) (off := ![0, 0]) (size := S1x1024.size) (inb := inb_S1x2048_S1x1024_0_0) _ _ (ix2 0 ⟨l, by omega⟩ : S1x2048.Idx) (ix2 0 l : S1x1024.Idx) (by
    intro (a : Fin 2)
    fin_cases a
    exacts [rfl, (Nat.zero_add _).symm])) ?_
  refine (cast_out _ l).trans ((plane0 m c t 8 (by decide) _ l).trans ?_)
  exact (grad_pay _ _ _).trans ((rowsG_at m c t _ l).trans (grad_1_at _ (ix2 0 ⟨l, by omega⟩) ⟨8, by decide⟩ l 0 rfl (by show _ = _; simp <;> omega)).symm)

theorem cell14_1 (c : Dev nD) (t : Fin cfg0.N) (l : Fin 1024) : (show FVec Ideal S1x2048 .f32 from (dats m 0 c).after 14 t) (ix2 0 ⟨1024 + l, by omega⟩) = (grad_1 (m ((c : Thread nD τ).loc main_arg12) : FVec Ideal S80x1024 .f32)) (ix2 0 ⟨1024 + l, by omega⟩) := by
  refine (stored14 m c t _).trans ?_
  refine Eq.trans (Rows.canon_hit (s := S1x2048) (off := ![0, 1024]) (size := S1x1024.size) (inb := inb_S1x2048_S1x1024_0_1024) _ _ (ix2 0 ⟨1024 + l, by omega⟩ : S1x2048.Idx) (ix2 0 l : S1x1024.Idx) (by
    intro (a : Fin 2)
    fin_cases a
    exacts [rfl, rfl])) ?_
  refine (cast_out _ l).trans ((plane0 m c t 9 (by decide) _ l).trans ?_)
  exact (grad_pay _ _ _).trans ((rowsG_at m c t _ l).trans (grad_1_at _ (ix2 0 ⟨1024 + l, by omega⟩) ⟨9, by decide⟩ l 1 rfl (by show _ = _; simp <;> omega)).symm)

theorem point14 (c : Dev nD) (t : Fin cfg0.N) (y j : S1x2048.Idx) (h0 : (j 0 : ℕ) = y 0) (h1 : (j 1 : ℕ) = y 1) : (show FVec Ideal S1x2048 .f32 from (dats m 0 c).after 14 t) y = (grad_1 (m ((c : Thread nD τ).loc main_arg12) : FVec Ideal S80x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  have hy := y1.isLt
  by_cases h : (y1 : ℕ) < 1024
  · exact cell14_0 m c t ⟨y1, h⟩
  · have e : y1 = ⟨1024 + (⟨y1 - 1024, by omega⟩ : Fin 1024), by simp only []; omega⟩ := Fin.ext (by simp only []; omega)
    rw [e]
    exact cell14_1 m c t ⟨y1 - 1024, by omega⟩

theorem final14 (c : Dev nD) : (dats m 0 c).arrAt 14 (cfgs 0).N = (grad_1 (m ((c : Thread nD τ).loc main_arg12) : FVec Ideal S80x1024 .f32)) := by
  refine (dats m 0 c).arrAt_eq_of_covers 14 _ (by decide +kernel) fun t hf y => ?_
  blk_simp
  exact point14 m c t y _ (by blk_simp [idx14 t] <;> omega) (by blk_simp [idx14 t] <;> omega)

theorem stored15 (c : Dev nD) (t : Fin cfg0.N) (y : S1x1024.Idx) : (show FVec Ideal S1x1024 .f32 from (dats m 0 c).after 15 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![0, 16, 0] S1x1x1024.size inb_S4x80x1024_S1x1x1024_0_16_0).toLoadRect) shapeCasts_S1x1x1024_S1x1024⟩] y := by
  show (dats m 0 c).after 15 t y = _
  rw [after0_15]
  unfold outsAt0
  dsimp only
  unfold out0_A_15
  refine (View.read_writes_junk_apply_eq_canon (Val := Elt Ideal) VO0_15 y _).trans ?_
  refine congrArg (fun L => View.canon L y) ?_
  rfl

theorem cell15_0 (c : Dev nD) (t : Fin cfg0.N) (l : Fin 1024) : (show FVec Ideal S1x1024 .f32 from (dats m 0 c).after 15 t) (ix2 0 l) = (grad_2 (m ((c : Thread nD τ).loc main_arg12) : FVec Ideal S80x1024 .f32)) (ix2 0 l) := by
  refine (stored15 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane0 m c t 16 (by decide) _ l).trans ?_)
  exact (grad_pay _ _ _).trans ((rowsG_at m c t _ l).trans (grad_2_at _ (ix2 0 l) ⟨16, by decide⟩ l 0 rfl (by show _ = _; simp <;> omega)).symm)

theorem point15 (c : Dev nD) (t : Fin cfg0.N) (y j : S1x1024.Idx) (h0 : (j 0 : ℕ) = y 0) (h1 : (j 1 : ℕ) = y 1) : (show FVec Ideal S1x1024 .f32 from (dats m 0 c).after 15 t) y = (grad_2 (m ((c : Thread nD τ).loc main_arg12) : FVec Ideal S80x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell15_0 m c t _

theorem final15 (c : Dev nD) : (dats m 0 c).arrAt 15 (cfgs 0).N = (grad_2 (m ((c : Thread nD τ).loc main_arg12) : FVec Ideal S80x1024 .f32)) := by
  refine (dats m 0 c).arrAt_eq_of_covers 15 _ (by decide +kernel) fun t hf y => ?_
  blk_simp
  exact point15 m c t y _ (by blk_simp [idx15 t] <;> omega) (by blk_simp [idx15 t] <;> omega)

theorem stored16 (c : Dev nD) (t : Fin cfg0.N) (y : S1x1024.Idx) : (show FVec Ideal S1x1024 .f32 from (dats m 0 c).after 16 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![0, 24, 0] S1x1x1024.size inb_S4x80x1024_S1x1x1024_0_24_0).toLoadRect) shapeCasts_S1x1x1024_S1x1024⟩] y := by
  show (dats m 0 c).after 16 t y = _
  rw [after0_16]
  unfold outsAt0
  dsimp only
  unfold out0_A_16
  refine (View.read_writes_junk_apply_eq_canon (Val := Elt Ideal) VO0_16 y _).trans ?_
  refine congrArg (fun L => View.canon L y) ?_
  rfl

theorem cell16_0 (c : Dev nD) (t : Fin cfg0.N) (l : Fin 1024) : (show FVec Ideal S1x1024 .f32 from (dats m 0 c).after 16 t) (ix2 0 l) = (grad_3 (m ((c : Thread nD τ).loc main_arg12) : FVec Ideal S80x1024 .f32)) (ix2 0 l) := by
  refine (stored16 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane0 m c t 24 (by decide) _ l).trans ?_)
  exact (grad_pay _ _ _).trans ((rowsG_at m c t _ l).trans (grad_3_at _ (ix2 0 l) ⟨24, by decide⟩ l 0 rfl (by show _ = _; simp <;> omega)).symm)

theorem point16 (c : Dev nD) (t : Fin cfg0.N) (y j : S1x1024.Idx) (h0 : (j 0 : ℕ) = y 0) (h1 : (j 1 : ℕ) = y 1) : (show FVec Ideal S1x1024 .f32 from (dats m 0 c).after 16 t) y = (grad_3 (m ((c : Thread nD τ).loc main_arg12) : FVec Ideal S80x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell16_0 m c t _

theorem final16 (c : Dev nD) : (dats m 0 c).arrAt 16 (cfgs 0).N = (grad_3 (m ((c : Thread nD τ).loc main_arg12) : FVec Ideal S80x1024 .f32)) := by
  refine (dats m 0 c).arrAt_eq_of_covers 16 _ (by decide +kernel) fun t hf y => ?_
  blk_simp
  exact point16 m c t y _ (by blk_simp [idx16 t] <;> omega) (by blk_simp [idx16 t] <;> omega)

theorem stored17 (c : Dev nD) (t : Fin cfg0.N) (y : S1x1024.Idx) : (show FVec Ideal S1x1024 .f32 from (dats m 0 c).after 17 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![1, 0, 0] S1x1x1024.size inb_S4x80x1024_S1x1x1024_1_0_0).toLoadRect) shapeCasts_S1x1x1024_S1x1024⟩] y := by
  show (dats m 0 c).after 17 t y = _
  rw [after0_17]
  unfold outsAt0
  dsimp only
  unfold out0_A_17
  refine (View.read_writes_junk_apply_eq_canon (Val := Elt Ideal) VO0_17 y _).trans ?_
  refine congrArg (fun L => View.canon L y) ?_
  rfl

theorem cell17_0 (c : Dev nD) (t : Fin cfg0.N) (l : Fin 1024) : (show FVec Ideal S1x1024 .f32 from (dats m 0 c).after 17 t) (ix2 0 l) = (delta1024 (m ((c : Thread nD τ).loc main_arg0) : FVec Ideal S1x1024 .f32) (grad_0 (m ((c : Thread nD τ).loc main_arg12) : FVec Ideal S80x1024 .f32)) (m ((c : Thread nD τ).loc main_arg4) : FVec Ideal S1x1024 .f32) (m ((c : Thread nD τ).loc main_arg8) : FVec Ideal S1x1024 .f32)) (ix2 0 l) := by
  refine (stored17 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane1 m c t 0 (by decide) _ l).trans ?_)
  exact delta1024_at _ _ _ _ _ _ _ _ _ _ _ (rowsW_0_0 m c t l) ((rowsG_at m c t _ l).trans (grad_0_at _ (ix2 0 l) ⟨0, by decide⟩ l 0 rfl (by show _ = _; simp <;> omega)).symm) (rowsM_0_0 m c t l) (rowsV_0_0 m c t l)

theorem point17 (c : Dev nD) (t : Fin cfg0.N) (y j : S1x1024.Idx) (h0 : (j 0 : ℕ) = y 0) (h1 : (j 1 : ℕ) = y 1) : (show FVec Ideal S1x1024 .f32 from (dats m 0 c).after 17 t) y = (delta1024 (m ((c : Thread nD τ).loc main_arg0) : FVec Ideal S1x1024 .f32) (grad_0 (m ((c : Thread nD τ).loc main_arg12) : FVec Ideal S80x1024 .f32)) (m ((c : Thread nD τ).loc main_arg4) : FVec Ideal S1x1024 .f32) (m ((c : Thread nD τ).loc main_arg8) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell17_0 m c t _

theorem final17 (c : Dev nD) : (dats m 0 c).arrAt 17 (cfgs 0).N = (delta1024 (m ((c : Thread nD τ).loc main_arg0) : FVec Ideal S1x1024 .f32) (grad_0 (m ((c : Thread nD τ).loc main_arg12) : FVec Ideal S80x1024 .f32)) (m ((c : Thread nD τ).loc main_arg4) : FVec Ideal S1x1024 .f32) (m ((c : Thread nD τ).loc main_arg8) : FVec Ideal S1x1024 .f32)) := by
  refine (dats m 0 c).arrAt_eq_of_covers 17 _ (by decide +kernel) fun t hf y => ?_
  blk_simp
  exact point17 m c t y _ (by blk_simp [idx17 t] <;> omega) (by blk_simp [idx17 t] <;> omega)

theorem stored18 (c : Dev nD) (t : Fin cfg0.N) (y : S1x2048.Idx) : (show FVec Ideal S1x2048 .f32 from (dats m 0 c).after 18 t) y =
    View.canon (Val := Elt Ideal) (s := S1x2048) (e := .f32) [⟨Rect.unit (s := S1x2048) ![0, 1024] S1x1024.size inb_S1x2048_S1x1024_0_1024, shapeCast S1x1024 (scM0_1.view.readCov (planes m c t) (Rect.unit (s := S4x80x1024) ![1, 9, 0] S1x1x1024.size inb_S4x80x1024_S1x1x1024_1_9_0).toLoadRect) shapeCasts_S1x1x1024_S1x1024⟩,
      ⟨Rect.unit (s := S1x2048) ![0, 0] S1x1024.size inb_S1x2048_S1x1024_0_0, shapeCast S1x1024 (scM0_1.view.readCov (planes m c t) (Rect.unit (s := S4x80x1024) ![1, 8, 0] S1x1x1024.size inb_S4x80x1024_S1x1x1024_1_8_0).toLoadRect) shapeCasts_S1x1x1024_S1x1024⟩] y := by
  show (dats m 0 c).after 18 t y = _
  rw [after0_18]
  unfold outsAt0
  dsimp only
  unfold out0_A_18
  refine (View.read_writes_junk_apply_eq_canon (Val := Elt Ideal) VO0_18 y _).trans ?_
  refine congrArg (fun L => View.canon L y) ?_
  rfl

theorem cell18_0 (c : Dev nD) (t : Fin cfg0.N) (l : Fin 1024) : (show FVec Ideal S1x2048 .f32 from (dats m 0 c).after 18 t) (ix2 0 ⟨l, by omega⟩) = (delta2048 (m ((c : Thread nD τ).loc main_arg1) : FVec Ideal S1x2048 .f32) (grad_1 (m ((c : Thread nD τ).loc main_arg12) : FVec Ideal S80x1024 .f32)) (m ((c : Thread nD τ).loc main_arg5) : FVec Ideal S1x2048 .f32) (m ((c : Thread nD τ).loc main_arg9) : FVec Ideal S1x2048 .f32)) (ix2 0 ⟨l, by omega⟩) := by
  refine (stored18 m c t _).trans ?_
  refine Eq.trans (Rows.canon_miss (s := S1x2048) (off := ![0, 1024]) (size := S1x1024.size) (inb := inb_S1x2048_S1x1024_0_1024) (1 : Fin 2) _ _ (ix2 0 ⟨l, by omega⟩ : S1x2048.Idx) (Or.inl (show (l : ℕ) < 1024 from l.isLt))) ?_
  refine Eq.trans (Rows.canon_hit (s := S1x2048) (off := ![0, 0]) (size := S1x1024.size) (inb := inb_S1x2048_S1x1024_0_0) _ _ (ix2 0 ⟨l, by omega⟩ : S1x2048.Idx) (ix2 0 l : S1x1024.Idx) (by
    intro (a : Fin 2)
    fin_cases a
    exacts [rfl, (Nat.zero_add _).symm])) ?_
  refine (cast_out _ l).trans ((plane1 m c t 8 (by decide) _ l).trans ?_)
  exact delta2048_at _ _ _ _ _ _ _ _ _ _ _ (rowsW_1_0 m c t l) ((rowsG_at m c t _ l).trans (grad_1_at _ (ix2 0 ⟨l, by omega⟩) ⟨8, by decide⟩ l 0 rfl (by show _ = _; simp <;> omega)).symm) (rowsM_1_0 m c t l) (rowsV_1_0 m c t l)

theorem cell18_1 (c : Dev nD) (t : Fin cfg0.N) (l : Fin 1024) : (show FVec Ideal S1x2048 .f32 from (dats m 0 c).after 18 t) (ix2 0 ⟨1024 + l, by omega⟩) = (delta2048 (m ((c : Thread nD τ).loc main_arg1) : FVec Ideal S1x2048 .f32) (grad_1 (m ((c : Thread nD τ).loc main_arg12) : FVec Ideal S80x1024 .f32)) (m ((c : Thread nD τ).loc main_arg5) : FVec Ideal S1x2048 .f32) (m ((c : Thread nD τ).loc main_arg9) : FVec Ideal S1x2048 .f32)) (ix2 0 ⟨1024 + l, by omega⟩) := by
  refine (stored18 m c t _).trans ?_
  refine Eq.trans (Rows.canon_hit (s := S1x2048) (off := ![0, 1024]) (size := S1x1024.size) (inb := inb_S1x2048_S1x1024_0_1024) _ _ (ix2 0 ⟨1024 + l, by omega⟩ : S1x2048.Idx) (ix2 0 l : S1x1024.Idx) (by
    intro (a : Fin 2)
    fin_cases a
    exacts [rfl, rfl])) ?_
  refine (cast_out _ l).trans ((plane1 m c t 9 (by decide) _ l).trans ?_)
  exact delta2048_at _ _ _ _ _ _ _ _ _ _ _ (rowsW_1_1 m c t l) ((rowsG_at m c t _ l).trans (grad_1_at _ (ix2 0 ⟨1024 + l, by omega⟩) ⟨9, by decide⟩ l 1 rfl (by show _ = _; simp <;> omega)).symm) (rowsM_1_1 m c t l) (rowsV_1_1 m c t l)

theorem point18 (c : Dev nD) (t : Fin cfg0.N) (y j : S1x2048.Idx) (h0 : (j 0 : ℕ) = y 0) (h1 : (j 1 : ℕ) = y 1) : (show FVec Ideal S1x2048 .f32 from (dats m 0 c).after 18 t) y = (delta2048 (m ((c : Thread nD τ).loc main_arg1) : FVec Ideal S1x2048 .f32) (grad_1 (m ((c : Thread nD τ).loc main_arg12) : FVec Ideal S80x1024 .f32)) (m ((c : Thread nD τ).loc main_arg5) : FVec Ideal S1x2048 .f32) (m ((c : Thread nD τ).loc main_arg9) : FVec Ideal S1x2048 .f32)) j := by
  have e : j = y := by
    funext (a : Fin 2)
    fin_cases a
    exacts [Fin.ext h0, Fin.ext h1]
  rw [e]
  clear e h0 h1 j
  idx_vars y
  obtain rfl : y0 = 0 := Subsingleton.elim _ _
  have hy := y1.isLt
  by_cases h : (y1 : ℕ) < 1024
  · exact cell18_0 m c t ⟨y1, h⟩
  · have e : y1 = ⟨1024 + (⟨y1 - 1024, by omega⟩ : Fin 1024), by simp only []; omega⟩ := Fin.ext (by simp only []; omega)
    rw [e]
    exact cell18_1 m c t ⟨y1 - 1024, by omega⟩

theorem final18 (c : Dev nD) : (dats m 0 c).arrAt 18 (cfgs 0).N = (delta2048 (m ((c : Thread nD τ).loc main_arg1) : FVec Ideal S1x2048 .f32) (grad_1 (m ((c : Thread nD τ).loc main_arg12) : FVec Ideal S80x1024 .f32)) (m ((c : Thread nD τ).loc main_arg5) : FVec Ideal S1x2048 .f32) (m ((c : Thread nD τ).loc main_arg9) : FVec Ideal S1x2048 .f32)) := by
  refine (dats m 0 c).arrAt_eq_of_covers 18 _ (by decide +kernel) fun t hf y => ?_
  blk_simp
  exact point18 m c t y _ (by blk_simp [idx18 t] <;> omega) (by blk_simp [idx18 t] <;> omega)

theorem stored19 (c : Dev nD) (t : Fin cfg0.N) (y : S1x1024.Idx) : (show FVec Ideal S1x1024 .f32 from (dats m 0 c).after 19 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![1, 16, 0] S1x1x1024.size inb_S4x80x1024_S1x1x1024_1_16_0).toLoadRect) shapeCasts_S1x1x1024_S1x1024⟩] y := by
  show (dats m 0 c).after 19 t y = _
  rw [after0_19]
  unfold outsAt0
  dsimp only
  unfold out0_A_19
  refine (View.read_writes_junk_apply_eq_canon (Val := Elt Ideal) VO0_19 y _).trans ?_
  refine congrArg (fun L => View.canon L y) ?_
  rfl

theorem cell19_0 (c : Dev nD) (t : Fin cfg0.N) (l : Fin 1024) : (show FVec Ideal S1x1024 .f32 from (dats m 0 c).after 19 t) (ix2 0 l) = (delta1024 (m ((c : Thread nD τ).loc main_arg2) : FVec Ideal S1x1024 .f32) (grad_2 (m ((c : Thread nD τ).loc main_arg12) : FVec Ideal S80x1024 .f32)) (m ((c : Thread nD τ).loc main_arg6) : FVec Ideal S1x1024 .f32) (m ((c : Thread nD τ).loc main_arg10) : FVec Ideal S1x1024 .f32)) (ix2 0 l) := by
  refine (stored19 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane1 m c t 16 (by decide) _ l).trans ?_)
  exact delta1024_at _ _ _ _ _ _ _ _ _ _ _ (rowsW_2_0 m c t l) ((rowsG_at m c t _ l).trans (grad_2_at _ (ix2 0 l) ⟨16, by decide⟩ l 0 rfl (by show _ = _; simp <;> omega)).symm) (rowsM_2_0 m c t l) (rowsV_2_0 m c t l)

theorem point19 (c : Dev nD) (t : Fin cfg0.N) (y j : S1x1024.Idx) (h0 : (j 0 : ℕ) = y 0) (h1 : (j 1 : ℕ) = y 1) : (show FVec Ideal S1x1024 .f32 from (dats m 0 c).after 19 t) y = (delta1024 (m ((c : Thread nD τ).loc main_arg2) : FVec Ideal S1x1024 .f32) (grad_2 (m ((c : Thread nD τ).loc main_arg12) : FVec Ideal S80x1024 .f32)) (m ((c : Thread nD τ).loc main_arg6) : FVec Ideal S1x1024 .f32) (m ((c : Thread nD τ).loc main_arg10) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell19_0 m c t _

theorem final19 (c : Dev nD) : (dats m 0 c).arrAt 19 (cfgs 0).N = (delta1024 (m ((c : Thread nD τ).loc main_arg2) : FVec Ideal S1x1024 .f32) (grad_2 (m ((c : Thread nD τ).loc main_arg12) : FVec Ideal S80x1024 .f32)) (m ((c : Thread nD τ).loc main_arg6) : FVec Ideal S1x1024 .f32) (m ((c : Thread nD τ).loc main_arg10) : FVec Ideal S1x1024 .f32)) := by
  refine (dats m 0 c).arrAt_eq_of_covers 19 _ (by decide +kernel) fun t hf y => ?_
  blk_simp
  exact point19 m c t y _ (by blk_simp [idx19 t] <;> omega) (by blk_simp [idx19 t] <;> omega)

theorem stored20 (c : Dev nD) (t : Fin cfg0.N) (y : S1x1024.Idx) : (show FVec Ideal S1x1024 .f32 from (dats m 0 c).after 20 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![1, 24, 0] S1x1x1024.size inb_S4x80x1024_S1x1x1024_1_24_0).toLoadRect) shapeCasts_S1x1x1024_S1x1024⟩] y := by
  show (dats m 0 c).after 20 t y = _
  rw [after0_20]
  unfold outsAt0
  dsimp only
  unfold out0_A_20
  refine (View.read_writes_junk_apply_eq_canon (Val := Elt Ideal) VO0_20 y _).trans ?_
  refine congrArg (fun L => View.canon L y) ?_
  rfl

theorem cell20_0 (c : Dev nD) (t : Fin cfg0.N) (l : Fin 1024) : (show FVec Ideal S1x1024 .f32 from (dats m 0 c).after 20 t) (ix2 0 l) = (delta1024 (m ((c : Thread nD τ).loc main_arg3) : FVec Ideal S1x1024 .f32) (grad_3 (m ((c : Thread nD τ).loc main_arg12) : FVec Ideal S80x1024 .f32)) (m ((c : Thread nD τ).loc main_arg7) : FVec Ideal S1x1024 .f32) (m ((c : Thread nD τ).loc main_arg11) : FVec Ideal S1x1024 .f32)) (ix2 0 l) := by
  refine (stored20 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane1 m c t 24 (by decide) _ l).trans ?_)
  exact delta1024_at _ _ _ _ _ _ _ _ _ _ _ (rowsW_3_0 m c t l) ((rowsG_at m c t _ l).trans (grad_3_at _ (ix2 0 l) ⟨24, by decide⟩ l 0 rfl (by show _ = _; simp <;> omega)).symm) (rowsM_3_0 m c t l) (rowsV_3_0 m c t l)

theorem point20 (c : Dev nD) (t : Fin cfg0.N) (y j : S1x1024.Idx) (h0 : (j 0 : ℕ) = y 0) (h1 : (j 1 : ℕ) = y 1) : (show FVec Ideal S1x1024 .f32 from (dats m 0 c).after 20 t) y = (delta1024 (m ((c : Thread nD τ).loc main_arg3) : FVec Ideal S1x1024 .f32) (grad_3 (m ((c : Thread nD τ).loc main_arg12) : FVec Ideal S80x1024 .f32)) (m ((c : Thread nD τ).loc main_arg7) : FVec Ideal S1x1024 .f32) (m ((c : Thread nD τ).loc main_arg11) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell20_0 m c t _

theorem final20 (c : Dev nD) : (dats m 0 c).arrAt 20 (cfgs 0).N = (delta1024 (m ((c : Thread nD τ).loc main_arg3) : FVec Ideal S1x1024 .f32) (grad_3 (m ((c : Thread nD τ).loc main_arg12) : FVec Ideal S80x1024 .f32)) (m ((c : Thread nD τ).loc main_arg7) : FVec Ideal S1x1024 .f32) (m ((c : Thread nD τ).loc main_arg11) : FVec Ideal S1x1024 .f32)) := by
  refine (dats m 0 c).arrAt_eq_of_covers 20 _ (by decide +kernel) fun t hf y => ?_
  blk_simp
  exact point20 m c t y _ (by blk_simp [idx20 t] <;> omega) (by blk_simp [idx20 t] <;> omega)

theorem stored21 (c : Dev nD) (t : Fin cfg0.N) (y : S1x1024.Idx) : (show FVec Ideal S1x1024 .f32 from (dats m 0 c).after 21 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![2, 0, 0] S1x1x1024.size inb_S4x80x1024_S1x1x1024_2_0_0).toLoadRect) shapeCasts_S1x1x1024_S1x1024⟩] y := by
  show (dats m 0 c).after 21 t y = _
  rw [after0_21]
  unfold outsAt0
  dsimp only
  unfold out0_A_21
  refine (View.read_writes_junk_apply_eq_canon (Val := Elt Ideal) VO0_21 y _).trans ?_
  refine congrArg (fun L => View.canon L y) ?_
  rfl

theorem cell21_0 (c : Dev nD) (t : Fin cfg0.N) (l : Fin 1024) : (show FVec Ideal S1x1024 .f32 from (dats m 0 c).after 21 t) (ix2 0 l) = (mom1024 (grad_0 (m ((c : Thread nD τ).loc main_arg12) : FVec Ideal S80x1024 .f32)) (m ((c : Thread nD τ).loc main_arg4) : FVec Ideal S1x1024 .f32)) (ix2 0 l) := by
  refine (stored21 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane2 m c t 0 (by decide) _ l).trans ?_)
  exact mom1024_at _ _ _ _ _ _ _ ((rowsG_at m c t _ l).trans (grad_0_at _ (ix2 0 l) ⟨0, by decide⟩ l 0 rfl (by show _ = _; simp <;> omega)).symm) (rowsM_0_0 m c t l)

theorem point21 (c : Dev nD) (t : Fin cfg0.N) (y j : S1x1024.Idx) (h0 : (j 0 : ℕ) = y 0) (h1 : (j 1 : ℕ) = y 1) : (show FVec Ideal S1x1024 .f32 from (dats m 0 c).after 21 t) y = (mom1024 (grad_0 (m ((c : Thread nD τ).loc main_arg12) : FVec Ideal S80x1024 .f32)) (m ((c : Thread nD τ).loc main_arg4) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell21_0 m c t _

theorem final21 (c : Dev nD) : (dats m 0 c).arrAt 21 (cfgs 0).N = (mom1024 (grad_0 (m ((c : Thread nD τ).loc main_arg12) : FVec Ideal S80x1024 .f32)) (m ((c : Thread nD τ).loc main_arg4) : FVec Ideal S1x1024 .f32)) := by
  refine (dats m 0 c).arrAt_eq_of_covers 21 _ (by decide +kernel) fun t hf y => ?_
  blk_simp
  exact point21 m c t y _ (by blk_simp [idx21 t] <;> omega) (by blk_simp [idx21 t] <;> omega)

theorem stored22 (c : Dev nD) (t : Fin cfg0.N) (y : S1x2048.Idx) : (show FVec Ideal S1x2048 .f32 from (dats m 0 c).after 22 t) y =
    View.canon (Val := Elt Ideal) (s := S1x2048) (e := .f32) [⟨Rect.unit (s := S1x2048) ![0, 1024] S1x1024.size inb_S1x2048_S1x1024_0_1024, shapeCast S1x1024 (scM0_1.view.readCov (planes m c t) (Rect.unit (s := S4x80x1024) ![2, 9, 0] S1x1x1024.size inb_S4x80x1024_S1x1x1024_2_9_0).toLoadRect) shapeCasts_S1x1x1024_S1x1024⟩,
      ⟨Rect.unit (s := S1x2048) ![0, 0] S1x1024.size inb_S1x2048_S1x1024_0_0, shapeCast S1x1024 (scM0_1.view.readCov (planes m c t) (Rect.unit (s := S4x80x1024) ![2, 8, 0] S1x1x1024.size inb_S4x80x1024_S1x1x1024_2_8_0).toLoadRect) shapeCasts_S1x1x1024_S1x1024⟩] y := by
  show (dats m 0 c).after 22 t y = _
  rw [after0_22]
  unfold outsAt0
  dsimp only
  unfold out0_A_22
  refine (View.read_writes_junk_apply_eq_canon (Val := Elt Ideal) VO0_22 y _).trans ?_
  refine congrArg (fun L => View.canon L y) ?_
  rfl

theorem cell22_0 (c : Dev nD) (t : Fin cfg0.N) (l : Fin 1024) : (show FVec Ideal S1x2048 .f32 from (dats m 0 c).after 22 t) (ix2 0 ⟨l, by omega⟩) = (mom2048 (grad_1 (m ((c : Thread nD τ).loc main_arg12) : FVec Ideal S80x1024 .f32)) (m ((c : Thread nD τ).loc main_arg5) : FVec Ideal S1x2048 .f32)) (ix2 0 ⟨l, by omega⟩) := by
  refine (stored22 m c t _).trans ?_
  refine Eq.trans (Rows.canon_miss (s := S1x2048) (off := ![0, 1024]) (size := S1x1024.size) (inb := inb_S1x2048_S1x1024_0_1024) (1 : Fin 2) _ _ (ix2 0 ⟨l, by omega⟩ : S1x2048.Idx) (Or.inl (show (l : ℕ) < 1024 from l.isLt))) ?_
  refine Eq.trans (Rows.canon_hit (s := S1x2048) (off := ![0, 0]) (size := S1x1024.size) (inb := inb_S1x2048_S1x1024_0_0) _ _ (ix2 0 ⟨l, by omega⟩ : S1x2048.Idx) (ix2 0 l : S1x1024.Idx) (by
    intro (a : Fin 2)
    fin_cases a
    exacts [rfl, (Nat.zero_add _).symm])) ?_
  refine (cast_out _ l).trans ((plane2 m c t 8 (by decide) _ l).trans ?_)
  exact mom2048_at _ _ _ _ _ _ _ ((rowsG_at m c t _ l).trans (grad_1_at _ (ix2 0 ⟨l, by omega⟩) ⟨8, by decide⟩ l 0 rfl (by show _ = _; simp <;> omega)).symm) (rowsM_1_0 m c t l)

theorem cell22_1 (c : Dev nD) (t : Fin cfg0.N) (l : Fin 1024) : (show FVec Ideal S1x2048 .f32 from (dats m 0 c).after 22 t) (ix2 0 ⟨1024 + l, by omega⟩) = (mom2048 (grad_1 (m ((c : Thread nD τ).loc main_arg12) : FVec Ideal S80x1024 .f32)) (m ((c : Thread nD τ).loc main_arg5) : FVec Ideal S1x2048 .f32)) (ix2 0 ⟨1024 + l, by omega⟩) := by
  refine (stored22 m c t _).trans ?_
  refine Eq.trans (Rows.canon_hit (s := S1x2048) (off := ![0, 1024]) (size := S1x1024.size) (inb := inb_S1x2048_S1x1024_0_1024) _ _ (ix2 0 ⟨1024 + l, by omega⟩ : S1x2048.Idx) (ix2 0 l : S1x1024.Idx) (by
    intro (a : Fin 2)
    fin_cases a
    exacts [rfl, rfl])) ?_
  refine (cast_out _ l).trans ((plane2 m c t 9 (by decide) _ l).trans ?_)
  exact mom2048_at _ _ _ _ _ _ _ ((rowsG_at m c t _ l).trans (grad_1_at _ (ix2 0 ⟨1024 + l, by omega⟩) ⟨9, by decide⟩ l 1 rfl (by show _ = _; simp <;> omega)).symm) (rowsM_1_1 m c t l)

theorem point22 (c : Dev nD) (t : Fin cfg0.N) (y j : S1x2048.Idx) (h0 : (j 0 : ℕ) = y 0) (h1 : (j 1 : ℕ) = y 1) : (show FVec Ideal S1x2048 .f32 from (dats m 0 c).after 22 t) y = (mom2048 (grad_1 (m ((c : Thread nD τ).loc main_arg12) : FVec Ideal S80x1024 .f32)) (m ((c : Thread nD τ).loc main_arg5) : FVec Ideal S1x2048 .f32)) j := by
  have e : j = y := by
    funext (a : Fin 2)
    fin_cases a
    exacts [Fin.ext h0, Fin.ext h1]
  rw [e]
  clear e h0 h1 j
  idx_vars y
  obtain rfl : y0 = 0 := Subsingleton.elim _ _
  have hy := y1.isLt
  by_cases h : (y1 : ℕ) < 1024
  · exact cell22_0 m c t ⟨y1, h⟩
  · have e : y1 = ⟨1024 + (⟨y1 - 1024, by omega⟩ : Fin 1024), by simp only []; omega⟩ := Fin.ext (by simp only []; omega)
    rw [e]
    exact cell22_1 m c t ⟨y1 - 1024, by omega⟩

theorem final22 (c : Dev nD) : (dats m 0 c).arrAt 22 (cfgs 0).N = (mom2048 (grad_1 (m ((c : Thread nD τ).loc main_arg12) : FVec Ideal S80x1024 .f32)) (m ((c : Thread nD τ).loc main_arg5) : FVec Ideal S1x2048 .f32)) := by
  refine (dats m 0 c).arrAt_eq_of_covers 22 _ (by decide +kernel) fun t hf y => ?_
  blk_simp
  exact point22 m c t y _ (by blk_simp [idx22 t] <;> omega) (by blk_simp [idx22 t] <;> omega)

theorem stored23 (c : Dev nD) (t : Fin cfg0.N) (y : S1x1024.Idx) : (show FVec Ideal S1x1024 .f32 from (dats m 0 c).after 23 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![2, 16, 0] S1x1x1024.size inb_S4x80x1024_S1x1x1024_2_16_0).toLoadRect) shapeCasts_S1x1x1024_S1x1024⟩] y := by
  show (dats m 0 c).after 23 t y = _
  rw [after0_23]
  unfold outsAt0
  dsimp only
  unfold out0_A_23
  refine (View.read_writes_junk_apply_eq_canon (Val := Elt Ideal) VO0_23 y _).trans ?_
  refine congrArg (fun L => View.canon L y) ?_
  rfl

theorem cell23_0 (c : Dev nD) (t : Fin cfg0.N) (l : Fin 1024) : (show FVec Ideal S1x1024 .f32 from (dats m 0 c).after 23 t) (ix2 0 l) = (mom1024 (grad_2 (m ((c : Thread nD τ).loc main_arg12) : FVec Ideal S80x1024 .f32)) (m ((c : Thread nD τ).loc main_arg6) : FVec Ideal S1x1024 .f32)) (ix2 0 l) := by
  refine (stored23 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane2 m c t 16 (by decide) _ l).trans ?_)
  exact mom1024_at _ _ _ _ _ _ _ ((rowsG_at m c t _ l).trans (grad_2_at _ (ix2 0 l) ⟨16, by decide⟩ l 0 rfl (by show _ = _; simp <;> omega)).symm) (rowsM_2_0 m c t l)

theorem point23 (c : Dev nD) (t : Fin cfg0.N) (y j : S1x1024.Idx) (h0 : (j 0 : ℕ) = y 0) (h1 : (j 1 : ℕ) = y 1) : (show FVec Ideal S1x1024 .f32 from (dats m 0 c).after 23 t) y = (mom1024 (grad_2 (m ((c : Thread nD τ).loc main_arg12) : FVec Ideal S80x1024 .f32)) (m ((c : Thread nD τ).loc main_arg6) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell23_0 m c t _

theorem final23 (c : Dev nD) : (dats m 0 c).arrAt 23 (cfgs 0).N = (mom1024 (grad_2 (m ((c : Thread nD τ).loc main_arg12) : FVec Ideal S80x1024 .f32)) (m ((c : Thread nD τ).loc main_arg6) : FVec Ideal S1x1024 .f32)) := by
  refine (dats m 0 c).arrAt_eq_of_covers 23 _ (by decide +kernel) fun t hf y => ?_
  blk_simp
  exact point23 m c t y _ (by blk_simp [idx23 t] <;> omega) (by blk_simp [idx23 t] <;> omega)

theorem stored24 (c : Dev nD) (t : Fin cfg0.N) (y : S1x1024.Idx) : (show FVec Ideal S1x1024 .f32 from (dats m 0 c).after 24 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![2, 24, 0] S1x1x1024.size inb_S4x80x1024_S1x1x1024_2_24_0).toLoadRect) shapeCasts_S1x1x1024_S1x1024⟩] y := by
  show (dats m 0 c).after 24 t y = _
  rw [after0_24]
  unfold outsAt0
  dsimp only
  unfold out0_A_24
  refine (View.read_writes_junk_apply_eq_canon (Val := Elt Ideal) VO0_24 y _).trans ?_
  refine congrArg (fun L => View.canon L y) ?_
  rfl

theorem cell24_0 (c : Dev nD) (t : Fin cfg0.N) (l : Fin 1024) : (show FVec Ideal S1x1024 .f32 from (dats m 0 c).after 24 t) (ix2 0 l) = (mom1024 (grad_3 (m ((c : Thread nD τ).loc main_arg12) : FVec Ideal S80x1024 .f32)) (m ((c : Thread nD τ).loc main_arg7) : FVec Ideal S1x1024 .f32)) (ix2 0 l) := by
  refine (stored24 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane2 m c t 24 (by decide) _ l).trans ?_)
  exact mom1024_at _ _ _ _ _ _ _ ((rowsG_at m c t _ l).trans (grad_3_at _ (ix2 0 l) ⟨24, by decide⟩ l 0 rfl (by show _ = _; simp <;> omega)).symm) (rowsM_3_0 m c t l)

theorem point24 (c : Dev nD) (t : Fin cfg0.N) (y j : S1x1024.Idx) (h0 : (j 0 : ℕ) = y 0) (h1 : (j 1 : ℕ) = y 1) : (show FVec Ideal S1x1024 .f32 from (dats m 0 c).after 24 t) y = (mom1024 (grad_3 (m ((c : Thread nD τ).loc main_arg12) : FVec Ideal S80x1024 .f32)) (m ((c : Thread nD τ).loc main_arg7) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell24_0 m c t _

theorem final24 (c : Dev nD) : (dats m 0 c).arrAt 24 (cfgs 0).N = (mom1024 (grad_3 (m ((c : Thread nD τ).loc main_arg12) : FVec Ideal S80x1024 .f32)) (m ((c : Thread nD τ).loc main_arg7) : FVec Ideal S1x1024 .f32)) := by
  refine (dats m 0 c).arrAt_eq_of_covers 24 _ (by decide +kernel) fun t hf y => ?_
  blk_simp
  exact point24 m c t y _ (by blk_simp [idx24 t] <;> omega) (by blk_simp [idx24 t] <;> omega)

theorem stored25 (c : Dev nD) (t : Fin cfg0.N) (y : S1x1024.Idx) : (show FVec Ideal S1x1024 .f32 from (dats m 0 c).after 25 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![3, 0, 0] S1x1x1024.size inb_S4x80x1024_S1x1x1024_3_0_0).toLoadRect) shapeCasts_S1x1x1024_S1x1024⟩] y := by
  show (dats m 0 c).after 25 t y = _
  rw [after0_25]
  unfold outsAt0
  dsimp only
  unfold out0_A_25
  refine (View.read_writes_junk_apply_eq_canon (Val := Elt Ideal) VO0_25 y _).trans ?_
  refine congrArg (fun L => View.canon L y) ?_
  rfl

theorem cell25_0 (c : Dev nD) (t : Fin cfg0.N) (l : Fin 1024) : (show FVec Ideal S1x1024 .f32 from (dats m 0 c).after 25 t) (ix2 0 l) = (vel1024 (grad_0 (m ((c : Thread nD τ).loc main_arg12) : FVec Ideal S80x1024 .f32)) (m ((c : Thread nD τ).loc main_arg8) : FVec Ideal S1x1024 .f32)) (ix2 0 l) := by
  refine (stored25 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane3 m c t 0 (by decide) _ l).trans ?_)
  exact vel1024_at _ _ _ _ _ _ _ ((rowsG_at m c t _ l).trans (grad_0_at _ (ix2 0 l) ⟨0, by decide⟩ l 0 rfl (by show _ = _; simp <;> omega)).symm) (rowsV_0_0 m c t l)

theorem point25 (c : Dev nD) (t : Fin cfg0.N) (y j : S1x1024.Idx) (h0 : (j 0 : ℕ) = y 0) (h1 : (j 1 : ℕ) = y 1) : (show FVec Ideal S1x1024 .f32 from (dats m 0 c).after 25 t) y = (vel1024 (grad_0 (m ((c : Thread nD τ).loc main_arg12) : FVec Ideal S80x1024 .f32)) (m ((c : Thread nD τ).loc main_arg8) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell25_0 m c t _

theorem final25 (c : Dev nD) : (dats m 0 c).arrAt 25 (cfgs 0).N = (vel1024 (grad_0 (m ((c : Thread nD τ).loc main_arg12) : FVec Ideal S80x1024 .f32)) (m ((c : Thread nD τ).loc main_arg8) : FVec Ideal S1x1024 .f32)) := by
  refine (dats m 0 c).arrAt_eq_of_covers 25 _ (by decide +kernel) fun t hf y => ?_
  blk_simp
  exact point25 m c t y _ (by blk_simp [idx25 t] <;> omega) (by blk_simp [idx25 t] <;> omega)

theorem stored26 (c : Dev nD) (t : Fin cfg0.N) (y : S1x2048.Idx) : (show FVec Ideal S1x2048 .f32 from (dats m 0 c).after 26 t) y =
    View.canon (Val := Elt Ideal) (s := S1x2048) (e := .f32) [⟨Rect.unit (s := S1x2048) ![0, 1024] S1x1024.size inb_S1x2048_S1x1024_0_1024, shapeCast S1x1024 (scM0_1.view.readCov (planes m c t) (Rect.unit (s := S4x80x1024) ![3, 9, 0] S1x1x1024.size inb_S4x80x1024_S1x1x1024_3_9_0).toLoadRect) shapeCasts_S1x1x1024_S1x1024⟩,
      ⟨Rect.unit (s := S1x2048) ![0, 0] S1x1024.size inb_S1x2048_S1x1024_0_0, shapeCast S1x1024 (scM0_1.view.readCov (planes m c t) (Rect.unit (s := S4x80x1024) ![3, 8, 0] S1x1x1024.size inb_S4x80x1024_S1x1x1024_3_8_0).toLoadRect) shapeCasts_S1x1x1024_S1x1024⟩] y := by
  show (dats m 0 c).after 26 t y = _
  rw [after0_26]
  unfold outsAt0
  dsimp only
  unfold out0_A_26
  refine (View.read_writes_junk_apply_eq_canon (Val := Elt Ideal) VO0_26 y _).trans ?_
  refine congrArg (fun L => View.canon L y) ?_
  rfl

theorem cell26_0 (c : Dev nD) (t : Fin cfg0.N) (l : Fin 1024) : (show FVec Ideal S1x2048 .f32 from (dats m 0 c).after 26 t) (ix2 0 ⟨l, by omega⟩) = (vel2048 (grad_1 (m ((c : Thread nD τ).loc main_arg12) : FVec Ideal S80x1024 .f32)) (m ((c : Thread nD τ).loc main_arg9) : FVec Ideal S1x2048 .f32)) (ix2 0 ⟨l, by omega⟩) := by
  refine (stored26 m c t _).trans ?_
  refine Eq.trans (Rows.canon_miss (s := S1x2048) (off := ![0, 1024]) (size := S1x1024.size) (inb := inb_S1x2048_S1x1024_0_1024) (1 : Fin 2) _ _ (ix2 0 ⟨l, by omega⟩ : S1x2048.Idx) (Or.inl (show (l : ℕ) < 1024 from l.isLt))) ?_
  refine Eq.trans (Rows.canon_hit (s := S1x2048) (off := ![0, 0]) (size := S1x1024.size) (inb := inb_S1x2048_S1x1024_0_0) _ _ (ix2 0 ⟨l, by omega⟩ : S1x2048.Idx) (ix2 0 l : S1x1024.Idx) (by
    intro (a : Fin 2)
    fin_cases a
    exacts [rfl, (Nat.zero_add _).symm])) ?_
  refine (cast_out _ l).trans ((plane3 m c t 8 (by decide) _ l).trans ?_)
  exact vel2048_at _ _ _ _ _ _ _ ((rowsG_at m c t _ l).trans (grad_1_at _ (ix2 0 ⟨l, by omega⟩) ⟨8, by decide⟩ l 0 rfl (by show _ = _; simp <;> omega)).symm) (rowsV_1_0 m c t l)

theorem cell26_1 (c : Dev nD) (t : Fin cfg0.N) (l : Fin 1024) : (show FVec Ideal S1x2048 .f32 from (dats m 0 c).after 26 t) (ix2 0 ⟨1024 + l, by omega⟩) = (vel2048 (grad_1 (m ((c : Thread nD τ).loc main_arg12) : FVec Ideal S80x1024 .f32)) (m ((c : Thread nD τ).loc main_arg9) : FVec Ideal S1x2048 .f32)) (ix2 0 ⟨1024 + l, by omega⟩) := by
  refine (stored26 m c t _).trans ?_
  refine Eq.trans (Rows.canon_hit (s := S1x2048) (off := ![0, 1024]) (size := S1x1024.size) (inb := inb_S1x2048_S1x1024_0_1024) _ _ (ix2 0 ⟨1024 + l, by omega⟩ : S1x2048.Idx) (ix2 0 l : S1x1024.Idx) (by
    intro (a : Fin 2)
    fin_cases a
    exacts [rfl, rfl])) ?_
  refine (cast_out _ l).trans ((plane3 m c t 9 (by decide) _ l).trans ?_)
  exact vel2048_at _ _ _ _ _ _ _ ((rowsG_at m c t _ l).trans (grad_1_at _ (ix2 0 ⟨1024 + l, by omega⟩) ⟨9, by decide⟩ l 1 rfl (by show _ = _; simp <;> omega)).symm) (rowsV_1_1 m c t l)

theorem point26 (c : Dev nD) (t : Fin cfg0.N) (y j : S1x2048.Idx) (h0 : (j 0 : ℕ) = y 0) (h1 : (j 1 : ℕ) = y 1) : (show FVec Ideal S1x2048 .f32 from (dats m 0 c).after 26 t) y = (vel2048 (grad_1 (m ((c : Thread nD τ).loc main_arg12) : FVec Ideal S80x1024 .f32)) (m ((c : Thread nD τ).loc main_arg9) : FVec Ideal S1x2048 .f32)) j := by
  have e : j = y := by
    funext (a : Fin 2)
    fin_cases a
    exacts [Fin.ext h0, Fin.ext h1]
  rw [e]
  clear e h0 h1 j
  idx_vars y
  obtain rfl : y0 = 0 := Subsingleton.elim _ _
  have hy := y1.isLt
  by_cases h : (y1 : ℕ) < 1024
  · exact cell26_0 m c t ⟨y1, h⟩
  · have e : y1 = ⟨1024 + (⟨y1 - 1024, by omega⟩ : Fin 1024), by simp only []; omega⟩ := Fin.ext (by simp only []; omega)
    rw [e]
    exact cell26_1 m c t ⟨y1 - 1024, by omega⟩

theorem final26 (c : Dev nD) : (dats m 0 c).arrAt 26 (cfgs 0).N = (vel2048 (grad_1 (m ((c : Thread nD τ).loc main_arg12) : FVec Ideal S80x1024 .f32)) (m ((c : Thread nD τ).loc main_arg9) : FVec Ideal S1x2048 .f32)) := by
  refine (dats m 0 c).arrAt_eq_of_covers 26 _ (by decide +kernel) fun t hf y => ?_
  blk_simp
  exact point26 m c t y _ (by blk_simp [idx26 t] <;> omega) (by blk_simp [idx26 t] <;> omega)

theorem stored27 (c : Dev nD) (t : Fin cfg0.N) (y : S1x1024.Idx) : (show FVec Ideal S1x1024 .f32 from (dats m 0 c).after 27 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![3, 16, 0] S1x1x1024.size inb_S4x80x1024_S1x1x1024_3_16_0).toLoadRect) shapeCasts_S1x1x1024_S1x1024⟩] y := by
  show (dats m 0 c).after 27 t y = _
  rw [after0_27]
  unfold outsAt0
  dsimp only
  unfold out0_A_27
  refine (View.read_writes_junk_apply_eq_canon (Val := Elt Ideal) VO0_27 y _).trans ?_
  refine congrArg (fun L => View.canon L y) ?_
  rfl

theorem cell27_0 (c : Dev nD) (t : Fin cfg0.N) (l : Fin 1024) : (show FVec Ideal S1x1024 .f32 from (dats m 0 c).after 27 t) (ix2 0 l) = (vel1024 (grad_2 (m ((c : Thread nD τ).loc main_arg12) : FVec Ideal S80x1024 .f32)) (m ((c : Thread nD τ).loc main_arg10) : FVec Ideal S1x1024 .f32)) (ix2 0 l) := by
  refine (stored27 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane3 m c t 16 (by decide) _ l).trans ?_)
  exact vel1024_at _ _ _ _ _ _ _ ((rowsG_at m c t _ l).trans (grad_2_at _ (ix2 0 l) ⟨16, by decide⟩ l 0 rfl (by show _ = _; simp <;> omega)).symm) (rowsV_2_0 m c t l)

theorem point27 (c : Dev nD) (t : Fin cfg0.N) (y j : S1x1024.Idx) (h0 : (j 0 : ℕ) = y 0) (h1 : (j 1 : ℕ) = y 1) : (show FVec Ideal S1x1024 .f32 from (dats m 0 c).after 27 t) y = (vel1024 (grad_2 (m ((c : Thread nD τ).loc main_arg12) : FVec Ideal S80x1024 .f32)) (m ((c : Thread nD τ).loc main_arg10) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell27_0 m c t _

theorem final27 (c : Dev nD) : (dats m 0 c).arrAt 27 (cfgs 0).N = (vel1024 (grad_2 (m ((c : Thread nD τ).loc main_arg12) : FVec Ideal S80x1024 .f32)) (m ((c : Thread nD τ).loc main_arg10) : FVec Ideal S1x1024 .f32)) := by
  refine (dats m 0 c).arrAt_eq_of_covers 27 _ (by decide +kernel) fun t hf y => ?_
  blk_simp
  exact point27 m c t y _ (by blk_simp [idx27 t] <;> omega) (by blk_simp [idx27 t] <;> omega)

theorem stored28 (c : Dev nD) (t : Fin cfg0.N) (y : S1x1024.Idx) : (show FVec Ideal S1x1024 .f32 from (dats m 0 c).after 28 t) y =
    View.canon (Val := Elt Ideal) (s := S1x1024) (e := .f32) [⟨Rect.unit (s := S1x1024) ![0, 0] S1x1024.size inb_S1x1024_S1x1024_0_0, shapeCast S1x1024 (scM0_1.view.readCov (planes m c t) (Rect.unit (s := S4x80x1024) ![3, 24, 0] S1x1x1024.size inb_S4x80x1024_S1x1x1024_3_24_0).toLoadRect) shapeCasts_S1x1x1024_S1x1024⟩] y := by
  show (dats m 0 c).after 28 t y = _
  rw [after0_28]
  unfold outsAt0
  dsimp only
  unfold out0_A_28
  refine (View.read_writes_junk_apply_eq_canon (Val := Elt Ideal) VO0_28 y _).trans ?_
  refine congrArg (fun L => View.canon L y) ?_
  rfl

theorem cell28_0 (c : Dev nD) (t : Fin cfg0.N) (l : Fin 1024) : (show FVec Ideal S1x1024 .f32 from (dats m 0 c).after 28 t) (ix2 0 l) = (vel1024 (grad_3 (m ((c : Thread nD τ).loc main_arg12) : FVec Ideal S80x1024 .f32)) (m ((c : Thread nD τ).loc main_arg11) : FVec Ideal S1x1024 .f32)) (ix2 0 l) := by
  refine (stored28 m c t _).trans ?_
  refine Eq.trans (Rows.canon_hit (s := S1x1024) (off := ![0, 0]) (size := S1x1024.size) (inb := inb_S1x1024_S1x1024_0_0) _ _ (ix2 0 l : S1x1024.Idx) (ix2 0 l : S1x1024.Idx) (by
    intro (a : Fin 2)
    fin_cases a
    exacts [rfl, (Nat.zero_add _).symm])) ?_
  refine (cast_out _ l).trans ((plane3 m c t 24 (by decide) _ l).trans ?_)
  exact vel1024_at _ _ _ _ _ _ _ ((rowsG_at m c t _ l).trans (grad_3_at _ (ix2 0 l) ⟨24, by decide⟩ l 0 rfl (by show _ = _; simp <;> omega)).symm) (rowsV_3_0 m c t l)

theorem point28 (c : Dev nD) (t : Fin cfg0.N) (y j : S1x1024.Idx) (h0 : (j 0 : ℕ) = y 0) (h1 : (j 1 : ℕ) = y 1) : (show FVec Ideal S1x1024 .f32 from (dats m 0 c).after 28 t) y = (vel1024 (grad_3 (m ((c : Thread nD τ).loc main_arg12) : FVec Ideal S80x1024 .f32)) (m ((c : Thread nD τ).loc main_arg11) : FVec Ideal S1x1024 .f32)) j := by
  have e : j = y := by
    funext (a : Fin 2)
    fin_cases a
    exacts [Fin.ext h0, Fin.ext h1]
  rw [e]
  clear e h0 h1 j
  idx_vars y
  obtain rfl : y0 = 0 := Subsingleton.elim _ _
  exact cell28_0 m c t _

theorem final28 (c : Dev nD) : (dats m 0 c).arrAt 28 (cfgs 0).N = (vel1024 (grad_3 (m ((c : Thread nD τ).loc main_arg12) : FVec Ideal S80x1024 .f32)) (m ((c : Thread nD τ).loc main_arg11) : FVec Ideal S1x1024 .f32)) := by
  refine (dats m 0 c).arrAt_eq_of_covers 28 _ (by decide +kernel) fun t hf y => ?_
  blk_simp
  exact point28 m c t y _ (by blk_simp [idx28 t] <;> omega) (by blk_simp [idx28 t] <;> omega)

end Cert.AdamSmallIdeal.Math

end
-- ==== Proof.AdamSmall.Claim.lean ====
/-
  The claim about the small weights' optimiser step: over the reals the program and the reference leave the same results.
-/
module

public import proofs.«01_k».proof.Defs
public import proofs.«01_k».proof.Proof.AdamSmall.Value
public import proofs.«01_k».proof.Proof.Gen.AdamSmallReferenceIdeal.Run

@[expose] public section

set_option maxRecDepth 16384

noncomputable section

namespace Cert.AdamSmallIdeal.Math

open Cert.AdamSmallIdeal Cert.AdamSmallIdeal.Gen Idealize.ShloMosaic Idealize.ShloMosaic.TcCoe Idealize.SL.Sem
open Cert.AdamSmallReferenceIdeal.Math

theorem frame_reference : Cert.quiescent_AdamSmallReferenceIdeal := by
  intro m ρ _
  exact (θ_run Cert.AdamSmallReferenceIdeal.defs _ _).mono (fun r h => ⟨fun c => (h c).2.2.2.2.2.2.2.2.2.2.2.2.2.2.2.2, sem_eq_zero_of_no_sems (by decide) r.2⟩)
    (Cert.AdamSmallReferenceIdeal.Value.run m ρ)

/-- What result 0 holds. -/
def left0 (m : (ℓ : Loc nD τ sig) → Buf (Elt Ideal) ℓ) (c : Dev nD) : FVec Ideal S1x1024 .f32 := (grad_0 (m ((c : Thread nD τ).loc main_arg12) : FVec Ideal S80x1024 .f32))

theorem left0_eq (m : (ℓ : Loc nD τ sig) → Buf (Elt Ideal) ℓ) (c : Dev nD) {g : FVec Ideal S80x1024 .f32} (hg : g = (m ((c : Thread nD τ).loc main_arg12) : FVec Ideal S80x1024 .f32)) : grad_0 g = left0 m c := by
  rw [hg, left0]

/-- What result 1 holds. -/
def left1 (m : (ℓ : Loc nD τ sig) → Buf (Elt Ideal) ℓ) (c : Dev nD) : FVec Ideal S1x2048 .f32 := (grad_1 (m ((c : Thread nD τ).loc main_arg12) : FVec Ideal S80x1024 .f32))

theorem left1_eq (m : (ℓ : Loc nD τ sig) → Buf (Elt Ideal) ℓ) (c : Dev nD) {g : FVec Ideal S80x1024 .f32} (hg : g = (m ((c : Thread nD τ).loc main_arg12) : FVec Ideal S80x1024 .f32)) : grad_1 g = left1 m c := by
  rw [hg, left1]

/-- What result 2 holds. -/
def left2 (m : (ℓ : Loc nD τ sig) → Buf (Elt Ideal) ℓ) (c : Dev nD) : FVec Ideal S1x1024 .f32 := (grad_2 (m ((c : Thread nD τ).loc main_arg12) : FVec Ideal S80x1024 .f32))

theorem left2_eq (m : (ℓ : Loc nD τ sig) → Buf (Elt Ideal) ℓ) (c : Dev nD) {g : FVec Ideal S80x1024 .f32} (hg : g = (m ((c : Thread nD τ).loc main_arg12) : FVec Ideal S80x1024 .f32)) : grad_2 g = left2 m c := by
  rw [hg, left2]

/-- What result 3 holds. -/
def left3 (m : (ℓ : Loc nD τ sig) → Buf (Elt Ideal) ℓ) (c : Dev nD) : FVec Ideal S1x1024 .f32 := (grad_3 (m ((c : Thread nD τ).loc main_arg12) : FVec Ideal S80x1024 .f32))

theorem left3_eq (m : (ℓ : Loc nD τ sig) → Buf (Elt Ideal) ℓ) (c : Dev nD) {g : FVec Ideal S80x1024 .f32} (hg : g = (m ((c : Thread nD τ).loc main_arg12) : FVec Ideal S80x1024 .f32)) : grad_3 g = left3 m c := by
  rw [hg, left3]

/-- What result 4 holds. -/
def left4 (m : (ℓ : Loc nD τ sig) → Buf (Elt Ideal) ℓ) (c : Dev nD) : FVec Ideal S1x1024 .f32 := (delta1024 (m ((c : Thread nD τ).loc main_arg0) : FVec Ideal S1x1024 .f32) (grad_0 (m ((c : Thread nD τ).loc main_arg12) : FVec Ideal S80x1024 .f32)) (m ((c : Thread nD τ).loc main_arg4) : FVec Ideal S1x1024 .f32) (m ((c : Thread nD τ).loc main_arg8) : FVec Ideal S1x1024 .f32))

theorem left4_eq (m : (ℓ : Loc nD τ sig) → Buf (Elt Ideal) ℓ) (c : Dev nD) {w : FVec Ideal S1x1024 .f32} (hw : w = (m ((c : Thread nD τ).loc main_arg0) : FVec Ideal S1x1024 .f32)) {g : FVec Ideal S80x1024 .f32} (hg : g = (m ((c : Thread nD τ).loc main_arg12) : FVec Ideal S80x1024 .f32)) {m1 : FVec Ideal S1x1024 .f32} (hm1 : m1 = (m ((c : Thread nD τ).loc main_arg4) : FVec Ideal S1x1024 .f32)) {v1 : FVec Ideal S1x1024 .f32} (hv1 : v1 = (m ((c : Thread nD τ).loc main_arg8) : FVec Ideal S1x1024 .f32)) : delta1024 w (grad_0 g) m1 v1 = left4 m c := by
  rw [hw, hg, hm1, hv1, left4]

/-- What result 5 holds. -/
def left5 (m : (ℓ : Loc nD τ sig) → Buf (Elt Ideal) ℓ) (c : Dev nD) : FVec Ideal S1x2048 .f32 := (delta2048 (m ((c : Thread nD τ).loc main_arg1) : FVec Ideal S1x2048 .f32) (grad_1 (m ((c : Thread nD τ).loc main_arg12) : FVec Ideal S80x1024 .f32)) (m ((c : Thread nD τ).loc main_arg5) : FVec Ideal S1x2048 .f32) (m ((c : Thread nD τ).loc main_arg9) : FVec Ideal S1x2048 .f32))

theorem left5_eq (m : (ℓ : Loc nD τ sig) → Buf (Elt Ideal) ℓ) (c : Dev nD) {w : FVec Ideal S1x2048 .f32} (hw : w = (m ((c : Thread nD τ).loc main_arg1) : FVec Ideal S1x2048 .f32)) {g : FVec Ideal S80x1024 .f32} (hg : g = (m ((c : Thread nD τ).loc main_arg12) : FVec Ideal S80x1024 .f32)) {m1 : FVec Ideal S1x2048 .f32} (hm1 : m1 = (m ((c : Thread nD τ).loc main_arg5) : FVec Ideal S1x2048 .f32)) {v1 : FVec Ideal S1x2048 .f32} (hv1 : v1 = (m ((c : Thread nD τ).loc main_arg9) : FVec Ideal S1x2048 .f32)) : delta2048 w (grad_1 g) m1 v1 = left5 m c := by
  rw [hw, hg, hm1, hv1, left5]

/-- What result 6 holds. -/
def left6 (m : (ℓ : Loc nD τ sig) → Buf (Elt Ideal) ℓ) (c : Dev nD) : FVec Ideal S1x1024 .f32 := (delta1024 (m ((c : Thread nD τ).loc main_arg2) : FVec Ideal S1x1024 .f32) (grad_2 (m ((c : Thread nD τ).loc main_arg12) : FVec Ideal S80x1024 .f32)) (m ((c : Thread nD τ).loc main_arg6) : FVec Ideal S1x1024 .f32) (m ((c : Thread nD τ).loc main_arg10) : FVec Ideal S1x1024 .f32))

theorem left6_eq (m : (ℓ : Loc nD τ sig) → Buf (Elt Ideal) ℓ) (c : Dev nD) {w : FVec Ideal S1x1024 .f32} (hw : w = (m ((c : Thread nD τ).loc main_arg2) : FVec Ideal S1x1024 .f32)) {g : FVec Ideal S80x1024 .f32} (hg : g = (m ((c : Thread nD τ).loc main_arg12) : FVec Ideal S80x1024 .f32)) {m1 : FVec Ideal S1x1024 .f32} (hm1 : m1 = (m ((c : Thread nD τ).loc main_arg6) : FVec Ideal S1x1024 .f32)) {v1 : FVec Ideal S1x1024 .f32} (hv1 : v1 = (m ((c : Thread nD τ).loc main_arg10) : FVec Ideal S1x1024 .f32)) : delta1024 w (grad_2 g) m1 v1 = left6 m c := by
  rw [hw, hg, hm1, hv1, left6]

/-- What result 7 holds. -/
def left7 (m : (ℓ : Loc nD τ sig) → Buf (Elt Ideal) ℓ) (c : Dev nD) : FVec Ideal S1x1024 .f32 := (delta1024 (m ((c : Thread nD τ).loc main_arg3) : FVec Ideal S1x1024 .f32) (grad_3 (m ((c : Thread nD τ).loc main_arg12) : FVec Ideal S80x1024 .f32)) (m ((c : Thread nD τ).loc main_arg7) : FVec Ideal S1x1024 .f32) (m ((c : Thread nD τ).loc main_arg11) : FVec Ideal S1x1024 .f32))

theorem left7_eq (m : (ℓ : Loc nD τ sig) → Buf (Elt Ideal) ℓ) (c : Dev nD) {w : FVec Ideal S1x1024 .f32} (hw : w = (m ((c : Thread nD τ).loc main_arg3) : FVec Ideal S1x1024 .f32)) {g : FVec Ideal S80x1024 .f32} (hg : g = (m ((c : Thread nD τ).loc main_arg12) : FVec Ideal S80x1024 .f32)) {m1 : FVec Ideal S1x1024 .f32} (hm1 : m1 = (m ((c : Thread nD τ).loc main_arg7) : FVec Ideal S1x1024 .f32)) {v1 : FVec Ideal S1x1024 .f32} (hv1 : v1 = (m ((c : Thread nD τ).loc main_arg11) : FVec Ideal S1x1024 .f32)) : delta1024 w (grad_3 g) m1 v1 = left7 m c := by
  rw [hw, hg, hm1, hv1, left7]

/-- What result 8 holds. -/
def left8 (m : (ℓ : Loc nD τ sig) → Buf (Elt Ideal) ℓ) (c : Dev nD) : FVec Ideal S1x1024 .f32 := (mom1024 (grad_0 (m ((c : Thread nD τ).loc main_arg12) : FVec Ideal S80x1024 .f32)) (m ((c : Thread nD τ).loc main_arg4) : FVec Ideal S1x1024 .f32))

theorem left8_eq (m : (ℓ : Loc nD τ sig) → Buf (Elt Ideal) ℓ) (c : Dev nD) {g : FVec Ideal S80x1024 .f32} (hg : g = (m ((c : Thread nD τ).loc main_arg12) : FVec Ideal S80x1024 .f32)) {m1 : FVec Ideal S1x1024 .f32} (hm1 : m1 = (m ((c : Thread nD τ).loc main_arg4) : FVec Ideal S1x1024 .f32)) : mom1024 (grad_0 g) m1 = left8 m c := by
  rw [hg, hm1, left8]

/-- What result 9 holds. -/
def left9 (m : (ℓ : Loc nD τ sig) → Buf (Elt Ideal) ℓ) (c : Dev nD) : FVec Ideal S1x2048 .f32 := (mom2048 (grad_1 (m ((c : Thread nD τ).loc main_arg12) : FVec Ideal S80x1024 .f32)) (m ((c : Thread nD τ).loc main_arg5) : FVec Ideal S1x2048 .f32))

theorem left9_eq (m : (ℓ : Loc nD τ sig) → Buf (Elt Ideal) ℓ) (c : Dev nD) {g : FVec Ideal S80x1024 .f32} (hg : g = (m ((c : Thread nD τ).loc main_arg12) : FVec Ideal S80x1024 .f32)) {m1 : FVec Ideal S1x2048 .f32} (hm1 : m1 = (m ((c : Thread nD τ).loc main_arg5) : FVec Ideal S1x2048 .f32)) : mom2048 (grad_1 g) m1 = left9 m c := by
  rw [hg, hm1, left9]

/-- What result 10 holds. -/
def left10 (m : (ℓ : Loc nD τ sig) → Buf (Elt Ideal) ℓ) (c : Dev nD) : FVec Ideal S1x1024 .f32 := (mom1024 (grad_2 (m ((c : Thread nD τ).loc main_arg12) : FVec Ideal S80x1024 .f32)) (m ((c : Thread nD τ).loc main_arg6) : FVec Ideal S1x1024 .f32))

theorem left10_eq (m : (ℓ : Loc nD τ sig) → Buf (Elt Ideal) ℓ) (c : Dev nD) {g : FVec Ideal S80x1024 .f32} (hg : g = (m ((c : Thread nD τ).loc main_arg12) : FVec Ideal S80x1024 .f32)) {m1 : FVec Ideal S1x1024 .f32} (hm1 : m1 = (m ((c : Thread nD τ).loc main_arg6) : FVec Ideal S1x1024 .f32)) : mom1024 (grad_2 g) m1 = left10 m c := by
  rw [hg, hm1, left10]

/-- What result 11 holds. -/
def left11 (m : (ℓ : Loc nD τ sig) → Buf (Elt Ideal) ℓ) (c : Dev nD) : FVec Ideal S1x1024 .f32 := (mom1024 (grad_3 (m ((c : Thread nD τ).loc main_arg12) : FVec Ideal S80x1024 .f32)) (m ((c : Thread nD τ).loc main_arg7) : FVec Ideal S1x1024 .f32))

theorem left11_eq (m : (ℓ : Loc nD τ sig) → Buf (Elt Ideal) ℓ) (c : Dev nD) {g : FVec Ideal S80x1024 .f32} (hg : g = (m ((c : Thread nD τ).loc main_arg12) : FVec Ideal S80x1024 .f32)) {m1 : FVec Ideal S1x1024 .f32} (hm1 : m1 = (m ((c : Thread nD τ).loc main_arg7) : FVec Ideal S1x1024 .f32)) : mom1024 (grad_3 g) m1 = left11 m c := by
  rw [hg, hm1, left11]

/-- What result 12 holds. -/
def left12 (m : (ℓ : Loc nD τ sig) → Buf (Elt Ideal) ℓ) (c : Dev nD) : FVec Ideal S1x1024 .f32 := (vel1024 (grad_0 (m ((c : Thread nD τ).loc main_arg12) : FVec Ideal S80x1024 .f32)) (m ((c : Thread nD τ).loc main_arg8) : FVec Ideal S1x1024 .f32))

theorem left12_eq (m : (ℓ : Loc nD τ sig) → Buf (Elt Ideal) ℓ) (c : Dev nD) {g : FVec Ideal S80x1024 .f32} (hg : g = (m ((c : Thread nD τ).loc main_arg12) : FVec Ideal S80x1024 .f32)) {v1 : FVec Ideal S1x1024 .f32} (hv1 : v1 = (m ((c : Thread nD τ).loc main_arg8) : FVec Ideal S1x1024 .f32)) : vel1024 (grad_0 g) v1 = left12 m c := by
  rw [hg, hv1, left12]

/-- What result 13 holds. -/
def left13 (m : (ℓ : Loc nD τ sig) → Buf (Elt Ideal) ℓ) (c : Dev nD) : FVec Ideal S1x2048 .f32 := (vel2048 (grad_1 (m ((c : Thread nD τ).loc main_arg12) : FVec Ideal S80x1024 .f32)) (m ((c : Thread nD τ).loc main_arg9) : FVec Ideal S1x2048 .f32))

theorem left13_eq (m : (ℓ : Loc nD τ sig) → Buf (Elt Ideal) ℓ) (c : Dev nD) {g : FVec Ideal S80x1024 .f32} (hg : g = (m ((c : Thread nD τ).loc main_arg12) : FVec Ideal S80x1024 .f32)) {v1 : FVec Ideal S1x2048 .f32} (hv1 : v1 = (m ((c : Thread nD τ).loc main_arg9) : FVec Ideal S1x2048 .f32)) : vel2048 (grad_1 g) v1 = left13 m c := by
  rw [hg, hv1, left13]

/-- What result 14 holds. -/
def left14 (m : (ℓ : Loc nD τ sig) → Buf (Elt Ideal) ℓ) (c : Dev nD) : FVec Ideal S1x1024 .f32 := (vel1024 (grad_2 (m ((c : Thread nD τ).loc main_arg12) : FVec Ideal S80x1024 .f32)) (m ((c : Thread nD τ).loc main_arg10) : FVec Ideal S1x1024 .f32))

theorem left14_eq (m : (ℓ : Loc nD τ sig) → Buf (Elt Ideal) ℓ) (c : Dev nD) {g : FVec Ideal S80x1024 .f32} (hg : g = (m ((c : Thread nD τ).loc main_arg12) : FVec Ideal S80x1024 .f32)) {v1 : FVec Ideal S1x1024 .f32} (hv1 : v1 = (m ((c : Thread nD τ).loc main_arg10) : FVec Ideal S1x1024 .f32)) : vel1024 (grad_2 g) v1 = left14 m c := by
  rw [hg, hv1, left14]

/-- What result 15 holds. -/
def left15 (m : (ℓ : Loc nD τ sig) → Buf (Elt Ideal) ℓ) (c : Dev nD) : FVec Ideal S1x1024 .f32 := (vel1024 (grad_3 (m ((c : Thread nD τ).loc main_arg12) : FVec Ideal S80x1024 .f32)) (m ((c : Thread nD τ).loc main_arg11) : FVec Ideal S1x1024 .f32))

theorem left15_eq (m : (ℓ : Loc nD τ sig) → Buf (Elt Ideal) ℓ) (c : Dev nD) {g : FVec Ideal S80x1024 .f32} (hg : g = (m ((c : Thread nD τ).loc main_arg12) : FVec Ideal S80x1024 .f32)) {v1 : FVec Ideal S1x1024 .f32} (hv1 : v1 = (m ((c : Thread nD τ).loc main_arg11) : FVec Ideal S1x1024 .f32)) : vel1024 (grad_3 g) v1 = left15 m c := by
  rw [hg, hv1, left15]

set_option maxHeartbeats 8000000 in
theorem algebraic : Cert.algebraic_AdamSmallIdeal_AdamSmallReferenceIdeal := by
  intro m g m' g' hpre hagree
  refine ⟨left0 m, left1 m, left2 m, left3 m, left4 m, left5 m, left6 m, left7 m, left8 m, left9 m, left10 m, left11 m, left12 m, left13 m, left14 m, left15 m, ?_, ?_⟩
  · exact (θ_run defs _ _).mono (fun r h c => ⟨((h c).1 13).trans (final13 m c),
      ((h c).1 14).trans (final14 m c),
      ((h c).1 15).trans (final15 m c),
      ((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 27).trans (final27 m c),
      ((h c).1 28).trans (final28 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩) (run_main m g)
  · exact (θ_run Cert.AdamSmallReferenceIdeal.defs _ _).mono (fun r h c => ⟨(h c).1.trans (left0_eq m c (hagree c).2.2.2.2.2.2.2.2.2.2.2.2),
      (h c).2.1.trans (left1_eq m c (hagree c).2.2.2.2.2.2.2.2.2.2.2.2),
      (h c).2.2.1.trans (left2_eq m c (hagree c).2.2.2.2.2.2.2.2.2.2.2.2),
      (h c).2.2.2.1.trans (left3_eq m c (hagree c).2.2.2.2.2.2.2.2.2.2.2.2),
      (h c).2.2.2.2.1.trans (left4_eq m c (hagree c).1 (hagree c).2.2.2.2.2.2.2.2.2.2.2.2 (hagree c).2.2.2.2.1 (hagree c).2.2.2.2.2.2.2.2.1),
      (h c).2.2.2.2.2.1.trans (left5_eq m c (hagree c).2.1 (hagree c).2.2.2.2.2.2.2.2.2.2.2.2 (hagree c).2.2.2.2.2.1 (hagree c).2.2.2.2.2.2.2.2.2.1),
      (h c).2.2.2.2.2.2.1.trans (left6_eq m c (hagree c).2.2.1 (hagree c).2.2.2.2.2.2.2.2.2.2.2.2 (hagree c).2.2.2.2.2.2.1 (hagree c).2.2.2.2.2.2.2.2.2.2.1),
      (h c).2.2.2.2.2.2.2.1.trans (left7_eq m c (hagree c).2.2.2.1 (hagree c).2.2.2.2.2.2.2.2.2.2.2.2 (hagree c).2.2.2.2.2.2.2.1 (hagree c).2.2.2.2.2.2.2.2.2.2.2.1),
      (h c).2.2.2.2.2.2.2.2.1.trans (left8_eq m c (hagree c).2.2.2.2.2.2.2.2.2.2.2.2 (hagree c).2.2.2.2.1),
      (h c).2.2.2.2.2.2.2.2.2.1.trans (left9_eq m c (hagree c).2.2.2.2.2.2.2.2.2.2.2.2 (hagree c).2.2.2.2.2.1),
      (h c).2.2.2.2.2.2.2.2.2.2.1.trans (left10_eq m c (hagree c).2.2.2.2.2.2.2.2.2.2.2.2 (hagree c).2.2.2.2.2.2.1),
      (h c).2.2.2.2.2.2.2.2.2.2.2.1.trans (left11_eq m c (hagree c).2.2.2.2.2.2.2.2.2.2.2.2 (hagree c).2.2.2.2.2.2.2.1),
      (h c).2.2.2.2.2.2.2.2.2.2.2.2.1.trans (left12_eq m c (hagree c).2.2.2.2.2.2.2.2.2.2.2.2 (hagree c).2.2.2.2.2.2.2.2.1),
      (h c).2.2.2.2.2.2.2.2.2.2.2.2.2.1.trans (left13_eq m c (hagree c).2.2.2.2.2.2.2.2.2.2.2.2 (hagree c).2.2.2.2.2.2.2.2.2.1),
      (h c).2.2.2.2.2.2.2.2.2.2.2.2.2.2.1.trans (left14_eq m c (hagree c).2.2.2.2.2.2.2.2.2.2.2.2 (hagree c).2.2.2.2.2.2.2.2.2.2.1),
      (h c).2.2.2.2.2.2.2.2.2.2.2.2.2.2.2.1.trans (left15_eq m c (hagree c).2.2.2.2.2.2.2.2.2.2.2.2 (hagree c).2.2.2.2.2.2.2.2.2.2.2.1),
      (h c).2.2.2.2.2.2.2.2.2.2.2.2.2.2.2.2⟩) (Cert.AdamSmallReferenceIdeal.Value.run m' g')

end Cert.AdamSmallIdeal.Math

end
-- ==== Proof.lean ====
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInReferenceIdeal
public import proofs.«01_k».proof.Proof.Gen.NormUp
public import proofs.«01_k».proof.Proof.Gen.NormUp.Skeleton
public import proofs.«01_k».proof.Proof.Gen.NormUp.Launch
public import proofs.«01_k».proof.Proof.Gen.NormUp.Points
public import proofs.«01_k».proof.Proof.Gen.NormUp.Frame
public import proofs.«01_k».proof.Proof.Gen.NormUpIdeal
public import proofs.«01_k».proof.Proof.Gen.NormUpIdeal.Skeleton
public import proofs.«01_k».proof.Proof.Gen.NormUpIdeal.Launch
public import proofs.«01_k».proof.Proof.Gen.NormUpIdeal.Points
public import proofs.«01_k».proof.Proof.Gen.NormUpIdeal.Frame
public import proofs.«01_k».proof.Proof.Gen.NormUpReferenceIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInReferenceIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpReferenceIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownReferenceIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutReferenceIdeal
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjReferenceIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInReferenceIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpReferenceIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownReferenceIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal
public import proofs.«01_k».proof.Proof.Gen.MixIdeal.Value
public import proofs.«01_k».proof.Proof.Gen.MixReferenceIdeal.Run
public import proofs.«01_k».proof.Proof.Gen.NormInIdeal.Value
public import proofs.«01_k».proof.Proof.Gen.NormInReferenceIdeal.Run
public import proofs.«01_k».proof.Proof.Gen.NormUpIdeal.Value
public import proofs.«01_k».proof.Proof.Gen.NormUpReferenceIdeal.Run
public import proofs.«01_k».proof.Proof.Gen.DwInIdeal.Value
public import proofs.«01_k».proof.Proof.Gen.DwInReferenceIdeal.Run
public import proofs.«01_k».proof.Proof.Gen.DwUpIdeal.Value
public import proofs.«01_k».proof.Proof.Gen.DwUpReferenceIdeal.Run
public import proofs.«01_k».proof.Proof.Gen.DwDownIdeal.Value
public import proofs.«01_k».proof.Proof.Gen.DwDownReferenceIdeal.Run
public import proofs.«01_k».proof.Proof.Gen.DwOutIdeal.Value
public import proofs.«01_k».proof.Proof.Gen.DwOutReferenceIdeal.Run
public import proofs.«01_k».proof.Proof.Gen.DActIdeal.Value
public import proofs.«01_k».proof.Proof.Gen.DActReferenceIdeal.Run
public import proofs.«01_k».proof.Proof.Gen.InProjIdeal.Value
public import proofs.«01_k».proof.Proof.Gen.InProjReferenceIdeal.Run
public import proofs.«01_k».proof.Proof.Gen.UpProjIdeal.Value
public import proofs.«01_k».proof.Proof.Gen.UpProjReferenceIdeal.Run
public import proofs.«01_k».proof.Proof.Gen.LossIdeal.Value
public import proofs.«01_k».proof.Proof.Gen.LossReferenceIdeal.Run
public import proofs.«01_k».proof.Proof.Gen.AdamInIdeal.Value
public import proofs.«01_k».proof.Proof.Gen.AdamInReferenceIdeal.Run
public import proofs.«01_k».proof.Proof.Gen.AdamUpIdeal.Value
public import proofs.«01_k».proof.Proof.Gen.AdamUpReferenceIdeal.Run
public import proofs.«01_k».proof.Proof.Gen.AdamDownIdeal.Value
public import proofs.«01_k».proof.Proof.Gen.AdamDownReferenceIdeal.Run
public import proofs.«01_k».proof.Proof.Gen.AdamOutIdeal.Value
public import proofs.«01_k».proof.Proof.Gen.AdamOutReferenceIdeal.Run
public import proofs.«01_k».proof.Proof.Mix.Claim
public import proofs.«01_k».proof.Proof.NormIn.Claim
public import proofs.«01_k».proof.Proof.NormUp.Claim
public import proofs.«01_k».proof.Proof.DwIn.Claim
public import proofs.«01_k».proof.Proof.DwUp.Claim
public import proofs.«01_k».proof.Proof.DwDown.Claim
public import proofs.«01_k».proof.Proof.DwOut.Claim
public import proofs.«01_k».proof.Proof.DAct.Claim
public import proofs.«01_k».proof.Proof.InProj.Claim
public import proofs.«01_k».proof.Proof.UpProj.Claim
public import proofs.«01_k».proof.Proof.Loss.Claim
public import proofs.«01_k».proof.Proof.AdamIn.Claim
public import proofs.«01_k».proof.Proof.AdamUp.Claim
public import proofs.«01_k».proof.Proof.AdamDown.Claim
public import proofs.«01_k».proof.Proof.AdamOut.Claim
public import proofs.«01_k».proof.Proof.AdamSmall.Claim
public import proofs.«01_k».proof.Proof.Gen.AdamSmallIdeal.Value
public import proofs.«01_k».proof.Proof.Gen.AdamSmallReferenceIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallReferenceIdeal
public import Idealize.ShloMosaic.Adequacy
public import Idealize.ShloMosaic.Init

@[expose] public section

noncomputable section

namespace Cert.Proof

open Idealize.ShloMosaic Idealize.SL.Sem Cert.Mix

theorem claim : Cert.Claim :=
  ⟨Cert.Mix.Gen.facts, Cert.MixIdeal.Gen.facts, Cert.MixReferenceIdeal.Gen.facts, Cert.NormIn.Gen.facts, Cert.NormInIdeal.Gen.facts, Cert.NormInReferenceIdeal.Gen.facts, Cert.NormUp.Gen.facts, Cert.NormUpIdeal.Gen.facts, Cert.NormUpReferenceIdeal.Gen.facts, Cert.DwIn.Gen.facts, Cert.DwInIdeal.Gen.facts, Cert.DwInReferenceIdeal.Gen.facts, Cert.DwUp.Gen.facts, Cert.DwUpIdeal.Gen.facts, Cert.DwUpReferenceIdeal.Gen.facts, Cert.DwDown.Gen.facts, Cert.DwDownIdeal.Gen.facts, Cert.DwDownReferenceIdeal.Gen.facts, Cert.DwOut.Gen.facts, Cert.DwOutIdeal.Gen.facts, Cert.DwOutReferenceIdeal.Gen.facts, Cert.DAct.Gen.facts, Cert.DActIdeal.Gen.facts, Cert.DActReferenceIdeal.Gen.facts, Cert.InProj.Gen.facts, Cert.InProjIdeal.Gen.facts, Cert.InProjReferenceIdeal.Gen.facts, Cert.UpProj.Gen.facts, Cert.UpProjIdeal.Gen.facts, Cert.UpProjReferenceIdeal.Gen.facts, Cert.Loss.Gen.facts, Cert.LossIdeal.Gen.facts, Cert.LossReferenceIdeal.Gen.facts, Cert.AdamIn.Gen.facts, Cert.AdamInIdeal.Gen.facts, Cert.AdamInReferenceIdeal.Gen.facts, Cert.AdamUp.Gen.facts, Cert.AdamUpIdeal.Gen.facts, Cert.AdamUpReferenceIdeal.Gen.facts, Cert.AdamDown.Gen.facts, Cert.AdamDownIdeal.Gen.facts, Cert.AdamDownReferenceIdeal.Gen.facts, Cert.AdamOut.Gen.facts, Cert.AdamOutIdeal.Gen.facts, Cert.AdamOutReferenceIdeal.Gen.facts, Cert.AdamSmall.Gen.facts, Cert.AdamSmallIdeal.Gen.facts, Cert.AdamSmallReferenceIdeal.Gen.facts,
    fun m ρ _ => Cert.Mix.Gen.frame m ρ, fun m ρ _ => Cert.MixIdeal.Gen.frame m ρ, Cert.MixIdeal.Math.frame_reference, fun m ρ _ => Cert.NormIn.Gen.frame m ρ, fun m ρ _ => Cert.NormInIdeal.Gen.frame m ρ, Cert.NormInIdeal.Math.frame_reference, fun m ρ _ => Cert.NormUp.Gen.frame m ρ, fun m ρ _ => Cert.NormUpIdeal.Gen.frame m ρ, Cert.NormUpIdeal.Math.frame_reference, fun m ρ _ => Cert.DwIn.Gen.frame m ρ, fun m ρ _ => Cert.DwInIdeal.Gen.frame m ρ, Cert.DwInIdeal.Math.frame_reference, fun m ρ _ => Cert.DwUp.Gen.frame m ρ, fun m ρ _ => Cert.DwUpIdeal.Gen.frame m ρ, Cert.DwUpIdeal.Math.frame_reference, fun m ρ _ => Cert.DwDown.Gen.frame m ρ, fun m ρ _ => Cert.DwDownIdeal.Gen.frame m ρ, Cert.DwDownIdeal.Math.frame_reference, fun m ρ _ => Cert.DwOut.Gen.frame m ρ, fun m ρ _ => Cert.DwOutIdeal.Gen.frame m ρ, Cert.DwOutIdeal.Math.frame_reference, fun m ρ _ => Cert.DAct.Gen.frame m ρ, fun m ρ _ => Cert.DActIdeal.Gen.frame m ρ, Cert.DActIdeal.Math.frame_reference, fun m ρ _ => Cert.InProj.Gen.frame m ρ, fun m ρ _ => Cert.InProjIdeal.Gen.frame m ρ, Cert.InProjIdeal.Math.frame_reference, fun m ρ _ => Cert.UpProj.Gen.frame m ρ, fun m ρ _ => Cert.UpProjIdeal.Gen.frame m ρ, Cert.UpProjIdeal.Math.frame_reference, fun m ρ _ => Cert.Loss.Gen.frame m ρ, fun m ρ _ => Cert.LossIdeal.Gen.frame m ρ, Cert.LossIdeal.Math.frame_reference, fun m ρ _ => Cert.AdamIn.Gen.frame m ρ, fun m ρ _ => Cert.AdamInIdeal.Gen.frame m ρ, Cert.AdamInIdeal.Math.frame_reference, fun m ρ _ => Cert.AdamUp.Gen.frame m ρ, fun m ρ _ => Cert.AdamUpIdeal.Gen.frame m ρ, Cert.AdamUpIdeal.Math.frame_reference, fun m ρ _ => Cert.AdamDown.Gen.frame m ρ, fun m ρ _ => Cert.AdamDownIdeal.Gen.frame m ρ, Cert.AdamDownIdeal.Math.frame_reference, fun m ρ _ => Cert.AdamOut.Gen.frame m ρ, fun m ρ _ => Cert.AdamOutIdeal.Gen.frame m ρ, Cert.AdamOutIdeal.Math.frame_reference, fun m ρ _ => Cert.AdamSmall.Gen.frame m ρ, fun m ρ _ => Cert.AdamSmallIdeal.Gen.frame m ρ, Cert.AdamSmallIdeal.Math.frame_reference,
    trivial, Cert.MixIdeal.Math.algebraic, trivial, Cert.NormInIdeal.Math.algebraic, trivial, Cert.NormUpIdeal.Math.algebraic, trivial, Cert.DwInIdeal.Math.algebraic, trivial, Cert.DwUpIdeal.Math.algebraic, trivial, Cert.DwDownIdeal.Math.algebraic, trivial, Cert.DwOutIdeal.Math.algebraic, trivial, Cert.DActIdeal.Math.algebraic, trivial, Cert.InProjIdeal.Math.algebraic, trivial, Cert.UpProjIdeal.Math.algebraic, trivial, Cert.LossIdeal.Math.algebraic, trivial, Cert.AdamInIdeal.Math.algebraic, trivial, Cert.AdamUpIdeal.Math.algebraic, trivial, Cert.AdamDownIdeal.Math.algebraic, trivial, Cert.AdamOutIdeal.Math.algebraic, trivial, Cert.AdamSmallIdeal.Math.algebraic⟩

end Cert.Proof

end
